-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.bf16_pair.BufferStatement Cert.KernelIdeal.S34816x2x128 Cert.KernelIdeal.S34816x1x128
  ∧ IdealRules.bf16_pair.HalfStatement Cert.KernelIdeal.S128x128
  ∧ IdealRules.bf16_pair.Statement Cert.KernelIdeal.S128x2x128 Cert.KernelIdeal.S128x1x128
  ∧ IdealRules.bf16_pair.Statement Cert.KernelIdeal.S256x2x128 Cert.KernelIdeal.S256x1x128
  ∧ IdealRules.bf16_pair.Statement Cert.KernelIdeal.S512x128 Cert.KernelIdeal.S256x128

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v4)) (v2 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v4) = v1 c
          ∧ r.2.mem ((c.tc : Thread Cert.Kernel7Ideal.nD Cert.Kernel7Ideal.τ).loc Cert.Kernel7Ideal.main_v5) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_v46) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
-- ==== Pre_finite.lean ====
abbrev S16384x2048 : Shape := ⟨2, ![16384, 2048]⟩
abbrev S4x1x2048 : Shape := ⟨3, ![4, 1, 2048]⟩
abbrev S2048x2048 : Shape := ⟨2, ![2048, 2048]⟩
abbrev S8x2x128x128 : Shape := ⟨4, ![8, 2, 128, 128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x1x2048 : S_.BroadcastsInDim S4x1x2048 (![] : Fin 0 → Fin S4x1x2048.rank)
  reducesTo_S4x1x2048_S_d0_1_2 : S4x1x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn_part1 {F : FTy → Type} [FloatOps F] (main_arg4 : FVec F S8x2x128x128 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S8x2x128x128 .f32 := Host.absf main_arg4
  let main_cst_6 : FVec F S_ .f32 := constant S_ .f32 0x7F800000#32
  let main_v20 : FVec F S8x2x128x128 .f32 := broadcastInDim S8x2x128x128 ![] bcast_S_S8x2x128x128 main_cst_6
  let main_v21 : IVec S8x2x128x128 1 := cmpf .olt main_v19 main_v20
  let main_c_7 : IVec S_ 1 := constantI S_ 1 1#1
  let main_v22 : IVec S_ 1 := (fun x v => Host.reduce IntOp.andi x v reducesTo_S8x2x128x128_S_d0_1_2_3 h_S_) main_v21 main_c_7
  let main_v23 : IVec S_ 1 := andi main_v18 main_v22
  main_v23

def fn {F : FTy → Type} [FloatOps F] (main_arg0 : FVec F S16384x2048 .f32) (main_arg1 : FVec F S4x1x2048 .f32) (main_arg2 : FVec F S4x1x2048 .f32) (main_arg3 : FVec F S2048x2048 .f32) (main_arg4 : FVec F S8x2x128x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4x1x2048 .f32 := Host.absf main_arg1
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : IVec S_ 1 := andi main_v3 main_v7
  let main_v9 : FVec F S4x1x2048 .f32 := Host.absf main_arg2
  let main_cst_2 : FVec F S_ .f32 := constant S_ .f32 0x7F800000#32
  let main_v10 : FVec F S4x1x2048 .f32 := broadcastInDim S4x1x2048 ![] bcast_S_S4x1x2048 main_cst_2
  let main_v11 : IVec S4x1x2048 1 := cmpf .olt main_v9 main_v10
  let main_c_3 : IVec S_ 1 := constantI S_ 1 1#1
  let main_v12 : IVec S_ 1 := (fun x v => Host.reduce IntOp.andi x v reducesTo_S4x1x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Pre_routed.lean ====
abbrev S16384x2048 : Shape := ⟨2, ![16384, 2048]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x2048 .bf16) (main_arg1 : IVec S16384x128 32) (main_arg2 : FVec F S16384x128 .f32) (main_arg3 : FVec F S16384x2048 .bf16) (main_arg4 : FVec F S16384x2048 .bf16) : IVec S16384x128 1 :=
  let main_c : IVec S_ 32 := constantI S_ 32 0#32
  let main_v0 : IVec S16384x128 32 := broadcastInDim S16384x128 ![] bcast_S_S16384x128 main_c
  let main_v1 : IVec S16384x128 1 := cmpi .sge main_arg1 main_v0
  let main_c_0 : IVec S_ 32 := constantI S_ 32 16384#32
  let main_v2 : IVec S16384x128 32 := broadcastInDim S16384x128 ![] bcast_S_S16384x128 main_c_0
  let main_v3 : IVec S16384x128 1 := cmpi .slt main_arg1 main_v2
  let main_v4 : IVec S16384x128 1 := andi main_v1 main_v3
  let main_cst : FVec F S_ .f32 := constant S_ .f32 0x00000000#32
  let main_v5 : FVec F S16384x128 .f32 := broadcastInDim S16384x128 ![] bcast_S_S16384x128 main_cst
  let main_v6 : IVec S16384x128 1 := cmpf .oge main_arg2 main_v5
  let main_v7 : IVec S16384x128 1 := andi main_v4 main_v6
  main_v7
-- ==== Kernel.lean ====
abbrev S16384x2048 : Shape := ⟨2, ![16384, 2048]⟩
abbrev S16384x128 : Shape := ⟨2, ![16384, 128]⟩
abbrev S512x2048 : Shape := ⟨2, ![512, 2048]⟩
abbrev S512x128 : Shape := ⟨2, ![512, 128]⟩
abbrev S1024x2048 : Shape := ⟨2, ![1024, 2048]⟩
abbrev S34816x128 : Shape := ⟨2, ![34816, 128]⟩
abbrev S128x128 : Shape := ⟨2, ![128, 128]⟩
abbrev S1x128 : Shape := ⟨2, ![1, 128]⟩
abbrev S512x1024 : Shape := ⟨2, ![512, 1024]⟩
abbrev S256x128 : Shape := ⟨2, ![256, 128]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x128, .i32⟩
  | .hbm, ⟨2, _⟩ => ⟨S16384x128, .f32⟩
  | .hbm, ⟨3, _⟩ => ⟨S16384x2048, .bf16⟩
  | .hbm, ⟨4, _⟩ => ⟨S16384x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x128, .i32⟩
  | .local _ .vmem, ⟨3, _⟩ => ⟨S512x128, .i32⟩
  | .local _ .vmem, ⟨4, _⟩ => ⟨S512x128, .f32⟩
  | .local _ .vmem, ⟨5, _⟩ => ⟨S512x128, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S34816x128, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c16_i32_48 : BitVec 32 := 16#32
  let v114 : BitVec 32 := Scalar.addi c0_i32_47 c16_i32_48
  let c1_i32_49 : BitVec 32 := 1#32
  ⟨c0_i32_47, v114, c1_i32_49⟩
def k0_off1 (k0_t1 : Fin k0_t1_loop.trips) (c0_i32_52 : BitVec 32) : Fin 2 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let v117 : Index := Scalar.indexCast v116
  let c0_53 : Index := 0#32
  ![v117.toNat, 0]
def k0_off2 (k0_t1 : Fin k0_t1_loop.trips) (c0_i32_52 : BitVec 32) : Fin 2 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let c256_i32 : BitVec 32 := 256#32
  let v142 : BitVec 32 := Scalar.addi v116 c256_i32
  let v143 : Index := Scalar.indexCast v142
  let c0_60 : Index := 0#32
  ![v143.toNat, 0]
def k0_mult1 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let c0_i32_52 : BitVec 32 := 0#32
  let v116 : BitVec 32 := Scalar.addi v115 c0_i32_52
  let c136_i32 : BitVec 32 := 136#32
  let v171 : BitVec 32 := Scalar.muli v116 c136_i32
  v171
def k0_off3 (k0_t1 : Fin k0_t1_loop.trips) (c0_i32_52 : BitVec 32) : Fin 2 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let c136_i32 : BitVec 32 := 136#32
  let v171 : BitVec 32 := Scalar.muli v116 c136_i32
  let v172 : BitVec 32 := v171
  let v173 : Index := Scalar.indexCast v172
  let c0_69 : Index := 0#32
  ![v173.toNat, 0]
def k0_mult2 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_70 : BitVec 32 := 16#32
  let v177 : BitVec 32 := Scalar.muli arg9 c16_i32_70
  let c1_i32_71 : BitVec 32 := 1#32
  let v178 : BitVec 32 := Scalar.addi v177 c1_i32_71
  let c136_i32_90 : BitVec 32 := 136#32
  let v233 : BitVec 32 := Scalar.muli v178 c136_i32_90
  v233
def k0_mult3 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_92 : BitVec 32 := 16#32
  let v239 : BitVec 32 := Scalar.muli arg9 c16_i32_92
  let c2_i32_93 : BitVec 32 := 2#32
  let v240 : BitVec 32 := Scalar.addi v239 c2_i32_93
  let c136_i32_112 : BitVec 32 := 136#32
  let v295 : BitVec 32 := Scalar.muli v240 c136_i32_112
  v295
def k0_mult4 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_114 : BitVec 32 := 16#32
  let v301 : BitVec 32 := Scalar.muli arg9 c16_i32_114
  let c3_i32_115 : BitVec 32 := 3#32
  let v302 : BitVec 32 := Scalar.addi v301 c3_i32_115
  let c136_i32_134 : BitVec 32 := 136#32
  let v357 : BitVec 32 := Scalar.muli v302 c136_i32_134
  v357
def k0_mult5 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_136 : BitVec 32 := 16#32
  let v363 : BitVec 32 := Scalar.muli arg9 c16_i32_136
  let c4_i32_137 : BitVec 32 := 4#32
  let v364 : BitVec 32 := Scalar.addi v363 c4_i32_137
  let c136_i32_156 : BitVec 32 := 136#32
  let v419 : BitVec 32 := Scalar.muli v364 c136_i32_156
  v419
def k0_mult6 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_158 : BitVec 32 := 16#32
  let v425 : BitVec 32 := Scalar.muli arg9 c16_i32_158
  let c5_i32_159 : BitVec 32 := 5#32
  let v426 : BitVec 32 := Scalar.addi v425 c5_i32_159
  let c136_i32_178 : BitVec 32 := 136#32
  let v481 : BitVec 32 := Scalar.muli v426 c136_i32_178
  v481
def k0_mult7 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_180 : BitVec 32 := 16#32
  let v487 : BitVec 32 := Scalar.muli arg9 c16_i32_180
  let c6_i32_181 : BitVec 32 := 6#32
  let v488 : BitVec 32 := Scalar.addi v487 c6_i32_181
  let c136_i32_200 : BitVec 32 := 136#32
  let v543 : BitVec 32 := Scalar.muli v488 c136_i32_200
  v543
def k0_mult8 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_202 : BitVec 32 := 16#32
  let v549 : BitVec 32 := Scalar.muli arg9 c16_i32_202
  let c7_i32_203 : BitVec 32 := 7#32
  let v550 : BitVec 32 := Scalar.addi v549 c7_i32_203
  let c136_i32_222 : BitVec 32 := 136#32
  let v605 : BitVec 32 := Scalar.muli v550 c136_i32_222
  v605
def k0_mult9 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_224 : BitVec 32 := 16#32
  let v611 : BitVec 32 := Scalar.muli arg9 c16_i32_224
  let c8_i32_225 : BitVec 32 := 8#32
  let v612 : BitVec 32 := Scalar.addi v611 c8_i32_225
  let c136_i32_244 : BitVec 32 := 136#32
  let v667 : BitVec 32 := Scalar.muli v612 c136_i32_244
  v667
def k0_mult10 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_246 : BitVec 32 := 16#32
  let v673 : BitVec 32 := Scalar.muli arg9 c16_i32_246
  let c9_i32 : BitVec 32 := 9#32
  let v674 : BitVec 32 := Scalar.addi v673 c9_i32
  let c136_i32_265 : BitVec 32 := 136#32
  let v729 : BitVec 32 := Scalar.muli v674 c136_i32_265
  v729
def k0_mult11 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_267 : BitVec 32 := 16#32
  let v735 : BitVec 32 := Scalar.muli arg9 c16_i32_267
  let c10_i32 : BitVec 32 := 10#32
  let v736 : BitVec 32 := Scalar.addi v735 c10_i32
  let c136_i32_286 : BitVec 32 := 136#32
  let v791 : BitVec 32 := Scalar.muli v736 c136_i32_286
  v791
def k0_mult12 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_288 : BitVec 32 := 16#32
  let v797 : BitVec 32 := Scalar.muli arg9 c16_i32_288
  let c11_i32 : BitVec 32 := 11#32
  let v798 : BitVec 32 := Scalar.addi v797 c11_i32
  let c136_i32_307 : BitVec 32 := 136#32
  let v853 : BitVec 32 := Scalar.muli v798 c136_i32_307
  v853
def k0_mult13 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_309 : BitVec 32 := 16#32
  let v859 : BitVec 32 := Scalar.muli arg9 c16_i32_309
  let c12_i32 : BitVec 32 := 12#32
  let v860 : BitVec 32 := Scalar.addi v859 c12_i32
  let c136_i32_328 : BitVec 32 := 136#32
  let v915 : BitVec 32 := Scalar.muli v860 c136_i32_328
  v915
def k0_mult14 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_330 : BitVec 32 := 16#32
  let v921 : BitVec 32 := Scalar.muli arg9 c16_i32_330
  let c13_i32 : BitVec 32 := 13#32
  let v922 : BitVec 32 := Scalar.addi v921 c13_i32
  let c136_i32_349 : BitVec 32 := 136#32
  let v977 : BitVec 32 := Scalar.muli v922 c136_i32_349
  v977
def k0_mult15 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_351 : BitVec 32 := 16#32
  let v983 : BitVec 32 := Scalar.muli arg9 c16_i32_351
  let c14_i32 : BitVec 32 := 14#32
  let v984 : BitVec 32 := Scalar.addi v983 c14_i32
  let c136_i32_370 : BitVec 32 := 136#32
  let v1039 : BitVec 32 := Scalar.muli v984 c136_i32_370
  v1039
def k0_mult16 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_372 : BitVec 32 := 16#32
  let v1045 : BitVec 32 := Scalar.muli arg9 c16_i32_372
  let c15_i32 : BitVec 32 := 15#32
  let v1046 : BitVec 32 := Scalar.addi v1045 c15_i32
  let c136_i32_391 : BitVec 32 := 136#32
  let v1101 : BitVec 32 := Scalar.muli v1046 c136_i32_391
  v1101
def k0_off4 (i : grid0.Coords) (c0_i32_4 : BitVec 32) : Fin 2 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_4
  let v8 : Index := Scalar.indexCast v7
  let c0_5 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S16384x2048 : Shape := ⟨2, ![16384, 2048]⟩
abbrev S16384x128 : Shape := ⟨2, ![16384, 128]⟩
abbrev S512x2048 : Shape := ⟨2, ![512, 2048]⟩
abbrev S512x128 : Shape := ⟨2, ![512, 128]⟩
abbrev S1024x2048 : Shape := ⟨2, ![1024, 2048]⟩
abbrev S34816x128 : Shape := ⟨2, ![34816, 128]⟩
abbrev S34816x2x128 : Shape := ⟨3, ![34816, 2, 128]⟩
abbrev S34816x1x128 : Shape := ⟨3, ![34816, 1, 128]⟩
abbrev S128x128 : Shape := ⟨2, ![128, 128]⟩
abbrev S1x128 : Shape := ⟨2, ![1, 128]⟩
abbrev S128x2x128 : Shape := ⟨3, ![128, 2, 128]⟩
abbrev S128x1x128 : Shape := ⟨3, ![128, 1, 128]⟩
abbrev S512x1024 : Shape := ⟨2, ![512, 1024]⟩
abbrev S256x128 : Shape := ⟨2, ![256, 128]⟩
abbrev S256x2x128 : Shape := ⟨3, ![256, 2, 128]⟩
abbrev S256x1x128 : Shape := ⟨3, ![256, 1, 128]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x128, .i32⟩
  | .hbm, ⟨2, _⟩ => ⟨S16384x128, .f32⟩
  | .hbm, ⟨3, _⟩ => ⟨S16384x2048, .bf16⟩
  | .hbm, ⟨4, _⟩ => ⟨S16384x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x128, .i32⟩
  | .local _ .vmem, ⟨3, _⟩ => ⟨S512x128, .i32⟩
  | .local _ .vmem, ⟨4, _⟩ => ⟨S512x128, .f32⟩
  | .local _ .vmem, ⟨5, _⟩ => ⟨S512x128, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S34816x2x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c16_i32_48 : BitVec 32 := 16#32
  let v114 : BitVec 32 := Scalar.addi c0_i32_47 c16_i32_48
  let c1_i32_49 : BitVec 32 := 1#32
  ⟨c0_i32_47, v114, c1_i32_49⟩
def k0_off1 (k0_t1 : Fin k0_t1_loop.trips) (c0_i32_52 : BitVec 32) : Fin 2 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let v117 : Index := Scalar.indexCast v116
  let c0_53 : Index := 0#32
  ![v117.toNat, 0]
def k0_off2 (k0_t1 : Fin k0_t1_loop.trips) (c0_i32_52 : BitVec 32) : Fin 2 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let c256_i32 : BitVec 32 := 256#32
  let v142 : BitVec 32 := Scalar.addi v116 c256_i32
  let v143 : Index := Scalar.indexCast v142
  let c0_60 : Index := 0#32
  ![v143.toNat, 0]
def k0_mult1 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let c0_i32_52 : BitVec 32 := 0#32
  let v116 : BitVec 32 := Scalar.addi v115 c0_i32_52
  let c136_i32 : BitVec 32 := 136#32
  let v171 : BitVec 32 := Scalar.muli v116 c136_i32
  v171
def k0_off3 (k0_t1 : Fin k0_t1_loop.trips) (c0_i32_52 : BitVec 32) : Fin 3 → Nat :=
  let c0_i32_47 : BitVec 32 := 0#32
  let c1_i32_49 : BitVec 32 := 1#32
  let arg9 : BitVec 32 := Scf.iv c0_i32_47 c1_i32_49 k0_t1
  let c16_i32_51 : BitVec 32 := 16#32
  let v115 : BitVec 32 := Scalar.muli arg9 c16_i32_51
  let v116 : BitVec 32 := Scalar.addi v115 c0_i32_52
  let c136_i32 : BitVec 32 := 136#32
  let v171 : BitVec 32 := Scalar.muli v116 c136_i32
  let v172 : BitVec 32 := v171
  let v173 : Index := Scalar.indexCast v172
  let c0_69 : Index := 0#32
  ![v173.toNat, 0, 0]
def k0_mult2 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_70 : BitVec 32 := 16#32
  let v177 : BitVec 32 := Scalar.muli arg9 c16_i32_70
  let c1_i32_71 : BitVec 32 := 1#32
  let v178 : BitVec 32 := Scalar.addi v177 c1_i32_71
  let c136_i32_90 : BitVec 32 := 136#32
  let v233 : BitVec 32 := Scalar.muli v178 c136_i32_90
  v233
def k0_mult3 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_92 : BitVec 32 := 16#32
  let v239 : BitVec 32 := Scalar.muli arg9 c16_i32_92
  let c2_i32_93 : BitVec 32 := 2#32
  let v240 : BitVec 32 := Scalar.addi v239 c2_i32_93
  let c136_i32_112 : BitVec 32 := 136#32
  let v295 : BitVec 32 := Scalar.muli v240 c136_i32_112
  v295
def k0_mult4 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_114 : BitVec 32 := 16#32
  let v301 : BitVec 32 := Scalar.muli arg9 c16_i32_114
  let c3_i32_115 : BitVec 32 := 3#32
  let v302 : BitVec 32 := Scalar.addi v301 c3_i32_115
  let c136_i32_134 : BitVec 32 := 136#32
  let v357 : BitVec 32 := Scalar.muli v302 c136_i32_134
  v357
def k0_mult5 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_136 : BitVec 32 := 16#32
  let v363 : BitVec 32 := Scalar.muli arg9 c16_i32_136
  let c4_i32_137 : BitVec 32 := 4#32
  let v364 : BitVec 32 := Scalar.addi v363 c4_i32_137
  let c136_i32_156 : BitVec 32 := 136#32
  let v419 : BitVec 32 := Scalar.muli v364 c136_i32_156
  v419
def k0_mult6 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_158 : BitVec 32 := 16#32
  let v425 : BitVec 32 := Scalar.muli arg9 c16_i32_158
  let c5_i32_159 : BitVec 32 := 5#32
  let v426 : BitVec 32 := Scalar.addi v425 c5_i32_159
  let c136_i32_178 : BitVec 32 := 136#32
  let v481 : BitVec 32 := Scalar.muli v426 c136_i32_178
  v481
def k0_mult7 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_180 : BitVec 32 := 16#32
  let v487 : BitVec 32 := Scalar.muli arg9 c16_i32_180
  let c6_i32_181 : BitVec 32 := 6#32
  let v488 : BitVec 32 := Scalar.addi v487 c6_i32_181
  let c136_i32_200 : BitVec 32 := 136#32
  let v543 : BitVec 32 := Scalar.muli v488 c136_i32_200
  v543
def k0_mult8 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_202 : BitVec 32 := 16#32
  let v549 : BitVec 32 := Scalar.muli arg9 c16_i32_202
  let c7_i32_203 : BitVec 32 := 7#32
  let v550 : BitVec 32 := Scalar.addi v549 c7_i32_203
  let c136_i32_222 : BitVec 32 := 136#32
  let v605 : BitVec 32 := Scalar.muli v550 c136_i32_222
  v605
def k0_mult9 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_224 : BitVec 32 := 16#32
  let v611 : BitVec 32 := Scalar.muli arg9 c16_i32_224
  let c8_i32_225 : BitVec 32 := 8#32
  let v612 : BitVec 32 := Scalar.addi v611 c8_i32_225
  let c136_i32_244 : BitVec 32 := 136#32
  let v667 : BitVec 32 := Scalar.muli v612 c136_i32_244
  v667
def k0_mult10 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_246 : BitVec 32 := 16#32
  let v673 : BitVec 32 := Scalar.muli arg9 c16_i32_246
  let c9_i32 : BitVec 32 := 9#32
  let v674 : BitVec 32 := Scalar.addi v673 c9_i32
  let c136_i32_265 : BitVec 32 := 136#32
  let v729 : BitVec 32 := Scalar.muli v674 c136_i32_265
  v729
def k0_mult11 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_267 : BitVec 32 := 16#32
  let v735 : BitVec 32 := Scalar.muli arg9 c16_i32_267
  let c10_i32 : BitVec 32 := 10#32
  let v736 : BitVec 32 := Scalar.addi v735 c10_i32
  let c136_i32_286 : BitVec 32 := 136#32
  let v791 : BitVec 32 := Scalar.muli v736 c136_i32_286
  v791
def k0_mult12 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_288 : BitVec 32 := 16#32
  let v797 : BitVec 32 := Scalar.muli arg9 c16_i32_288
  let c11_i32 : BitVec 32 := 11#32
  let v798 : BitVec 32 := Scalar.addi v797 c11_i32
  let c136_i32_307 : BitVec 32 := 136#32
  let v853 : BitVec 32 := Scalar.muli v798 c136_i32_307
  v853
def k0_mult13 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_309 : BitVec 32 := 16#32
  let v859 : BitVec 32 := Scalar.muli arg9 c16_i32_309
  let c12_i32 : BitVec 32 := 12#32
  let v860 : BitVec 32 := Scalar.addi v859 c12_i32
  let c136_i32_328 : BitVec 32 := 136#32
  let v915 : BitVec 32 := Scalar.muli v860 c136_i32_328
  v915
def k0_mult14 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_330 : BitVec 32 := 16#32
  let v921 : BitVec 32 := Scalar.muli arg9 c16_i32_330
  let c13_i32 : BitVec 32 := 13#32
  let v922 : BitVec 32 := Scalar.addi v921 c13_i32
  let c136_i32_349 : BitVec 32 := 136#32
  let v977 : BitVec 32 := Scalar.muli v922 c136_i32_349
  v977
def k0_mult15 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_351 : BitVec 32 := 16#32
  let v983 : BitVec 32 := Scalar.muli arg9 c16_i32_351
  let c14_i32 : BitVec 32 := 14#32
  let v984 : BitVec 32 := Scalar.addi v983 c14_i32
  let c136_i32_370 : BitVec 32 := 136#32
  let v1039 : BitVec 32 := Scalar.muli v984 c136_i32_370
  v1039
def k0_mult16 (k0_t1 : Fin k0_t1_loop.trips) : BitVec 32 :=
  let c0_i32_47 : BitVec 32 := 0#32
  let c1_i32_49 : BitVec 32 := 1#32
  let arg9 : BitVec 32 := Scf.iv c0_i32_47 c1_i32_49 k0_t1
  let c16_i32_372 : BitVec 32 := 16#32
  let v1045 : BitVec 32 := Scalar.muli arg9 c16_i32_372
  let c15_i32 : BitVec 32 := 15#32
  let v1046 : BitVec 32 := Scalar.addi v1045 c15_i32
  let c136_i32_391 : BitVec 32 := 136#32
  let v1101 : BitVec 32 := Scalar.muli v1046 c136_i32_391
  v1101
def k0_off4 (i : grid0.Coords) (c0_i32_4 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_4
  let v8 : Index := Scalar.indexCast v7
  let c0_5 : Index := 0#32
  ![v8.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16384x2048 : Shape := ⟨2, ![16384, 2048]⟩
abbrev S16384x128 : Shape := ⟨2, ![16384, 128]⟩
abbrev S_ : Shape := ⟨0, ![]⟩
abbrev S16384x128x1 : Shape := ⟨3, ![16384, 128, 1]⟩
abbrev S16384x128x2048 : Shape := ⟨3, ![16384, 128, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x128, .i32⟩
  | .hbm, ⟨2, _⟩ => ⟨S16384x128, .f32⟩
  | .hbm, ⟨3, _⟩ => ⟨S16384x2048, .bf16⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .i32⟩
  | .hbm, ⟨9, _⟩ => ⟨S16384x128, .i32⟩
  | .hbm, ⟨10, _⟩ => ⟨S16384x128, .i1⟩
  | .hbm, ⟨11, _⟩ => ⟨S_, .i32⟩
  | .hbm, ⟨12, _⟩ => ⟨S16384x128, .i32⟩
  | .hbm, ⟨13, _⟩ => ⟨S16384x128, .i32⟩
  | .hbm, ⟨14, _⟩ => ⟨S16384x128, .i32⟩
  | .hbm, ⟨15, _⟩ => ⟨S16384x128x1, .i32⟩
  | .hbm, ⟨16, _⟩ => ⟨S16384x128x2048, .f32⟩
  | .hbm, ⟨17, _⟩ => ⟨S16384x128, .f32⟩
  | .hbm, ⟨18, _⟩ => ⟨S_, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384x128, .i32⟩
  | .hbm, ⟨30, _⟩ => ⟨S16384x128, .i1⟩
  | .hbm, ⟨31, _⟩ => ⟨S_, .i32⟩
  | .hbm, ⟨32, _⟩ => ⟨S16384x128, .i32⟩
  | .hbm, ⟨33, _⟩ => ⟨S16384x128, .i32⟩
  | .hbm, ⟨34, _⟩ => ⟨S16384x128, .i32⟩
  | .hbm, ⟨35, _⟩ => ⟨S16384x128x1, .i32⟩
  | .hbm, ⟨36, _⟩ => ⟨S16384x128x2048, .f32⟩
  | .hbm, ⟨37, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S16384x2048 : Shape := ⟨2, ![16384, 2048]⟩
abbrev S4x1x2048 : Shape := ⟨3, ![4, 1, 2048]⟩
abbrev S2048x7696 : Shape := ⟨2, ![2048, 7696]⟩
abbrev S16384x4096 : Shape := ⟨2, ![16384, 4096]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S4x1x2048 : Shape := ⟨3, ![4, 1, 2048]⟩
abbrev S2048x7696 : Shape := ⟨2, ![2048, 7696]⟩
abbrev S2048x4096 : Shape := ⟨2, ![2048, 4096]⟩
abbrev S4x4096x2048 : Shape := ⟨3, ![4, 4096, 2048]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S2048x4096, .bf16⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | .hbm, ⟨11, _⟩ => ⟨S2048x4096, .f32⟩
  | .hbm, ⟨12, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel3.lean ====
abbrev S16384x2048 : Shape := ⟨2, ![16384, 2048]⟩
abbrev S4x1x2048 : Shape := ⟨3, ![4, 1, 2048]⟩
abbrev S2048x7696 : Shape := ⟨2, ![2048, 7696]⟩
abbrev S16384x1536 : Shape := ⟨2, ![16384, 1536]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S16384x1536, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x2048 : Shape := ⟨2, ![16384, 2048]⟩
abbrev S4x1x2048 : Shape := ⟨3, ![4, 1, 2048]⟩
abbrev S2048x7696 : Shape := ⟨2, ![2048, 7696]⟩
abbrev S2048x1536 : Shape := ⟨2, ![2048, 1536]⟩
abbrev S4x4096x2048 : Shape := ⟨3, ![4, 4096, 2048]⟩
abbrev S16384x1536 : Shape := ⟨2, ![16384, 1536]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S2048x1536, .bf16⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | .hbm, ⟨11, _⟩ => ⟨S2048x1536, .f32⟩
  | .hbm, ⟨12, _⟩ => ⟨S16384x1536, .f32⟩
  | .hbm, ⟨13, _⟩ => ⟨S16384x1536, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x2048 : Shape := ⟨2, ![16384, 2048]⟩
abbrev S4x1x2048 : Shape := ⟨3, ![4, 1, 2048]⟩
abbrev S2048x7696 : Shape := ⟨2, ![2048, 7696]⟩
abbrev S16384x2064 : Shape := ⟨2, ![16384, 2064]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S16384x2064, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S4x1x2048 : Shape := ⟨3, ![4, 1, 2048]⟩
abbrev S2048x7696 : Shape := ⟨2, ![2048, 7696]⟩
abbrev S2048x2064 : Shape := ⟨2, ![2048, 2064]⟩
abbrev S4x4096x2048 : Shape := ⟨3, ![4, 4096, 2048]⟩
abbrev S16384x2064 : Shape := ⟨2, ![16384, 2064]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x7696, .bf16⟩
  | .hbm, ⟨4, _⟩ => ⟨S2048x2064, .bf16⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | .hbm, ⟨11, _⟩ => ⟨S2048x2064, .f32⟩
  | .hbm, ⟨12, _⟩ => ⟨S16384x2064, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S16384x512 : Shape := ⟨2, ![16384, 512]⟩
abbrev S2048x2048 : Shape := ⟨2, ![2048, 2048]⟩
abbrev S16384x2048 : Shape := ⟨2, ![16384, 2048]⟩
abbrev S4x1x2048 : Shape := ⟨3, ![4, 1, 2048]⟩
abbrev S2048 : Shape := ⟨1, ![2048]⟩
abbrev S1x2048 : Shape := ⟨2, ![1, 2048]⟩
abbrev S256x512 : Shape := ⟨2, ![256, 512]⟩
abbrev S256x2048 : Shape := ⟨2, ![256, 2048]⟩
abbrev S1x1x2048 : Shape := ⟨3, ![1, 1, 2048]⟩
abbrev S512x2048 : Shape := ⟨2, ![512, 2048]⟩
abbrev S256 : Shape := ⟨1, ![256]⟩
abbrev S256x1 : Shape := ⟨2, ![256, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2048x2048, .bf16⟩
  | .hbm, ⟨5, _⟩ => ⟨S16384x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x512 : Shape := ⟨2, ![16384, 512]⟩
abbrev S2048x2048 : Shape := ⟨2, ![2048, 2048]⟩
abbrev S16384x2048 : Shape := ⟨2, ![16384, 2048]⟩
abbrev S4x1x2048 : Shape := ⟨3, ![4, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S2048x2048, .bf16⟩
  | .hbm, ⟨5, _⟩ => ⟨S16384x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x2048, .f32⟩
  | .hbm, ⟨14, _⟩ => ⟨S2048x2048, .f32⟩
  | .hbm, ⟨15, _⟩ => ⟨S16384x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x2048, .f32⟩
  | .hbm, ⟨46, _⟩ => ⟨S4x4096x2048, .f32⟩
  | .hbm, ⟨47, _⟩ => ⟨S1x1x2048, .f32⟩
  | .hbm, ⟨48, _⟩ => ⟨S4x4096x2048, .f32⟩
  | .hbm, ⟨49, _⟩ => ⟨S4x4096x2048, .f32⟩
  | .hbm, ⟨50, _⟩ => ⟨S1x1x2048, .f32⟩
  | .hbm, ⟨51, _⟩ => ⟨S4x4096x2048, .f32⟩
  | .hbm, ⟨52, _⟩ => ⟨S4x4096x2048, .f32⟩
  | .hbm, ⟨53, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel6.lean ====
abbrev S16384x2048 : Shape := ⟨2, ![16384, 2048]⟩
abbrev S4x1x2048 : Shape := ⟨3, ![4, 1, 2048]⟩
abbrev S2048 : Shape := ⟨1, ![2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x1x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x2048 : Shape := ⟨2, ![16384, 2048]⟩
abbrev S4x1x2048 : Shape := ⟨3, ![4, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x1x2048, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S1x1x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S16384x2048 : Shape := ⟨2, ![16384, 2048]⟩
abbrev S4x1x2048 : Shape := ⟨3, ![4, 1, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S128x16384 : Shape := ⟨2, ![128, 16384]⟩
abbrev S256x2048 : Shape := ⟨2, ![256, 2048]⟩
abbrev S1x1x2048 : Shape := ⟨3, ![1, 1, 2048]⟩
abbrev S128x256 : Shape := ⟨2, ![128, 256]⟩
abbrev S1x2048 : Shape := ⟨2, ![1, 2048]⟩
abbrev S80x256 : Shape := ⟨2, ![80, 256]⟩
abbrev S1x128x128 : Shape := ⟨3, ![1, 128, 128]⟩
abbrev S128x128 : Shape := ⟨2, ![128, 128]⟩
abbrev S256x128 : Shape := ⟨2, ![256, 128]⟩
abbrev S256 : Shape := ⟨1, ![256]⟩
abbrev S1x256 : Shape := ⟨2, ![1, 256]⟩
abbrev S16x256 : Shape := ⟨2, ![16, 256]⟩
abbrev S8x256 : Shape := ⟨2, ![8, 256]⟩
abbrev S16384x128 : Shape := ⟨2, ![16384, 128]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x2048, .f32⟩
  | .hbm, ⟨4, _⟩ => ⟨S8x2x128x128, .f32⟩
  | .hbm, ⟨5, _⟩ => ⟨S16x128x128, .f32⟩
  | .hbm, ⟨6, _⟩ => ⟨S16x128x128, .bf16⟩
  | .hbm, ⟨7, _⟩ => ⟨S2048x2048, .bf16⟩
  | .hbm, ⟨8, _⟩ => ⟨S16384x2048, .bf16⟩
  | .hbm, ⟨9, _⟩ => ⟨S128x16384, .i32⟩
  | .hbm, ⟨10, _⟩ => ⟨S128x16384, .f32⟩
  | .hbm, ⟨11, _⟩ => ⟨S16384x128, .i32⟩
  | .hbm, ⟨12, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S16x128x128, .bf16⟩
  | .local _ .vmem, ⟨8, _⟩ => ⟨S256x2048, .bf16⟩
  | .local _ .vmem, ⟨9, _⟩ => ⟨S256x2048, .bf16⟩
  | .local _ .vmem, ⟨10, _⟩ => ⟨S128x256, .i32⟩
  | .local _ .vmem, ⟨11, _⟩ => ⟨S128x256, .i32⟩
  | .local _ .vmem, ⟨12, _⟩ => ⟨S128x256, .f32⟩
  | .local _ .vmem, ⟨13, _⟩ => ⟨S128x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x2048 : Shape := ⟨2, ![16384, 2048]⟩
abbrev S4x1x2048 : Shape := ⟨3, ![4, 1, 2048]⟩
abbrev S2048x2048 : Shape := ⟨2, ![2048, 2048]⟩
abbrev S8x2x128x128 : Shape := ⟨4, ![8, 2, 128, 128]⟩
abbrev S4x4096x2048 : Shape := ⟨3, ![4, 4096, 2048]⟩
abbrev S16384x8x2x128 : Shape := ⟨4, ![16384, 8, 2, 128]⟩
abbrev S8x2x128x16384 : Shape := ⟨4, ![8, 2, 128, 16384]⟩
abbrev S16384x8x2x16 : Shape := ⟨4, ![16384, 8, 2, 16]⟩
abbrev S16384x8x1x16 : Shape := ⟨4, ![16384, 8, 1, 16]⟩
abbrev S16384x8x16 : Shape := ⟨3, ![16384, 8, 16]⟩
abbrev S16384x8x16x1 : Shape := ⟨4, ![16384, 8, 16, 1]⟩
abbrev S16384x8x16x16 : Shape := ⟨4, ![16384, 8, 16, 16]⟩
abbrev S16384x8x256 : Shape := ⟨3, ![16384, 8, 256]⟩
abbrev S_ : Shape := ⟨0, ![]⟩
abbrev S1 : Shape := ⟨1, ![1]⟩
abbrev S1x1x1x1 : Shape := ⟨4, ![1, 1, 1, 1]⟩
abbrev S16384x8 : Shape := ⟨2, ![16384, 8]⟩
abbrev S16384x8x1 : Shape := ⟨3, ![16384, 8, 1]⟩
abbrev S16384x128 : Shape := ⟨2, ![16384, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S2048x2048, .f32⟩
  | .hbm, ⟨4, _⟩ => ⟨S8x2x128x128, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | .hbm, ⟨11, _⟩ => ⟨S16384x2048, .f32⟩
  | .hbm, ⟨12, _⟩ => ⟨S16384x8x2x128, .f32⟩
  | .hbm, ⟨13, _⟩ => ⟨S8x2x128x16384, .f32⟩
  | .hbm, ⟨14, _⟩ => ⟨S16384x8x2x128, .f32⟩
  | .hbm, ⟨15, _⟩ => ⟨S16384x8x2x16, .f32⟩
  | .hbm, ⟨16, _⟩ => ⟨S16384x8x2x16, .i32⟩
  | .hbm, ⟨17, _⟩ => ⟨S16384x8x1x16, .f32⟩
  | .hbm, ⟨18, _⟩ => ⟨S16384x8x16, .f32⟩
  | .hbm, ⟨19, _⟩ => ⟨S16384x8x16x1, .f32⟩
  | .hbm, ⟨20, _⟩ => ⟨S16384x8x1x16, .f32⟩
  | .hbm, ⟨21, _⟩ => ⟨S16384x8x16, .f32⟩
  | .hbm, ⟨22, _⟩ => ⟨S16384x8x1x16, .f32⟩
  | .hbm, ⟨23, _⟩ => ⟨S16384x8x16x16, .f32⟩
  | .hbm, ⟨24, _⟩ => ⟨S16384x8x16x16, .f32⟩
  | .hbm, ⟨25, _⟩ => ⟨S16384x8x16x16, .f32⟩
  | .hbm, ⟨26, _⟩ => ⟨S16384x8x256, .f32⟩
  | .hbm, ⟨27, _⟩ => ⟨S16384x8x1x16, .i32⟩
  | .hbm, ⟨28, _⟩ => ⟨S16384x8x16, .i32⟩
  | .hbm, ⟨29, _⟩ => ⟨S16384x8x16x1, .i32⟩
  | .hbm, ⟨30, _⟩ => ⟨S_, .i32⟩
  | .hbm, ⟨31, _⟩ => ⟨S16384x8x16x1, .i32⟩
  | .hbm, ⟨32, _⟩ => ⟨S16384x8x16x1, .i32⟩
  | .hbm, ⟨33, _⟩ => ⟨S16384x8x1x16, .i32⟩
  | .hbm, ⟨34, _⟩ => ⟨S16384x8x16, .i32⟩
  | .hbm, ⟨35, _⟩ => ⟨S16384x8x1x16, .i32⟩
  | .hbm, ⟨36, _⟩ => ⟨S16384x8x16x16, .i32⟩
  | .hbm, ⟨37, _⟩ => ⟨S16384x8x16x16, .i32⟩
  | .hbm, ⟨38, _⟩ => ⟨S16384x8x16x16, .i32⟩
  | .hbm, ⟨39, _⟩ => ⟨S16384x8x256, .i32⟩
  | .hbm, ⟨40, _⟩ => ⟨S16384x8x16, .f32⟩
  | .hbm, ⟨41, _⟩ => ⟨S16384x8x16, .i32⟩
  | .hbm, ⟨42, _⟩ => ⟨S_, .i32⟩
  | .hbm, ⟨43, _⟩ => ⟨S16384x8x16, .i32⟩
  | .hbm, ⟨44, _⟩ => ⟨S16384x8x16, .i1⟩
  | .hbm, ⟨45, _⟩ => ⟨S_, .i32⟩
  | .hbm, ⟨46, _⟩ => ⟨S16384x8x16, .i32⟩
  | .hbm, ⟨47, _⟩ => ⟨S16384x8x16, .i32⟩
  | .hbm, ⟨48, _⟩ => ⟨S16384x8x16, .i32⟩
  | .hbm, ⟨49, _⟩ => ⟨S16384x8x16x1, .i32⟩
  | .hbm, ⟨50, _⟩ => ⟨S1, .i32⟩
  | .hbm, ⟨51, _⟩ => ⟨S_, .i32⟩
  | .hbm, ⟨52, _⟩ => ⟨S16384x8x16x1, .i32⟩
  | .hbm, ⟨53, _⟩ => ⟨S16384x8x16x1, .i1⟩
  | .hbm, ⟨54, _⟩ => ⟨S1x1x1x1, .i32⟩
  | .hbm, ⟨55, _⟩ => ⟨S16384x8x16x1, .i32⟩
  | .hbm, ⟨56, _⟩ => ⟨S16384x8x16x1, .i1⟩
  | .hbm, ⟨57, _⟩ => ⟨S16384x8x16x1, .i1⟩
  | .hbm, ⟨58, _⟩ => ⟨S_, .i1⟩
  | .hbm, ⟨59, _⟩ => ⟨S16384x8x16, .i1⟩
  | .hbm, ⟨60, _⟩ => ⟨S16384x8x16, .i32⟩
  | .hbm, ⟨61, _⟩ => ⟨S_, .i32⟩
  | .hbm, ⟨62, _⟩ => ⟨S16384x8x16, .i32⟩
  | .hbm, ⟨63, _⟩ => ⟨S16384x8x16, .i32⟩
  | .hbm, ⟨64, _⟩ => ⟨S_, .f32⟩
  | .hbm, ⟨65, _⟩ => ⟨S16384x8, .f32⟩
  | .hbm, ⟨66, _⟩ => ⟨S_, .f32⟩
  | .hbm, ⟨67, _⟩ => ⟨S16384x8, .f32⟩
  | .hbm, ⟨68, _⟩ => ⟨S16384x8, .f32⟩
  | .hbm, ⟨69, _⟩ => ⟨S16384x8x1, .f32⟩
  | .hbm, ⟨70, _⟩ => ⟨S16384x8x16, .f32⟩
  | .hbm, ⟨71, _⟩ => ⟨S16384x8x16, .f32⟩
  | .hbm, ⟨72, _⟩ => ⟨S16384x8x16, .f32⟩
  | .hbm, ⟨73, _⟩ => ⟨S_, .f32⟩
  | .hbm, ⟨74, _⟩ => ⟨S16384x8, .f32⟩
  | .hbm, ⟨75, _⟩ => ⟨S16384x8x1, .f32⟩
  | .hbm, ⟨76, _⟩ => ⟨S16384x8x16, .f32⟩
  | .hbm, ⟨77, _⟩ => ⟨S16384x8x16, .f32⟩
  | .hbm, ⟨78, _⟩ => ⟨S16384x2048, .bf16⟩
  | .hbm, ⟨79, _⟩ => ⟨S16384x128, .i32⟩
  | .hbm, ⟨80, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_values_0 : Ref sig .tc := ⟨.hbm, 40, rfl⟩
abbrev main_indices_1 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_c_4 : Ref sig .tc := ⟨.hbm, 61, rfl⟩
abbrev main_call0_v14 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_cst_2 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_3 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩

abbrev nD : Nat := 1
abbrev τ : Topo := Topo.v7x

variable {F : FTy → Type} [FloatOps F]
-- ==== Proof.InProj.lean ====
/-
  The input projection as one formula, shared by its three column ranges: entry `(r, n)` of the modulated rows times
  the weight, a sum over the 2048 features.
-/
module

public import Idealize.ShloMosaic.PureOps.Ideal
public import Idealize.ShloMosaic.Lib.Pointwise

@[expose] public section

set_option maxRecDepth 16384

noncomputable section

open Idealize.ShloMosaic

namespace Cert.Proof.InProj

/-- Entry `(r, k)` of `x * scale + shift`; the scale and shift of row `r` are those of its batch `r / 4096`. -/
def row (x : (⟨2, ![16384, 2048]⟩ : Shape).Idx → EReal) (s b : (⟨3, ![4, 1, 2048]⟩ : Shape).Idx → EReal)
    (r : Fin 16384) (k : Fin 2048) : EReal :=
  x (ix2 r k) * s (ix3 ⟨r.val / 4096, by omega⟩ 0 k) + b (ix3 ⟨r.val / 4096, by omega⟩ 0 k)

/-- Entry `(r, n)` of `(x * scale + shift) @ w`. -/
def entry (x : (⟨2, ![16384, 2048]⟩ : Shape).Idx → EReal) (s b : (⟨3, ![4, 1, 2048]⟩ : Shape).Idx → EReal)
    (w : (⟨2, ![2048, 7696]⟩ : Shape).Idx → EReal) (r : Fin 16384) (n : Fin 7696) : EReal :=
  ∑ k : Fin 2048, row x s b r k * w (ix2 k n)

theorem z2 : (![0, 0] : Fin 2 → Nat) = fun _ => 0 := funext fun a => by fin_cases a <;> rfl
theorem z3 : (![0, 0, 0] : Fin 3 → Nat) = fun _ => 0 := funext fun a => by fin_cases a <;> rfl

end Cert.Proof.InProj

end
-- ==== Proof.ExpertRun.lean ====
/-
  The expert step: what one point of the grid does.  On the first point of a block of tokens the body fills a table of
  weights, a pair of tokens at a time; on every point it reads eight rows of each token's table.
-/
module

public import proofs.«01_k».proof.Proof.Gen.KernelIdeal.Skeleton
public import proofs.«01_k».proof.Proof.Gen.KernelIdeal.Frame
public import proofs.«01_k».proof.Proof.Gen.KernelIdeal.Loops
public import proofs.«01_k».proof.Proof.InProj
public import Idealize.ShloMosaic.Lib.Pipeline.Value
public import Idealize.ShloMosaic.Lib.Pointwise
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.InProj (z2 z3)

variable {F : FTy → Type} [FloatOps F]

local notation "𝕄" => MT nD τ sig Unit (Elt F) ℕ (UR sig nD τ) ℕ

/-! ## The table of weights -/

/-- The row numbers, as the body makes them. -/
abbrev rowNumbers : IVec S128x128 32 := iota .tc S128x128 32 [0] iota_S128x128_d0_w32

/-- What one trip stores for one pair of tokens: the two weight tables, one in the even and one in the odd rows. -/
def pairTable (n : IVec S128x128 32) (a : Vec F S1x128 .i32) (b : Vec F S1x128 .f32) (c : Vec F S1x128 .i32) (d : Vec F S1x128 .f32) :
    Vec F S128x2x128 .bf16 :=
  k0_pay5 (k0_pay2 n a b) d (k0_pay3 n c) (k0_pay4 n c)

/-- One row of a block of rows. -/
def rowOf {e : EltTy} (x : Vec F S512x128 e) (p : Fin 512) : Vec F S1x128 e := fun j => x (ix2 p (j 1))

/-- The tables of the pair of tokens `p` and `p + 256`. -/
def pairOf (x1 : Vec F S512x128 .i32) (x2 : Vec F S512x128 .f32) (p : Fin 256) : Vec F S128x2x128 .bf16 :=
  pairTable rowNumbers (rowOf x1 ⟨p.val, by omega⟩) (rowOf x2 ⟨p.val, by omega⟩) (rowOf x1 ⟨p.val + 256, by omega⟩) (rowOf x2 ⟨p.val + 256, by omega⟩)

/-- The whole buffer of tables: 136 rows for each pair, of which the first 128 are used. -/
def tables (x1 : Vec F S512x128 .i32) (x2 : Vec F S512x128 .f32) : Vec F S34816x2x128 .bf16 := fun y =>
  pairOf x1 x2 ⟨(y 0).val / 136, by have : (y 0).val < 34816 := (y 0).isLt; omega⟩
    (ix3 ⟨(y 0).val % 136 % 128, by omega⟩ (y 1) (y 2))

/-- The buffer holds the tables wherever a table's row is used. -/
def Filled (x1 : Vec F S512x128 .i32) (x2 : Vec F S512x128 .f32) (d : Vec F S34816x2x128 .bf16) : Prop :=
  ∀ y : S34816x2x128.Idx, (y 0).val % 136 < 128 → d y = tables x1 x2 y

/-- Pair `s` of trip `k`: where it is stored, and what. -/
def pairPiece (i : grid0.Coords) (h1 : k0_cond1 i = 1#1) (a3 : Memref sig .tc .vmem S512x128 .i32) (a4 : Memref sig .tc .vmem S512x128 .f32)
    (n : IVec S128x128 32) (X3 : BufTy.Contents (Elt F) a3.view.ty) (X4 : BufTy.Contents (Elt F) a4.view.ty)
    (k : Fin k0_t1_loop.trips) (s : Fin 16) : View.Piece (Elt F) S34816x2x128 .bf16 :=
  ⟨Rect.unit (k0_off3 k (BitVec.ofNat 32 s.val)) S128x2x128.size (k0_off3_inb i k h1 s),
    pairTable n (a3.view.readAt (Elt F) (Rect.unit (s := S512x128) (k0_off1 k (BitVec.ofNat 32 s.val)) S1x128.size (k0_off1_inb i k h1 s)).toLoadRect X3)
      (a4.view.readAt (Elt F) (Rect.unit (s := S512x128) (k0_off1 k (BitVec.ofNat 32 s.val)) S1x128.size (k0_off1_inb i k h1 s)).toLoadRect X4)
      (a3.view.readAt (Elt F) (Rect.unit (s := S512x128) (k0_off2 k (BitVec.ofNat 32 s.val)) S1x128.size (k0_off2_inb i k h1 s)).toLoadRect X3)
      (a4.view.readAt (Elt F) (Rect.unit (s := S512x128) (k0_off2 k (BitVec.ofNat 32 s.val)) S1x128.size (k0_off2_inb i k h1 s)).toLoadRect X4)⟩

section
variable (𝒱 : Variants) (c : Dev nD) (bd : Option 𝒱.V) (i : grid0.Coords) (a2 : Memref sig .tc .vmem S512x2048 .bf16) (h2 : a2.IsWhole)
    (a3 : Memref sig .tc .vmem S512x128 .i32) (h3 : a3.IsWhole) (a4 : Memref sig .tc .vmem S512x128 .f32) (h4 : a4.IsWhole)
    (a5 : Memref sig .tc .vmem S1024x2048 .bf16) (h5 : a5.IsWhole) (a6 : Memref sig .tc .vmem S1024x2048 .bf16) (h6 : a6.IsWhole)
    (a7 : Memref sig .tc .vmem S512x2048 .f32) (h7 : a7.IsWhole) (a8 : Memref sig .tc .vmem S34816x2x128 .bf16) (h8 : a8.IsWhole)
    (hc : k0_cond1 i = 1#1) (n : IVec S128x128 32) (X3 : BufTy.Contents (Elt F) a3.view.ty) (X4 : BufTy.Contents (Elt F) a4.view.ty)

/-- A trip stores its sixteen pairs. -/
theorem trip_pieces (k : Fin k0_t1_loop.trips) :
    tripL_k0_t1 (F := F) 𝒱 c bd i a2 h2 a3 h3 a4 h4 a5 h5 a6 h6 a7 h7 a8 h8 hc n X3 X4 k
      = [15, 14, 13, 12, 11, 10, 9, 8, 7, 6, 5, 4, 3, 2, 1, 0].map (pairPiece i hc a3 a4 n X3 X4 k) := by
  unfold tripL_k0_t1 trip_k0_t1
  rfl

theorem all_pairs (s : Fin 16) : s ∈ ([15, 14, 13, 12, 11, 10, 9, 8, 7, 6, 5, 4, 3, 2, 1, 0] : List (Fin 16)) := by
  revert s; decide

/-- What the loop has stored before trip `q` is the pairs of the trips before it. -/
theorem mem_pieces (q : Nat) (hq : q ≤ k0_t1_loop.trips) (P : View.Piece (Elt F) S34816x2x128 .bf16) :
    P ∈ pb_k0_t1 (F := F) 𝒱 c bd i a2 h2 a3 h3 a4 h4 a5 h5 a6 h6 a7 h7 a8 h8 hc n X3 X4 q
      ↔ ∃ (k : Fin k0_t1_loop.trips) (s : Fin 16), k.val < q ∧ P = pairPiece i hc a3 a4 n X3 X4 k s := by
  induction q with
  | zero => exact ⟨fun h => absurd h List.not_mem_nil, fun ⟨_, _, h, _⟩ => absurd h (Nat.not_lt_zero _)⟩
  | succ q ih =>
    rw [pb_k0_t1_succ 𝒱 c bd i a2 h2 a3 h3 a4 h4 a5 h5 a6 h6 a7 h7 a8 h8 hc n X3 X4 ⟨q, hq⟩, trip_pieces, List.mem_append, ih (by omega), List.mem_map]
    constructor
    · rintro (⟨s, -, rfl⟩ | ⟨k, s, hk, rfl⟩)
      · exact ⟨⟨q, hq⟩, s, Nat.lt_succ_self q, rfl⟩
      · exact ⟨k, s, by omega, rfl⟩
    · rintro ⟨k, s, hk, rfl⟩
      by_cases e : k.val = q
      · obtain rfl : k = ⟨q, hq⟩ := Fin.ext e
        exact Or.inl ⟨s, all_pairs s, rfl⟩
      · exact Or.inr ⟨k, s, by omega, rfl⟩

theorem trips_eq : k0_t1_loop.trips = 16 := by decide

/-- Every pair's piece is the tables, read where the piece lies. -/
theorem piece_agrees (k : Fin k0_t1_loop.trips) (s : Fin 16)
    (x : (pairPiece i hc a3 a4 rowNumbers X3 X4 k s).1.shape.Idx) :
    (pairPiece i hc a3 a4 rowNumbers X3 X4 k s).2 x
      = tables (a3.view.read (Elt F) X3) (a4.view.read (Elt F) X4) ((pairPiece i hc a3 a4 rowNumbers X3 X4 k s).1.emb x) := by
  have hk : k.val < 16 := lt_of_lt_of_eq k.isLt trips_eq
  have e10 : k0_off1 k (BitVec.ofNat 32 s.val) 0 = 16 * k.val + s.val := congrFun (k0_off1_eq k s) 0
  have e11 : k0_off1 k (BitVec.ofNat 32 s.val) 1 = 0 := congrFun (k0_off1_eq k s) 1
  have e20 : k0_off2 k (BitVec.ofNat 32 s.val) 0 = 16 * k.val + s.val + 256 := congrFun (k0_off2_eq k s) 0
  have e21 : k0_off2 k (BitVec.ofNat 32 s.val) 1 = 0 := congrFun (k0_off2_eq k s) 1
  have e30 : k0_off3 k (BitVec.ofNat 32 s.val) 0 = 2176 * k.val + 136 * s.val := congrFun (k0_off3_eq k s) 0
  have e31 : k0_off3 k (BitVec.ofNat 32 s.val) 1 = 0 := congrFun (k0_off3_eq k s) 1
  have e32 : k0_off3 k (BitVec.ofNat 32 s.val) 2 = 0 := congrFun (k0_off3_eq k s) 2
  have hx : (x 0).val < 128 := (x 0).isLt
  have hy0 : ((pairPiece i hc a3 a4 rowNumbers X3 X4 k s).1.emb x 0).val = 136 * (16 * k.val + s.val) + (x 0).val := by
    show k0_off3 k (BitVec.ofNat 32 s.val) 0 + 1 * (x 0).val = _
    omega
  have hy1 : ((pairPiece i hc a3 a4 rowNumbers X3 X4 k s).1.emb x 1).val = (x 1).val := by
    show k0_off3 k (BitVec.ofNat 32 s.val) 1 + 1 * (x 1).val = _
    omega
  have hy2 : ((pairPiece i hc a3 a4 rowNumbers X3 X4 k s).1.emb x 2).val = (x 2).val := by
    show k0_off3 k (BitVec.ofNat 32 s.val) 2 + 1 * (x 2).val = _
    omega
  have r1 : ∀ {e : EltTy} (X : Vec F S512x128 e), View.ld X (Rect.unit (s := S512x128) (k0_off1 k (BitVec.ofNat 32 s.val)) S1x128.size (k0_off1_inb i k hc s))
      = rowOf X ⟨16 * k.val + s.val, by omega⟩ := fun X => by
    funext j
    refine congrArg X (funext (Fin.forall_fin_two.2 ⟨Fin.ext ?_, Fin.ext ?_⟩))
    · show k0_off1 k (BitVec.ofNat 32 s.val) 0 + 1 * (j 0).val = 16 * k.val + s.val
      have hj : (j 0).val < 1 := (j 0).isLt
      omega
    · show k0_off1 k (BitVec.ofNat 32 s.val) 1 + 1 * (j 1).val = (j 1).val
      omega
  have r2 : ∀ {e : EltTy} (X : Vec F S512x128 e), View.ld X (Rect.unit (s := S512x128) (k0_off2 k (BitVec.ofNat 32 s.val)) S1x128.size (k0_off2_inb i k hc s))
      = rowOf X ⟨16 * k.val + s.val + 256, by omega⟩ := fun X => by
    funext j
    refine congrArg X (funext (Fin.forall_fin_two.2 ⟨Fin.ext ?_, Fin.ext ?_⟩))
    · show k0_off2 k (BitVec.ofNat 32 s.val) 0 + 1 * (j 0).val = 16 * k.val + s.val + 256
      have hj : (j 0).val < 1 := (j 0).isLt
      omega
    · show k0_off2 k (BitVec.ofNat 32 s.val) 1 + 1 * (j 1).val = (j 1).val
      omega
  have hv : (pairPiece i hc a3 a4 rowNumbers X3 X4 k s).2
      = pairOf (a3.view.read (Elt F) X3) (a4.view.read (Elt F) X4) ⟨16 * k.val + s.val, by omega⟩ := by
    show pairTable rowNumbers _ _ _ _ = pairTable rowNumbers _ _ _ _
    simp only [View.readAt_eq_ld, r1, r2]
  rw [hv]
  unfold tables
  have hp : ((pairPiece i hc a3 a4 rowNumbers X3 X4 k s).1.emb x 0).val / 136 = 16 * k.val + s.val := by rw [hy0]; omega
  have hr : ((pairPiece i hc a3 a4 rowNumbers X3 X4 k s).1.emb x 0).val % 136 % 128 = (x 0).val := by rw [hy0]; omega
  have hx' : (x : S128x2x128.Idx) = ix3 ⟨((pairPiece i hc a3 a4 rowNumbers X3 X4 k s).1.emb x 0).val % 136 % 128, by omega⟩
      ((pairPiece i hc a3 a4 rowNumbers X3 X4 k s).1.emb x 1) ((pairPiece i hc a3 a4 rowNumbers X3 X4 k s).1.emb x 2) := by
    funext a
    fin_cases a
    · exact Fin.ext hr.symm
    · exact Fin.ext hy1.symm
    · exact Fin.ext hy2.symm
  exact congr (congrArg _ (Fin.ext hp.symm)) hx'

/-- After the loop the buffer holds the tables, whatever it held before. -/
theorem filled (f : BufTy.Contents (Elt F) a8.view.ty) :
    Filled (a3.view.read (Elt F) X3) (a4.view.read (Elt F) X4) (a8.view.read (Elt F) (a8.view.writes (Elt F) f
      (pb_k0_t1 (F := F) 𝒱 c bd i a2 h2 a3 h3 a4 h4 a5 h5 a6 h6 a7 h7 a8 h8 hc rowNumbers X3 X4 k0_t1_loop.trips))) := by
  intro y hy
  have hy0 : (y 0).val < 34816 := (y 0).isLt
  refine View.read_writes_apply_of_pieces _ _ _ _ (fun P hP x => ?_) y ?_
  · obtain ⟨k, s, -, rfl⟩ := (mem_pieces 𝒱 c bd i a2 h2 a3 h3 a4 h4 a5 h5 a6 h6 a7 h7 a8 h8 hc rowNumbers X3 X4 _ le_rfl P).1 hP
    exact piece_agrees i a3 a4 hc X3 X4 k s x
  · have hk : (y 0).val / 136 / 16 < k0_t1_loop.trips := by rw [trips_eq]; omega
    refine ⟨pairPiece i hc a3 a4 rowNumbers X3 X4 ⟨_, hk⟩ ⟨(y 0).val / 136 % 16, by omega⟩,
      (mem_pieces 𝒱 c bd i a2 h2 a3 h3 a4 h4 a5 h5 a6 h6 a7 h7 a8 h8 hc rowNumbers X3 X4 _ le_rfl _).2 ⟨_, _, hk, rfl⟩, ?_⟩
    have e3 := k0_off3_eq ⟨_, hk⟩ ⟨(y 0).val / 136 % 16, by omega⟩
    refine (Rect.mem_set_unit (inb := k0_off3_inb i ⟨(y 0).val / 136 / 16, hk⟩ hc ⟨(y 0).val / 136 % 16, by omega⟩)).2 fun a => ?_
    rw [e3]
    have h1 : (y 1).val < 2 := (y 1).isLt
    have h2 : (y 2).val < 128 := (y 2).isLt
    fin_cases a
    · show 2176 * ((y 0).val / 136 / 16) + 136 * ((y 0).val / 136 % 16) ≤ (y 0).val ∧ (y 0).val < 2176 * ((y 0).val / 136 / 16) + 136 * ((y 0).val / 136 % 16) + 128
      omega
    · show 0 ≤ (y 1).val ∧ (y 1).val < 0 + 2
      omega
    · show 0 ≤ (y 2).val ∧ (y 2).val < 0 + 128
      omega

end

/-! ## What a point reads of the tables, and what it computes -/

/-- Row `8 j + s` of every token's table, `j` the point's block of experts. -/
def keyRows (x1 : Vec F S512x128 .i32) (x2 : Vec F S512x128 .f32) (i : grid0.Coords) (s : Fin 8) : Vec F S256x2x128 .bf16 := fun x =>
  pairOf x1 x2 (x 0) (ix3 ⟨8 * (i 1).val + s.val, by have h : (i 1).val < 16 := (i 1).isLt; omega⟩ (x 1) (x 2))

theorem keyRows_read (x1 : Vec F S512x128 .i32) (x2 : Vec F S512x128 .f32) (a8 : Memref sig .tc .vmem S34816x2x128 .bf16)
    (f : BufTy.Contents (Elt F) a8.view.ty) (hf : Filled x1 x2 (a8.view.read (Elt F) f)) (i : grid0.Coords) (s : Fin 8) :
    a8.view.readAt (Elt F) (⟨k0_off4 i (BitVec.ofNat 32 s.val), S256x2x128.size, ![136, 1, 1], k0_off4_inb i s⟩ : LoadRect S34816x2x128) f
      = keyRows x1 x2 i s := by
  funext x
  have hi : (i 1).val < 16 := (i 1).isLt
  have hx : (x 0).val < 256 := (x 0).isLt
  have e0 : k0_off4 i (BitVec.ofNat 32 s.val) 0 = 8 * (i 1).val + s.val := congrFun (k0_off4_eq i s) 0
  have e1 : k0_off4 i (BitVec.ofNat 32 s.val) 1 = 0 := congrFun (k0_off4_eq i s) 1
  have e2 : k0_off4 i (BitVec.ofNat 32 s.val) 2 = 0 := congrFun (k0_off4_eq i s) 2
  rw [View.readAt_apply]
  set y := LoadRect.idx (⟨k0_off4 i (BitVec.ofNat 32 s.val), S256x2x128.size, ![136, 1, 1], k0_off4_inb i s⟩ : LoadRect S34816x2x128) x with hy
  have y0 : (y 0).val = 8 * (i 1).val + s.val + 136 * (x 0).val := by
    show k0_off4 i (BitVec.ofNat 32 s.val) 0 + 136 * (x 0).val = _
    omega
  have y1 : (y 1).val = (x 1).val := by
    show k0_off4 i (BitVec.ofNat 32 s.val) 1 + 1 * (x 1).val = _
    omega
  have y2 : (y 2).val = (x 2).val := by
    show k0_off4 i (BitVec.ofNat 32 s.val) 2 + 1 * (x 2).val = _
    omega
  rw [hf y (by omega)]
  unfold tables keyRows
  have hp : (⟨(y 0).val / 136, by omega⟩ : Fin 256) = x 0 := Fin.ext (by show (y 0).val / 136 = (x 0).val; omega)
  have hr : (⟨(y 0).val % 136 % 128, by omega⟩ : Fin 128) = ⟨8 * (i 1).val + s.val, by omega⟩ := Fin.ext (by show (y 0).val % 136 % 128 = 8 * (i 1).val + s.val; clear hp; omega)
  have h1 : (y 1 : Fin 2) = x 1 := Fin.ext y1
  have h2 : (y 2 : Fin 128) = x 2 := Fin.ext y2
  rw [hp, hr, h1, h2]

/-- What a point leaves in the result's buffer, over what it found there. -/
def stepOf (i : grid0.Coords) (x0 : Vec F S512x2048 .bf16) (x1 : Vec F S512x128 .i32) (x2 : Vec F S512x128 .f32) (x3 x4 : Vec F S1024x2048 .bf16)
    (y : Vec F S512x2048 .f32) : Vec F S512x2048 .f32 :=
  k0_pay1 (k0_pay52 x0 x3) (k0_pay53 (keyRows x1 x2 i 0)) (k0_pay54 (keyRows x1 x2 i 1))
    (k0_pay57 (k0_pay55 (keyRows x1 x2 i 2)) (k0_pay56 (keyRows x1 x2 i 2))) (k0_pay58 (keyRows x1 x2 i 3)) (k0_pay59 (keyRows x1 x2 i 4))
    (k0_pay60 (keyRows x1 x2 i 5)) (keyRows x1 x2 i 6) (k0_pay61 (keyRows x1 x2 i 6)) (keyRows x1 x2 i 7) y x4

/-- One store over the whole of a memref leaves its payload. -/
theorem read_whole {S : Shape} {e : EltTy} (a : Memref sig .tc .vmem S e) (f) {off : Fin S.rank → Nat} (hz : off = fun _ => 0)
    (inb : ∀ x, off x + S.size x ≤ S.size x) (w : S.Idx → Elt F e) (L : List (View.Piece (Elt F) S e)) :
    a.view.read (Elt F) (a.view.writes (Elt F) f (⟨Rect.unit off S.size inb, w⟩ :: L)) = w := by
  rw [View.read_writes_eq_canon _ _ _ (fun y => ⟨_, List.mem_cons_self, by
    subst hz; show y ∈ (Rect.whole S).set; rw [Rect.set_whole]; exact Finset.mem_univ y⟩), View.canon_cons_unit_zero hz]

section
variable (c : Dev nD) (i : grid0.Coords) (a2 : Memref sig .tc .vmem S512x2048 .bf16) (h2 : a2.IsWhole)
    (a3 : Memref sig .tc .vmem S512x128 .i32) (h3 : a3.IsWhole) (a4 : Memref sig .tc .vmem S512x128 .f32) (h4 : a4.IsWhole)
    (a5 : Memref sig .tc .vmem S1024x2048 .bf16) (h5 : a5.IsWhole) (a6 : Memref sig .tc .vmem S1024x2048 .bf16) (h6 : a6.IsWhole)
    (a7 : Memref sig .tc .vmem S512x2048 .f32) (h7 : a7.IsWhole) (a8 : Memref sig .tc .vmem S34816x2x128 .bf16) (h8 : a8.IsWhole)
    (x0 : Vec F S512x2048 .bf16) (x1 : Vec F S512x128 .i32) (x2 : Vec F S512x128 .f32) (x3 x4 : Vec F S1024x2048 .bf16)

theorem run_next (hc : ¬k0_cond1 i = 1#1) (y : Vec F S512x2048 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y ∗ (∃ d, owns (c : Thread nD τ) a8 fullShare d ∗ ⌜Filled x1 x2 d⌝)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (stepOf i x0 x1 x2 x3 x4 y) ∗ (∃ d, owns (c : Thread nD τ) a8 fullShare d ∗ ⌜Filled x1 x2 d⌝)) -∗ K ⟨⟩))
      ⊢ wp frame (wpE (defs₀ (F := F)) Variants.none c none) E (cc0_peer_expert i a2 h2 a3 h3 a4 h4 a5 h5 a6 h6 a7 h7 a8 h8) K := by
  simp only [cc0_peer_expert_eq_skeleton]; unfold cc0_peer_expert_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, ⟨%fs, %hfs, HS⟩, %hd⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5
  subst hfs
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr
    swap; · iexact H5
    ipureintro
    sl_unfold_words
    rw [read_whole _ _ z2]
    have hk := keyRows_read x1 x2 a8 fs hd i
    simp only [View.readAt_eq_ld, h2.read_unread, h5.read_unread, h6.read_unread, h7.read_unread,
      View.ld_unit_zero (S := S512x2048) z2, View.ld_unit_zero (S := S1024x2048) z2]
    unfold stepOf
    rw [← hk 0, ← hk 1, ← hk 2, ← hk 3, ← hk 4, ← hk 5, ← hk 6, ← hk 7]
    rfl
  · iexists _; isplitl
    · iexists _; isplitr
      swap; · iexact HS
      ipureintro; rfl
    ipureintro; exact hd

theorem run_first (hc : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ y, owns (c : Thread nD τ) a7 fullShare y) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (stepOf i x0 x1 x2 x3 x4 k0_pay50) ∗ (∃ d, owns (c : Thread nD τ) a8 fullShare d ∗ ⌜Filled x1 x2 d⌝)) -∗ K ⟨⟩))
      ⊢ wp frame (wpE (defs₀ (F := F)) Variants.none c none) E (cc0_peer_expert i a2 h2 a3 h3 a4 h4 a5 h5 a6 h6 a7 h7 a8 h8) K := by
  simp only [cc0_peer_expert_eq_skeleton]; unfold cc0_peer_expert_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := h2.eq_unread hf0; obtain rfl := h3.eq_unread hf1; obtain rfl := h4.eq_unread hf2; obtain rfl := h5.eq_unread hf3
  obtain rfl := h6.eq_unread hf4
  sl_exec (disch := first | sl_exact hc)
  sl_step
  have hd := filled Variants.none c none i a2 h2 a3 h3 a4 h4 a5 h5 a6 h6 a7 h7 a8 h8 hc (h3.unread x1) (h4.unread x2) fs
  rw [h3.read_unread, h4.read_unread] at hd
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr
    swap; · iexact H5
    ipureintro
    sl_unfold_words
    rw [read_whole _ _ z2]
    have hk := keyRows_read x1 x2 a8 _ hd i
    simp only [View.readAt_eq_ld, h2.read_unread, h5.read_unread, h6.read_unread, View.readCov_unit_zero (S := S512x2048) _ z2,
      View.ld_unit_zero (S := S512x2048) z2, View.ld_unit_zero (S := S1024x2048) z2]
    unfold stepOf
    rw [← hk 0, ← hk 1, ← hk 2, ← hk 3, ← hk 4, ← hk 5, ← hk 6, ← hk 7]
    rfl
  · iexists _; isplitl
    · iexists _; isplitr
      swap; · iexact HS
      ipureintro; rfl
    ipureintro; exact hd

end

end Cert.KernelIdeal.Body

end
-- ==== Proof.ExpertLaunch.lean ====
/-
  The expert step: the launch.  The result's buffer is kept over the sixteen points of a block of tokens, and so are the
  tables of weights.
-/
module

public import proofs.«01_k».proof.Defs
public import proofs.«01_k».proof.Proof.ExpertRun
public import Idealize.ShloMosaic.Lib.Quiescent
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

namespace Cert.Proof.Expert

open Cert.KernelIdeal Cert.KernelIdeal.Gen Cert.KernelIdeal.Body

local notation "𝕄" => MT nD τ sig Unit (Elt Ideal) ℕ (UR sig nD τ) ℕ

variable (m : (ℓ : Loc nD τ sig) → Buf (Elt Ideal) ℓ) (ρ : Dev nD → PrngReg)

/-! ## The blocks the windows read -/

/-- The block indices of the windows, and the first points of the blocks of tokens, as numbers of the point. -/
theorem idx_all : ∀ t : Fin grid0.N, win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = t.val / 16 ∧ win0_5.index t (1 : Fin 2) = 0
    ∧ (grid0.coords t 1).val = t.val % 16 ∧ (k0_cond1 (grid0.coords t) = 1#1 ↔ t.val % 16 = 0) := by decide +kernel

theorem t_lt (t : Fin cfg0.N) : t.val < 512 := lt_of_lt_of_eq t.isLt (show cfg0.N = 512 from N_0)

/-- Block `b` of 512 rows of an array of 16384 rows. -/
def rowBlock {e : EltTy} {w : ℕ} (X : Vec Ideal ⟨2, ![16384, w]⟩ e) (b : Fin 32) : Vec Ideal ⟨2, ![512, w]⟩ e := fun x =>
  X (ix2 ⟨b.val * 512 + (x 0).val, by have : (x 0).val < 512 := (x 0).isLt; omega⟩ (x 1))

/-- Block `b` of 1024 rows of the experts. -/
def expertBlock (X : Vec Ideal S16384x2048 .bf16) (b : Fin 16) : Vec Ideal S1024x2048 .bf16 := fun x =>
  X (ix2 ⟨b.val * 1024 + (x 0).val, by have : (x 0).val < 1024 := (x 0).isLt; omega⟩ (x 1))

abbrev tok (c : Dev nD) : Vec Ideal S16384x2048 .bf16 := m ((c : Thread nD τ).loc main_arg0)
abbrev ids (c : Dev nD) : Vec Ideal S16384x128 .i32 := m ((c : Thread nD τ).loc main_arg1)
abbrev gates (c : Dev nD) : Vec Ideal S16384x128 .f32 := m ((c : Thread nD τ).loc main_arg2)
abbrev keys (c : Dev nD) : Vec Ideal S16384x2048 .bf16 := m ((c : Thread nD τ).loc main_arg3)
abbrev vals (c : Dev nD) : Vec Ideal S16384x2048 .bf16 := m ((c : Thread nD τ).loc main_arg4)

/-- The block of tokens, and the block of experts, of a point. -/
abbrev tb (n : ℕ) : Fin 32 := ⟨n / 16 % 32, by omega⟩
abbrev eb (n : ℕ) : Fin 16 := ⟨n % 16, by omega⟩

theorem blk_0 (c : Dev nD) (t : Fin cfg0.N) : (iblk m c 0 t : Vec Ideal S512x2048 .bf16) = rowBlock (tok m c) (tb t.val) := by
  have hi := idx_all t
  have ht := t_lt t
  funext x
  refine congrArg (tok m c) (funext (Fin.forall_fin_two.2 ⟨Fin.ext ?_, Fin.ext ?_⟩))
  · show win0_0.index t 0 * 512 + 1 * (x 0).val = t.val / 16 % 32 * 512 + (x 0).val
    rw [hi.1]; omega
  · show win0_0.index t 1 * 2048 + 1 * (x 1).val = (x 1).val
    rw [hi.2.1]; omega
theorem blk_1 (c : Dev nD) (t : Fin cfg0.N) : (iblk m c 1 t : Vec Ideal S512x128 .i32) = rowBlock (ids m c) (tb t.val) := by
  have hi := idx_all t
  have ht := t_lt t
  funext x
  refine congrArg (ids m c) (funext (Fin.forall_fin_two.2 ⟨Fin.ext ?_, Fin.ext ?_⟩))
  · show win0_1.index t 0 * 512 + 1 * (x 0).val = t.val / 16 % 32 * 512 + (x 0).val
    rw [hi.2.2.1]; omega
  · show win0_1.index t 1 * 128 + 1 * (x 1).val = (x 1).val
    rw [hi.2.2.2.1]; omega
theorem blk_2 (c : Dev nD) (t : Fin cfg0.N) : (iblk m c 2 t : Vec Ideal S512x128 .f32) = rowBlock (gates m c) (tb t.val) := by
  have hi := idx_all t
  have ht := t_lt t
  funext x
  refine congrArg (gates m c) (funext (Fin.forall_fin_two.2 ⟨Fin.ext ?_, Fin.ext ?_⟩))
  · show win0_2.index t 0 * 512 + 1 * (x 0).val = t.val / 16 % 32 * 512 + (x 0).val
    rw [hi.2.2.2.2.1]; omega
  · show win0_2.index t 1 * 128 + 1 * (x 1).val = (x 1).val
    rw [hi.2.2.2.2.2.1]; omega
theorem blk_3 (c : Dev nD) (t : Fin cfg0.N) : (iblk m c 3 t : Vec Ideal S1024x2048 .bf16) = expertBlock (keys m c) (eb t.val) := by
  have hi := idx_all t
  funext x
  refine congrArg (keys m c) (funext (Fin.forall_fin_two.2 ⟨Fin.ext ?_, Fin.ext ?_⟩))
  · show win0_3.index t 0 * 1024 + 1 * (x 0).val = t.val % 16 * 1024 + (x 0).val
    rw [hi.2.2.2.2.2.2.1]; omega
  · show win0_3.index t 1 * 2048 + 1 * (x 1).val = (x 1).val
    rw [hi.2.2.2.2.2.2.2.1]; omega
theorem blk_4 (c : Dev nD) (t : Fin cfg0.N) : (iblk m c 4 t : Vec Ideal S1024x2048 .bf16) = expertBlock (vals m c) (eb t.val) := by
  have hi := idx_all t
  funext x
  refine congrArg (vals m c) (funext (Fin.forall_fin_two.2 ⟨Fin.ext ?_, Fin.ext ?_⟩))
  · show win0_4.index t 0 * 1024 + 1 * (x 0).val = t.val % 16 * 1024 + (x 0).val
    rw [hi.2.2.2.2.2.2.2.2.1]; omega
  · show win0_4.index t 1 * 2048 + 1 * (x 1).val = (x 1).val
    rw [hi.2.2.2.2.2.2.2.2.2.1]; omega

/-! ## What the result's buffer holds after each point -/

/-- One point's step over what it found. -/
def stepAt (c : Dev nD) (t : Fin cfg0.N) (y : Vec Ideal S512x2048 .f32) : Vec Ideal S512x2048 .f32 :=
  stepOf (grid0.coords t) (rowBlock (tok m c) (tb t.val)) (rowBlock (ids m c) (tb t.val)) (rowBlock (gates m c) (tb t.val))
    (expertBlock (keys m c) (eb t.val)) (expertBlock (vals m c) (eb t.val)) y

/-- What the buffer holds after point `n`. -/
def held (c : Dev nD) : ℕ → Vec Ideal S512x2048 .f32
  | 0 => stepAt m c ⟨0, by decide +kernel⟩ (k0_pay50 (F := Ideal))
  | n + 1 => if h : n + 1 < cfg0.N then stepAt m c ⟨n + 1, h⟩ (if (n + 1) % 16 = 0 then (k0_pay50 (F := Ideal)) else held c n) else (k0_pay50 (F := Ideal))

theorem held_first (c : Dev nD) (t : Fin cfg0.N) (h : t.val % 16 = 0) : held m c t.val = stepAt m c t (k0_pay50 (F := Ideal)) := by
  obtain ⟨n, hn⟩ := t
  cases n with
  | zero => rfl
  | succ n => rw [held, dif_pos hn, if_pos h]

theorem held_next (c : Dev nD) (t : Fin cfg0.N) (h : t.val % 16 ≠ 0) : held m c t.val = stepAt m c t (held m c (t.val - 1)) := by
  obtain ⟨n, hn⟩ := t
  cases n with
  | zero => exact absurd rfl h
  | succ n => rw [held, dif_pos hn, if_neg h]; rfl

abbrev tableM : Memref sig .tc .vmem S34816x2x128 .bf16 := Memref.whole cc0_scratch0

theorem rest_eq (c : Dev nD) :
    (Pipeline.ΦA spec0 c : sProp 𝕄)
      = iprop((∃ d, owns (c : Thread nD τ) tableM fullShare d) ∗ (∃ r, prngReg c r)) := by
  unfold Pipeline.ΦA; rw [scopedRest0_eq]; simp only [tableM, owns_whole]; rfl

theorem called (t : Fin cfg0.N) : (defs₀ (F := Ideal)) .tc cfg0.body (cfg0.bodyArgs t (cfg0.slots t)) = bodyAt0 t := rfl

/-! ## The launch -/

/-- Before point `n` the scratch holds the tables of the point's block of tokens, except before the first point of a
    block. -/
def inv (c : Dev nD) (n : ℕ) : sProp 𝕄 :=
  iprop((∃ d, owns (c : Thread nD τ) tableM fullShare d ∗ ⌜n % 16 ≠ 0 → Filled (rowBlock (ids m c) (tb n)) (rowBlock (gates m c) (tb n)) d⌝)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => held m c t.val
  Φ t := inv m c t.val
  q _ := fullShare
  owed _ := 0

theorem A_eq (c : Dev nD) (w : Fin cfg0.W) : (dats m 0 c).A w = V m c (Pipeline.arrRef spec0 w) := by
  dsimp only [dats]

theorem found_0 (c : Dev nD) (t : Fin cfg0.N) (d) : (dats m 0 c).before 0 t d = rowBlock (tok m c) (tb t.val) :=
  (before0_0_of m (dats m 0 c) (A_eq m c 0) (fun t => by dsimp only [dats]) t d).trans (blk_0 m c t)
theorem found_1 (c : Dev nD) (t : Fin cfg0.N) (d) : (dats m 0 c).before 1 t d = rowBlock (ids m c) (tb t.val) :=
  (before0_1_of m (dats m 0 c) (A_eq m c 1) (fun t => by dsimp only [dats]) t d).trans (blk_1 m c t)
theorem found_2 (c : Dev nD) (t : Fin cfg0.N) (d) : (dats m 0 c).before 2 t d = rowBlock (gates m c) (tb t.val) :=
  (before0_2_of m (dats m 0 c) (A_eq m c 2) (fun t => by dsimp only [dats]) t d).trans (blk_2 m c t)
theorem found_3 (c : Dev nD) (t : Fin cfg0.N) (d) : (dats m 0 c).before 3 t d = expertBlock (keys m c) (eb t.val) :=
  (before0_3_of m (dats m 0 c) (A_eq m c 3) (fun t => by dsimp only [dats]) t d).trans (blk_3 m c t)
theorem found_4 (c : Dev nD) (t : Fin cfg0.N) (d) : (dats m 0 c).before 4 t d = expertBlock (vals m c) (eb t.val) :=
  (before0_4_of m (dats m 0 c) (A_eq m c 4) (fun t => by dsimp only [dats]) t d).trans (blk_4 m c t)

theorem found_5 (c : Dev nD) (t : Fin cfg0.N) (h : t.val % 16 ≠ 0) (d) : (dats m 0 c).before 5 t d = held m c (t.val - 1) := by
  refine (Dat.before_out_kept (dats m 0 c) 5 rfl t (fun h0 => h (by rw [h0])) ?_ (fun _ => rfl) (fun _ _ => rfl) d).trans rfl
  refine Bool.eq_false_iff.2 fun hf => ?_
  have := (flush0_5 ⟨t.val - 1, Nat.lt_of_le_of_lt (Nat.sub_le _ _) t.isLt⟩).1 hf
  dsimp only at this
  omega

theorem obligation (c : Dev nD) : BodyObligationLoose (dats m 0 c) (defs₀ (F := Ideal)) Variants.none () Set.univ := fun t => by
  have ht := t_lt t
  have hi := idx_all t
  rw [bigSep_W0, bigSep_W0, called]
  simp only
  rw [show (dats m 0 c).Φ t.castSucc = inv m c t.val from rfl, show (dats m 0 c).Φ t.succ = inv m c (t.val + 1) from rfl,
    show (dats m 0 c).owesAt () t.succ = (dats m 0 c).owesAt () t.castSucc from rfl]
  unfold inv
  iintro ⟨⟨⟨%ds, HS, %hds⟩, Hg⟩, Ho, ⟨%d0, H0⟩, ⟨%d1, H1⟩, ⟨%d2, H2⟩, ⟨%d3, H3⟩, ⟨%d4, H4⟩, ⟨%d5, H5⟩⟩
  rw [found_0 m c t d0, found_1 m c t d1, found_2 m c t d2, found_3 m c t d3, found_4 m c t d4]
  obtain ⟨P, hP⟩ : ∃ P : Vec Ideal S512x2048 .f32, P = held m c t.val := ⟨_, rfl⟩
  have key : ∀ (K : PUnit → sProp 𝕄), iprop(owns (c : Thread nD τ) (win0_0.stage (cfg0.slots t 0)) fullShare (rowBlock (tok m c) (tb t.val))
      ∗ owns (c : Thread nD τ) (win0_1.stage (cfg0.slots t 1)) fullShare (rowBlock (ids m c) (tb t.val))
      ∗ owns (c : Thread nD τ) (win0_2.stage (cfg0.slots t 2)) fullShare (rowBlock (gates m c) (tb t.val))
      ∗ owns (c : Thread nD τ) (win0_3.stage (cfg0.slots t 3)) fullShare (expertBlock (keys m c) (eb t.val))
      ∗ owns (c : Thread nD τ) (win0_4.stage (cfg0.slots t 4)) fullShare (expertBlock (vals m c) (eb t.val))
      ∗ owns (c : Thread nD τ) (win0_5.stage (cfg0.slots t 5)) fullShare ((dats m 0 c).before 5 t d5)
      ∗ owns (c : Thread nD τ) tableM fullShare ds
      ∗ (iprop(owns (c : Thread nD τ) (win0_0.stage (cfg0.slots t 0)) fullShare (rowBlock (tok m c) (tb t.val))
      ∗ owns (c : Thread nD τ) (win0_1.stage (cfg0.slots t 1)) fullShare (rowBlock (ids m c) (tb t.val))
      ∗ owns (c : Thread nD τ) (win0_2.stage (cfg0.slots t 2)) fullShare (rowBlock (gates m c) (tb t.val))
      ∗ owns (c : Thread nD τ) (win0_3.stage (cfg0.slots t 3)) fullShare (expertBlock (keys m c) (eb t.val))
      ∗ owns (c : Thread nD τ) (win0_4.stage (cfg0.slots t 4)) fullShare (expertBlock (vals m c) (eb t.val))
      ∗ owns (c : Thread nD τ) (win0_5.stage (cfg0.slots t 5)) fullShare P
      ∗ (∃ d, owns (c : Thread nD τ) tableM fullShare d ∗ ⌜Filled (rowBlock (ids m c) (tb t.val)) (rowBlock (gates m c) (tb t.val)) d⌝)) -∗ K ⟨⟩))
      ⊢ wp frame (wpE (defs₀ (F := Ideal)) Variants.none c none) Set.univ (bodyAt0 t) K := by
    intro K
    rw [hP]
    by_cases h0 : t.val % 16 = 0
    · rw [held_first m c t h0]
      have r := run_first (F := Ideal) c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (win0_4.stage (cfg0.slots t 4)) (hstage0_4 ((cfg0.slots t 4).cast nbuf0_4))
        (win0_5.stage (cfg0.slots t 5)) (hstage0_5 ((cfg0.slots t 5).cast nbuf0_5))
        tableM (Memref.isWhole_whole _) (rowBlock (tok m c) (tb t.val)) (rowBlock (ids m c) (tb t.val)) (rowBlock (gates m c) (tb t.val))
        (expertBlock (keys m c) (eb t.val)) (expertBlock (vals m c) (eb t.val)) (hi.2.2.2.2.2.2.2.2.2.2.2.2.2.2 h0) Set.univ
      iintro ⟨H0, H1, H2, H3, H4, H5, HS, Hk⟩
      iapply (r K)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iexact Hk
    · rw [held_next m c t h0, found_5 m c t h0]
      have r := run_next (F := Ideal) c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (win0_4.stage (cfg0.slots t 4)) (hstage0_4 ((cfg0.slots t 4).cast nbuf0_4))
        (win0_5.stage (cfg0.slots t 5)) (hstage0_5 ((cfg0.slots t 5).cast nbuf0_5))
        tableM (Memref.isWhole_whole _) (rowBlock (tok m c) (tb t.val)) (rowBlock (ids m c) (tb t.val)) (rowBlock (gates m c) (tb t.val))
        (expertBlock (keys m c) (eb t.val)) (expertBlock (vals m c) (eb t.val)) (fun h => h0 (hi.2.2.2.2.2.2.2.2.2.2.2.2.2.1 h))
        (held m c (t.val - 1)) Set.univ
      iintro ⟨H0, H1, H2, H3, H4, H5, HS, Hk⟩
      iapply (r K)
      isplitl [H0]; · iexact H0
      isplitl [H1]; · iexact H1
      isplitl [H2]; · iexact H2
      isplitl [H3]; · iexact H3
      isplitl [H4]; · iexact H4
      isplitl [H5]; · iexact H5
      isplitl [HS]
      · iexists ds; isplitl
        · iexact HS
        ipureintro; exact hds h0
      iexact Hk
  iapply (key _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%d, HS, %hd⟩⟩
  rw [← blk_0 m c t, ← blk_1 m c t, ← blk_2 m c t, ← blk_3 m c t, ← blk_4 m c t]
  isplitl [HS Hg]
  · isplitl [HS]
    · iexists d; isplitl
      · iexact HS
      ipureintro
      intro h
      have e : tb (t.val + 1) = tb t.val := Fin.ext (by show (t.val + 1) / 16 % 32 = t.val / 16 % 32; omega)
      rw [e]; exact hd
    iexact Hg
  isplitl [Ho]; · iexact Ho
  isplitl [H0]; · iexact H0
  isplitl [H1]; · iexact H1
  isplitl [H2]; · iexact H2
  isplitl [H3]; · iexact H3
  isplitl [H4]; · iexact H4
  rw [hP]
  iexact H5

/-- What the launch hands over is the invariant before the first point. -/
theorem hin (c : Dev nD) : Pipeline.ΦA spec0 c ⊢ (dats m 0 c).Φ 0 := by
  rw [show (dats m 0 c).Φ 0 = inv m c 0 from rfl, rest_eq]
  unfold inv
  iintro ⟨⟨%d, HS⟩, Hg⟩
  isplitl [HS]
  · iexists d; isplitl
    · iexact HS
    ipureintro; exact fun h => absurd rfl h
  iexact Hg

theorem hout (c : Dev nD) : (dats m 0 c).Φ (Fin.last cfg0.N) ⊢ Pipeline.ΦA spec0 c := by
  rw [show (dats m 0 c).Φ (Fin.last cfg0.N) = inv m c (Fin.last cfg0.N).val from rfl, rest_eq]
  unfold inv
  iintro ⟨⟨%d, HS, %hd⟩, Hg⟩
  isplitl [HS]
  · iexists d; iexact HS
  iexact Hg

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := hin m) (hout := hout m)

/-- The result array: each block of 512 rows as the last point of its block of tokens left it. -/
def whole (c : Dev nD) : Vec Ideal S16384x2048 .f32 := fun y =>
  held m c ((y 0).val / 512 * 16 + 15) (ix2 ⟨(y 0).val % 512, by omega⟩ (y 1))

/-- The result array after the last point. -/
theorem final (c : Dev nD) : (dats m 0 c).arrAt 5 cfg0.N = whole m c := by
  refine (dats m 0 c).arrAt_eq_of_covers 5 _ (by decide +kernel) fun t hf y => ?_
  have ht := t_lt t
  have hi := idx_all t
  have h15 := (flush0_5 t).1 hf
  have hy : (y 0).val < 512 := (y 0).isLt
  have e0 : (((win0_5.blk t).view.emb y : S16384x2048.Idx) 0).val = t.val / 16 * 512 + (y 0).val := by
    show win0_5.index t 0 * 512 + 1 * (y 0).val = _
    rw [hi.2.2.2.2.2.2.2.2.2.2.1]; omega
  have e1 : (((win0_5.blk t).view.emb y : S16384x2048.Idx) 1).val = (y 1).val := by
    show win0_5.index t 1 * 2048 + 1 * (y 1).val = _
    rw [hi.2.2.2.2.2.2.2.2.2.2.2.1]; omega
  show held m c t.val y = whole m c ((win0_5.blk t).view.emb y)
  unfold whole
  have en : (((win0_5.blk t).view.emb y : S16384x2048.Idx) 0).val / 512 * 16 + 15 = t.val := by rw [e0]; omega
  refine congr (congrArg (held m c) en.symm) (funext (Fin.forall_fin_two.2 ⟨Fin.ext ?_, Fin.ext ?_⟩))
  · show (y 0).val = (((win0_5.blk t).view.emb y : S16384x2048.Idx) 0).val % 512
    rw [e0]; omega
  · exact e1.symm

theorem frame_pi : Cert.quiescent_KernelIdeal := fun m ρ _ =>
  θ_run_and (Cert.KernelIdeal.Gen.frame_of m ρ (dats m) (A_eq m) ((θ_run Cert.KernelIdeal.defs _ _).mono (fun _ h => h.1) (run_main m ρ)))
    ((θ_run Cert.KernelIdeal.defs _ _).mono (fun _ h => h.2) (run_main m ρ))

end Cert.Proof.Expert

end
-- ==== Proof.ExpertBits.lean ====
/-
  The expert step at the machine's words: it runs to completion, leaves its arguments as they were and every counter at
  zero.  What it leaves in the result is not stated here.
-/
module

public import proofs.«01_k».proof.Proof.Gen.Kernel.Skeleton
public import proofs.«01_k».proof.Proof.Gen.Kernel.Frame
public import proofs.«01_k».proof.Proof.Gen.Kernel.Loops
public import proofs.«01_k».proof.Defs
public import Idealize.ShloMosaic.Lib.Pipeline.Value
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [BitOps F]

local notation "𝕄" => MT nD τ sig Unit (Elt F) ℕ (UR sig nD τ) ℕ

/-- The body at any point keeps what its inputs' buffers hold. -/
theorem run_keeps (c : Dev nD) (i : grid0.Coords) (a2 : Memref sig .tc .vmem S512x2048 .bf16) (h2 : a2.IsWhole)
    (a3 : Memref sig .tc .vmem S512x128 .i32) (h3 : a3.IsWhole) (a4 : Memref sig .tc .vmem S512x128 .f32) (h4 : a4.IsWhole)
    (a5 : Memref sig .tc .vmem S1024x2048 .bf16) (h5 : a5.IsWhole) (a6 : Memref sig .tc .vmem S1024x2048 .bf16) (h6 : a6.IsWhole)
    (a7 : Memref sig .tc .vmem S512x2048 .f32) (h7 : a7.IsWhole) (a8 : Memref sig .tc .vmem S34816x128 .i32) (h8 : a8.IsWhole)
    (x0 : Vec F S512x2048 .bf16) (x1 : Vec F S512x128 .i32) (x2 : Vec F S512x128 .f32) (x3 x4 : Vec F S1024x2048 .bf16)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)) -∗ K ⟨⟩))
      ⊢ wp frame (wpE (defs₀ (F := F)) Variants.none c none) E (cc0_peer_expert i a2 h2 a3 h3 a4 h4 a5 h5 a6 h6 a7 h7 a8 h8) K := by
  simp only [cc0_peer_expert_eq_skeleton]; unfold cc0_peer_expert_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  by_cases hc : k0_cond1 i = 1#1
  all_goals
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; iexists _; isplitr
      swap; · iexact H5
      ipureintro; rfl
    · iexists _; iexists _; isplitr
      swap; · iexact HS
      ipureintro; rfl

abbrev tableM : Memref sig .tc .vmem S34816x128 .i32 := Memref.whole cc0_scratch0

theorem rest_eq (c : Dev nD) :
    (Pipeline.ΦA spec0 c : sProp 𝕄)
      = iprop((∃ d, owns (c : Thread nD τ) tableM fullShare d) ∗ (∃ r, prngReg c r)) := by
  unfold Pipeline.ΦA; rw [scopedRest0_eq]; simp only [tableM, owns_whole]; rfl

theorem called (t : Fin cfg0.N) : (defs₀ (F := F)) .tc cfg0.body (cfg0.bodyArgs t (cfg0.slots t)) = bodyAt0 t := rfl

/-! ## The launch -/

variable (m : (ℓ : Loc nD τ sig) → Buf (Elt F) ℓ) (ρ : Dev nD → PrngReg)

/-- Only the result's window is left open. -/
def open5 : Fin cfg0.W → Bool := fun w => match w with
  | ⟨5, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem found_0 (c : Dev nD) (t : Fin cfg0.N) (d) : (dats m 0 c).before 0 t d = iblk m c 0 t :=
  before0_0_of m (dats m 0 c) (A_eq m c 0) (fun t => by dsimp only [dats]) t d
theorem found_1 (c : Dev nD) (t : Fin cfg0.N) (d) : (dats m 0 c).before 1 t d = iblk m c 1 t :=
  before0_1_of m (dats m 0 c) (A_eq m c 1) (fun t => by dsimp only [dats]) t d
theorem found_2 (c : Dev nD) (t : Fin cfg0.N) (d) : (dats m 0 c).before 2 t d = iblk m c 2 t :=
  before0_2_of m (dats m 0 c) (A_eq m c 2) (fun t => by dsimp only [dats]) t d
theorem found_3 (c : Dev nD) (t : Fin cfg0.N) (d) : (dats m 0 c).before 3 t d = iblk m c 3 t :=
  before0_3_of m (dats m 0 c) (A_eq m c 3) (fun t => by dsimp only [dats]) t d
theorem found_4 (c : Dev nD) (t : Fin cfg0.N) (d) : (dats m 0 c).before 4 t d = iblk m c 4 t :=
  before0_4_of m (dats m 0 c) (A_eq m c 4) (fun t => by dsimp only [dats]) t d

theorem obligation (c : Dev nD) : BodyObligationLoose (dats m 0 c) (defs₀ (F := F)) Variants.none () Set.univ open5 := fun t => by
  rw [bigSep_W0, bigSep_W0, called]
  simp only [open5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, rest_eq]
  iintro ⟨⟨HS, Hg⟩, Ho, ⟨%d0, H0⟩, ⟨%d1, H1⟩, ⟨%d2, H2⟩, ⟨%d3, H3⟩, ⟨%d4, H4⟩, H5⟩
  rw [found_0 m c t d0, found_1 m c t d1, found_2 m c t d2, found_3 m c t d3, found_4 m c t d4]
  iapply (run_keeps (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    tableM (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
theorem run_main : θ_run defs (onTc (τ := τ) (main (F := F))) (s₀ m ρ)
    (fun r => Pipeline.RDat.FramePost cfg0 (fun c => (dats m 0 c).toRForget open5) (V m) r ∧ r.2.sem = fun _ => 0) :=
  Pipeline.θ_run_frame_forget (Q' := _) cfgs (dats m) (0 : Fin 1) launch0 defs₀ Variants.none open5 m ρ main
    (hbody := fun c => obligation m c) (hshare := fun c => (dats m 0 c).share_full fun _ => rfl)
    (howed := fun _ _ => rfl) (V := V m) (hmain := hmain m Variants.none) (hA := A_eq m) (hΦ := fun _ _ => rfl)

end Cert.Kernel.Body

namespace Cert.Proof.Expert

open Cert.Kernel Cert.Kernel.Gen Cert.Kernel.Body
open Idealize.ShloMosaic Idealize.ShloMosaic.TcCoe Idealize.SL.Sem

theorem frame_p : Cert.quiescent_Kernel := fun m ρ _ =>
  (θ_run Cert.Kernel.defs _ _).mono (fun r h => ⟨fun c =>
    ⟨(h.1.arr_in c 0 rfl).trans (V_main_arg0 m c), (h.1.arr_in c 1 rfl).trans (V_main_arg1 m c),
     (h.1.arr_in c 2 rfl).trans (V_main_arg2 m c), (h.1.arr_in c 3 rfl).trans (V_main_arg3 m c),
     (h.1.arr_in c 4 rfl).trans (V_main_arg4 m c)⟩, h.2⟩) (run_main m ρ)

end Cert.Proof.Expert

end
-- ==== Proof.ExpertValue.lean ====
/-
  The expert step: what one point adds to the result, entry by entry, and the sum over all experts.
-/
module

public import proofs.«01_k».proof.Defs
public import proofs.«01_k».proof.Proof.ExpertRun
public import Idealize.ShloMosaic.Lib.Pointwise
public import Idealize.ShloMosaic.Lib.Pipeline.Value
public import Idealize.ShloMosaic.Lib.StableHlo.Predicate
public import Mathlib.Data.EReal.Operations

@[expose] public section

set_option maxRecDepth 16384

noncomputable section

open Idealize.ShloMosaic Idealize.ShloMosaic.TcCoe

namespace Cert.Proof.Expert

/-! ## Weights -/

/-- The exact GELU, with the constants both programs write. -/
def gelu (a : EReal) : EReal := (Ideal.ofBits .f32 0x3F000000#32 * a) * (1 + Ideal.erf (a * Ideal.ofBits .f32 0x3F3504F3#32))

/-- The weight that a token's routing gives to the expert numbered `r * 128 + l`. -/
def weight (id : Fin 128 → BitVec 32) (g : Fin 128 → EReal) (r l : ℕ) : EReal :=
  ∑ k : Fin 128, if id k &&& 127#32 = BitVec.ofNat 32 l then (if (id k).sshiftRight 7 = BitVec.ofNat 32 r then g k else 0) else 0

/-- A number below 16384 is its high and low seven bits. -/
theorem split_bits (x : BitVec 32) (hx : x.toNat < 16384) (e : ℕ) (he : e < 16384) :
    (x.sshiftRight 7 = BitVec.ofNat 32 (e / 128) ∧ x &&& 127#32 = BitVec.ofNat 32 (e % 128)) ↔ x.toNat = e := by
  have hm : x.msb = false := BitVec.msb_eq_false_iff_two_mul_lt.mpr (by omega)
  have h1 : (x.sshiftRight 7).toNat = x.toNat / 128 := by
    rw [BitVec.sshiftRight_eq_of_msb_false hm, BitVec.toNat_ushiftRight, Nat.shiftRight_eq_div_pow]
  have h2 : (x &&& 127#32).toNat = x.toNat % 128 := by
    rw [BitVec.toNat_and]
    exact Nat.and_two_pow_sub_one_eq_mod x.toNat 7
  constructor
  · rintro ⟨a, b⟩
    have a' := congrArg BitVec.toNat a
    have b' := congrArg BitVec.toNat b
    rw [h1, BitVec.toNat_ofNat] at a'
    rw [h2, BitVec.toNat_ofNat] at b'
    omega
  · rintro rfl
    constructor <;> apply BitVec.eq_of_toNat_eq
    · rw [h1, BitVec.toNat_ofNat]; omega
    · rw [h2, BitVec.toNat_ofNat]; omega

/-- For numbers in range the weight is the sum of the gates of the places that name the expert. -/
theorem weight_eq (id : Fin 128 → BitVec 32) (g : Fin 128 → EReal) (hid : ∀ k, (id k).toNat < 16384) (e : Fin 16384) :
    weight id g (e.val / 128) (e.val % 128) = ∑ k : Fin 128, if (id k).toNat = e.val then g k else 0 := by
  refine Finset.sum_congr rfl fun k _ => ?_
  have h := split_bits (id k) (hid k) e.val e.isLt
  by_cases a : (id k).sshiftRight 7 = BitVec.ofNat 32 (e.val / 128)
  · by_cases b : id k &&& 127#32 = BitVec.ofNat 32 (e.val % 128)
    · rw [if_pos a, if_pos b, if_pos (h.1 ⟨a, b⟩)]
    · rw [if_neg b, if_neg (fun q => b (h.2 q).2)]
  · rw [if_neg a, if_neg (fun q => a (h.2 q).1), ite_self]

/-- A product with a sum of nonnegative terms is the sum of the products. -/
theorem sum_mul_nonneg {ι : Type} (s : Finset ι) (f : ι → EReal) (hf : ∀ k, 0 ≤ f k) (c : EReal) :
    (∑ k ∈ s, f k) * c = ∑ k ∈ s, f k * c := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun k _ => hf k), ih]

/-- The weighted sum over all experts is the gated sum over the experts that are named. -/
theorem sum_experts (id : Fin 128 → BitVec 32) (g : Fin 128 → EReal) (hid : ∀ k, (id k).toNat < 16384) (hg : ∀ k, 0 ≤ g k)
    (G V : Fin 16384 → EReal) :
    ∑ e : Fin 16384, (weight id g (e.val / 128) (e.val % 128) * G e) * V e
      = ∑ k : Fin 128, (g k * G ⟨(id k).toNat, hid k⟩) * V ⟨(id k).toNat, hid k⟩ := by
  have h : ∀ e : Fin 16384, (weight id g (e.val / 128) (e.val % 128) * G e) * V e
      = ∑ k : Fin 128, (if (⟨(id k).toNat, hid k⟩ : Fin 16384) = e then g k else 0) * (G e * V e) := fun e => by
    rw [weight_eq id g hid e, mul_assoc, sum_mul_nonneg]
    · refine Finset.sum_congr rfl fun k _ => ?_
      congr 1
      exact if_congr (Fin.ext_iff (a := ⟨(id k).toNat, hid k⟩) (b := e)).symm rfl rfl
    · intro k; split
      · exact hg k
      · exact le_refl _
  rw [Finset.sum_congr rfl fun e _ => h e, Finset.sum_comm]
  refine Finset.sum_congr rfl fun k _ => ?_
  rw [Finset.sum_eq_single (⟨(id k).toNat, hid k⟩ : Fin 16384) (fun e _ he => by rw [if_neg (Ne.symm he), zero_mul])
    (fun h => absurd (Finset.mem_univ _) h), if_pos rfl, mul_assoc]

/-! ## One point -/

open Cert.KernelIdeal Cert.KernelIdeal.Gen Cert.KernelIdeal.Body

/-- The weights of one row of a block. -/
abbrev rowWeight (x1 : Vec Ideal S512x128 .i32) (x2 : Vec Ideal S512x128 .f32) (t : Fin 512) (r l : ℕ) : EReal :=
  weight (fun k => x1 (ix2 t k)) (fun k => x2 (ix2 t k)) r l

/-- A selection by a comparison of words. -/
theorem select_eq (p q : BitVec 32) (a b : EReal) : Scalar.select (IntOp.cmpi .eq p q) a b = if p = q then a else b := by
  by_cases h : p = q
  · rw [h, if_pos rfl, IntOp.cmpi_eq_self]; rfl
  · rw [if_neg h]
    unfold IntOp.cmpi
    rw [show (p == q) = false from beq_eq_false_iff_ne.2 h]; rfl

theorem shift_eq (x : BitVec 32) : IntOp.shrsi ArithUnit.vector x 7#32 = x.sshiftRight 7 := rfl

theorem low_at (a : Vec Ideal S1x128 .i32) (b : Vec Ideal S1x128 .f32) (r l : Fin 128) :
    (k0_pay2 rowNumbers a b : FVec Ideal S128x128 .bf16) (ix2 r l) = weight (fun k => a (ix2 0 k)) (fun k => b (ix2 0 k)) r.val l.val := by
  pointwise [k0_pay2, weight, rowNumbers]
  exact Finset.sum_congr rfl fun k _ => by rw [select_eq, select_eq, shift_eq]; rfl

theorem high_at (v : FVec Ideal S128x128 .bf16) (c : Vec Ideal S1x128 .i32) (d : Vec Ideal S1x128 .f32) (r l : Fin 128) :
    (k0_pay5 v d (k0_pay3 rowNumbers c) (k0_pay4 rowNumbers c) : Vec Ideal S128x2x128 .bf16) (ix3 r 1 l)
      = weight (fun k => c (ix2 0 k)) (fun k => d (ix2 0 k)) r.val l.val := by
  pointwise [k0_pay5, k0_pay3, k0_pay4, weight, rowNumbers]
  exact Finset.sum_congr rfl fun k _ => by rw [select_eq, select_eq, shift_eq]; rfl

theorem even_at (n : IVec S128x128 32) (v : FVec Ideal S128x128 .bf16) (c : Vec Ideal S1x128 .i32) (d : Vec Ideal S1x128 .f32) (r l : Fin 128) :
    (k0_pay5 v d (k0_pay3 n c) (k0_pay4 n c) : Vec Ideal S128x2x128 .bf16) (ix3 r 0 l) = v (ix2 r l) := by
  pointwise [k0_pay5, k0_pay3, k0_pay4]

/-- The two halves of the rows of a key, one above the other. -/
theorem halves_at (raw : Vec Ideal S256x2x128 .bf16) (t : Fin 512) (l : Fin 128) :
    (k0_pay53 raw : FVec Ideal S512x128 .f32) (ix2 t l) = raw (ix3 ⟨t.val % 256, by omega⟩ ⟨t.val / 256, by omega⟩ l) := by
  pointwise [k0_pay53]
  have ht := t.isLt
  split
  · refine congrArg raw (congr (congr (congrArg ix3 (Fin.ext ?_)) (Fin.ext ?_)) rfl)
    · show t.val = t.val % 256; omega
    · show 0 = t.val / 256; omega
  · refine congrArg raw (congr (congr (congrArg ix3 (Fin.ext ?_)) (Fin.ext ?_)) rfl)
    · show t.val - 256 = t.val % 256; omega
    · show 1 = t.val / 256; omega

/-- The last part of a point's step: the experts' values, weighted by the routing and the GELU, added to the result. -/
def finish (a w : FVec Ideal S512x1024 .f32) (y : Vec Ideal S512x2048 .f32) (v : Vec Ideal S1024x2048 .bf16) : FVec Ideal S512x2048 .f32 :=
  addf (shapeCast S512x2048 y shapeCasts_S512x2048_S512x2048)
    (matmul (φ₁ := .bf16) (φ₂ := .bf16) dot_S512x1024_S1024x2048_S512x2048_1_0_0_1_n_n none
      (truncf .bf16 (mulf w (mulf (mulf (broadcast S512x1024 (Scalar.ofBits .f32 0x3F000000#32)) a)
        (addf (broadcast S512x1024 (Scalar.ofBits .f32 0x3F800000#32)) (erf (mulf a (broadcast S512x1024 (Scalar.ofBits .f32 0x3F3504F3#32))))))) bitsLt_bf16_f32)
      v (constant S512x2048 .f32 0x00000000#32))

theorem finish_at (a w : FVec Ideal S512x1024 .f32) (y : Vec Ideal S512x2048 .f32) (v : Vec Ideal S1024x2048 .bf16) (t : Fin 512) (d : Fin 2048) :
    finish a w y v (ix2 t d) = y (ix2 t d) + ∑ e : Fin 1024, (w (ix2 t e) * gelu (a (ix2 t e))) * v (ix2 e d) := by
  pointwise [finish, gelu]
  rfl

theorem products_at (x : Vec Ideal S512x2048 .bf16) (u : Vec Ideal S1024x2048 .bf16) (t : Fin 512) (e : Fin 1024) :
    (k0_pay52 x u : FVec Ideal S512x1024 .f32) (ix2 t e) = ∑ n : Fin 2048, x (ix2 t n) * u (ix2 e n) := by
  pointwise [k0_pay52]

/-- The weights of a block of 1024 experts side by side. -/
def wide (x1 : Vec Ideal S512x128 .i32) (x2 : Vec Ideal S512x128 .f32) (i : grid0.Coords) : FVec Ideal S512x1024 .f32 :=
  concatenate S512x1024 1 [⟨S512x128, k0_pay53 (keyRows x1 x2 i 0)⟩, ⟨S512x128, k0_pay53 (keyRows x1 x2 i 1)⟩, ⟨S512x128, k0_pay53 (keyRows x1 x2 i 2)⟩,
    ⟨S512x128, k0_pay53 (keyRows x1 x2 i 3)⟩, ⟨S512x128, k0_pay53 (keyRows x1 x2 i 4)⟩, ⟨S512x128, k0_pay53 (keyRows x1 x2 i 5)⟩,
    ⟨S512x128, k0_pay53 (keyRows x1 x2 i 6)⟩, ⟨S512x128, k0_pay53 (keyRows x1 x2 i 7)⟩]
    concatenates_S512x128_S512x128_S512x128_S512x128_S512x128_S512x128_S512x128_S512x128_S512x1024_d1

theorem stepOf_eq (i : grid0.Coords) (x0 : Vec Ideal S512x2048 .bf16) (x1 : Vec Ideal S512x128 .i32) (x2 : Vec Ideal S512x128 .f32)
    (x3 x4 : Vec Ideal S1024x2048 .bf16) (y : Vec Ideal S512x2048 .f32) :
    stepOf i x0 x1 x2 x3 x4 y = finish (k0_pay52 x0 x3) (wide x1 x2 i) y x4 := rfl

theorem wide_at (x1 : Vec Ideal S512x128 .i32) (x2 : Vec Ideal S512x128 .f32) (i : grid0.Coords) (t : Fin 512) (e : Fin 1024) :
    wide x1 x2 i (ix2 t e) = (k0_pay53 (keyRows x1 x2 i ⟨e.val / 128, by omega⟩) : FVec Ideal S512x128 .f32) (ix2 t ⟨e.val % 128, by omega⟩) := by
  unfold wide
  exact concatenate_ofFn_apply (t := S512x1024) (1 : Fin 2) (s₁ := S512x128) (fun s : Fin 8 => (k0_pay53 (keyRows x1 x2 i s) : FVec Ideal S512x128 .f32)) concatenates_S512x128_S512x128_S512x128_S512x128_S512x128_S512x128_S512x128_S512x128_S512x1024_d1 rfl 128 rfl (ix2 t e) ⟨e.val / 128, by omega⟩ rfl
    (ix2 t ⟨e.val % 128, by omega⟩) rfl (Fin.forall_fin_two.2 ⟨fun _ => rfl, fun h => absurd rfl h⟩)

/-- The table of a pair of tokens, at the token the half belongs to. -/
theorem pair_at (x1 : Vec Ideal S512x128 .i32) (x2 : Vec Ideal S512x128 .f32) (t : Fin 512) (r l : Fin 128) :
    (pairOf x1 x2 ⟨t.val % 256, by omega⟩ : Vec Ideal S128x2x128 .bf16) (ix3 r ⟨t.val / 256, by omega⟩ l) = rowWeight x1 x2 t r.val l.val := by
  have ht := t.isLt
  by_cases h : t.val < 256
  · have e0 : (⟨t.val / 256, by omega⟩ : Fin 2) = 0 := Fin.ext (by show t.val / 256 = 0; omega)
    have e1 : (⟨t.val % 256, by omega⟩ : Fin 512) = t := Fin.ext (by show t.val % 256 = t.val; omega)
    rw [e0]
    unfold pairOf pairTable
    refine (even_at _ _ _ _ r l).trans ((low_at _ _ r l).trans ?_)
    show weight (fun k => x1 (ix2 (⟨t.val % 256, by omega⟩ : Fin 512) k)) (fun k => x2 (ix2 (⟨t.val % 256, by omega⟩ : Fin 512) k)) r.val l.val = _
    rw [e1]
  · have e0 : (⟨t.val / 256, by omega⟩ : Fin 2) = 1 := Fin.ext (by show t.val / 256 = 1; omega)
    have e1 : (⟨t.val % 256 + 256, by omega⟩ : Fin 512) = t := Fin.ext (by show t.val % 256 + 256 = t.val; omega)
    rw [e0]
    unfold pairOf pairTable
    refine (high_at _ _ _ r l).trans ?_
    show weight (fun k => x1 (ix2 (⟨t.val % 256 + 256, by omega⟩ : Fin 512) k)) (fun k => x2 (ix2 (⟨t.val % 256 + 256, by omega⟩ : Fin 512) k)) r.val l.val = _
    rw [e1]

theorem wide_eq (x1 : Vec Ideal S512x128 .i32) (x2 : Vec Ideal S512x128 .f32) (i : grid0.Coords) (t : Fin 512) (e : Fin 1024) :
    wide x1 x2 i (ix2 t e) = rowWeight x1 x2 t (8 * (i 1).val + e.val / 128) (e.val % 128) := by
  have hi : (i 1).val < 16 := (i 1).isLt
  rw [wide_at, halves_at]
  exact pair_at x1 x2 t ⟨8 * (i 1).val + e.val / 128, by omega⟩ ⟨e.val % 128, by omega⟩

/-- One entry of one point's step. -/
theorem stepOf_at (i : grid0.Coords) (x0 : Vec Ideal S512x2048 .bf16) (x1 : Vec Ideal S512x128 .i32) (x2 : Vec Ideal S512x128 .f32)
    (x3 x4 : Vec Ideal S1024x2048 .bf16) (y : Vec Ideal S512x2048 .f32) (t : Fin 512) (d : Fin 2048) :
    stepOf i x0 x1 x2 x3 x4 y (ix2 t d)
      = y (ix2 t d) + ∑ e : Fin 1024, (rowWeight x1 x2 t (8 * (i 1).val + e.val / 128) (e.val % 128)
          * gelu (∑ n : Fin 2048, x0 (ix2 t n) * x3 (ix2 e n))) * x4 (ix2 e d) := by
  rw [stepOf_eq, finish_at]
  exact congrArg (fun v : EReal => y (ix2 t d) + v) (Finset.sum_congr rfl fun e _ => by rw [wide_eq, products_at])

end Cert.Proof.Expert

end
-- ==== Proof.ExpertRef.lean ====
/-
  The expert step: the reference's result, entry by entry.
-/
module

public import proofs.«01_k».proof.Defs
public import proofs.«01_k».proof.Proof.Gen.ReferenceIdeal.Run
public import proofs.«01_k».proof.Proof.ExpertValue

@[expose] public section

set_option maxRecDepth 16384

noncomputable section

open Idealize.ShloMosaic Idealize.ShloMosaic.TcCoe

namespace Cert.Proof.Expert.Ref

open Cert.ReferenceIdeal Cert.ReferenceIdeal.Gen

local notation "gd" => gather_S16384x2048_S16384x128x1_S16384x128x2048_2_0_n_n_0_2_12048

/-- The expert numbers as the reference indexes with them: a negative number counts from the end. -/
def starts (ids : IVec S16384x128 32) : IVec S16384x128x1 32 :=
  broadcastInDim S16384x128x1 ![0, 1] bcast_S16384x128_S16384x128x1_0_1
    (select (cmpi .slt ids (broadcastInDim S16384x128 ![] bcast_S_S16384x128 (constantI S_ 32 0#32)))
      (addi ids (broadcastInDim S16384x128 ![] bcast_S_S16384x128 (constantI S_ 32 16384#32))) ids)

theorem starts_at (ids : IVec S16384x128 32) (t : Fin 16384) (k : Fin 128) (h : (ids (ix2 t k)).toNat < 16384) :
    starts ids (ix3 t k 0) = ids (ix2 t k) := by
  have e : starts ids (ix3 t k 0) = Scalar.select (IntOp.cmpi .slt (ids (ix2 t k)) 0#32) (IntOp.addi (ids (ix2 t k)) 16384#32) (ids (ix2 t k)) := by
    pointwise [starts]
  have hn : IntOp.cmpi .slt (ids (ix2 t k)) 0#32 = 0#1 := by
    refine (BitVec.eq_zero_or_eq_one _).resolve_right fun q => ?_
    have := (Idealize.ShloMosaic.StableHlo.Predicate.slt_iff_toNat (by omega) (by decide)).1 q
    simp at this
  rw [e, hn]; rfl

/-- A row taken from an array of 16384 rows, at a number in range. -/
theorem taken_at (X : FVec Ideal S16384x2048 .f32) (idx : IVec S16384x128x1 32) (t : Fin 16384) (k : Fin 128) (d : Fin 2048) (e : Fin 16384)
    (h : idx (ix3 t k 0) = BitVec.ofNat 32 e.val) : Host.gather gd X idx (ix3 t k d) = X (ix2 e d) := by
  unfold Host.gather
  refine congrArg X (funext (Fin.forall_fin_two.2 ⟨Fin.ext ?_, Fin.ext ?_⟩))
  · show (gd).start (ix3 t k d) idx 0 + (gd).batchCoord (ix3 t k d) 0 + (gd).offCoord (ix3 t k d) 0 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gd).startIndexMap from List.mem_singleton.mpr rfl)]
    have hsi : (gd).siIdx (ix3 t k d) ⟨List.idxOf (0 : Fin 2) (gd).startIndexMap, List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi, h]
    show min (BitVec.ofNat 32 e.val).toInt.toNat 16383 + 0 + 0 = e.val
    have he := e.isLt
    rw [BitVec.toInt_eq_toNat_of_lt (by rw [BitVec.toNat_ofNat]; omega), BitVec.toNat_ofNat]
    omega
  · show (gd).start (ix3 t k d) idx 1 + (gd).batchCoord (ix3 t k d) 1 + (gd).offCoord (ix3 t k d) 1 = d.val
    rw [GatherDims.batchCoord_eq_zero _ _ _ List.not_mem_nil]
    unfold GatherDims.start
    rw [dif_neg (show ¬ (1 : Fin 2) ∈ (gd).startIndexMap from by decide)]
    unfold GatherDims.offCoord
    rw [dif_pos ((GatherDims.mem_sKept _ _).mpr ⟨by decide, List.not_mem_nil⟩)]
    show 0 + 0 + d.val = d.val
    omega

/-- The products of a token with the keys of its experts. -/
def products (x u : FVec Ideal S16384x2048 .bf16) (ids : IVec S16384x128 32) : FVec Ideal S16384x128 .f32 :=
  Host.dotGeneral dot_S16384x2048_S16384x128x2048_S16384x128_1_2_n_1_0_0 none (extf .f32 x bitsLt_bf16_f32)
    (Host.gather gd (extf .f32 u bitsLt_bf16_f32) (starts ids))

theorem products_at (x u : FVec Ideal S16384x2048 .bf16) (ids : IVec S16384x128 32) (t : Fin 16384) (k : Fin 128) (h : (ids (ix2 t k)).toNat < 16384) :
    products x u ids (ix2 t k) = ∑ n : Fin 2048, x (ix2 t n) * u (ix2 ⟨(ids (ix2 t k)).toNat, h⟩ n) := by
  have e : products x u ids (ix2 t k) = ∑ n : Fin 2048, x (ix2 t n) * Host.gather gd (extf .f32 u bitsLt_bf16_f32) (starts ids) (ix3 t k n) := by
    pointwise [products]
  rw [e]
  refine Finset.sum_congr rfl fun n _ => congrArg (fun v : EReal => x (ix2 t n) * v) ?_
  exact (taken_at _ _ t k n ⟨(ids (ix2 t k)).toNat, h⟩ ((starts_at ids t k h).trans (by simp))).trans rfl

/-- The GELU of an array, times the gates. -/
def gated (g a : FVec Ideal S16384x128 .f32) : FVec Ideal S16384x128 .f32 :=
  mulf g (mulf (mulf (broadcastInDim S16384x128 ![] bcast_S_S16384x128 (constant S_ .f32 0x3F000000#32)) a)
    (Host.erfc (mulf (Host.negf a) (broadcastInDim S16384x128 ![] bcast_S_S16384x128 (constant S_ .f32 0x3F3504F3#32)))))

theorem gated_at (g a : FVec Ideal S16384x128 .f32) (t : Fin 16384) (k : Fin 128) : gated g a (ix2 t k) = g (ix2 t k) * gelu (a (ix2 t k)) := by
  have e : gated g a (ix2 t k) = g (ix2 t k) * ((Ideal.ofBits .f32 0x3F000000#32 * a (ix2 t k)) * Ideal.erfc (-a (ix2 t k) * Ideal.ofBits .f32 0x3F3504F3#32)) := by
    pointwise [gated]
    try rfl
  rw [e, EReal.neg_mul, Ideal.erfc_neg, gelu]

/-- The whole result. -/
def result (x : FVec Ideal S16384x2048 .bf16) (ids : IVec S16384x128 32) (g : FVec Ideal S16384x128 .f32) (u v : FVec Ideal S16384x2048 .bf16) :
    FVec Ideal S16384x2048 .f32 :=
  Host.dotGeneral dot_S16384x128_S16384x128x2048_S16384x2048_1_1_n_2_0_0 none (gated g (products x u ids))
    (Host.gather gd (extf .f32 v bitsLt_bf16_f32) (starts ids))

theorem result_at (x : FVec Ideal S16384x2048 .bf16) (ids : IVec S16384x128 32) (g : FVec Ideal S16384x128 .f32) (u v : FVec Ideal S16384x2048 .bf16)
    (t : Fin 16384) (d : Fin 2048) (h : ∀ k, (ids (ix2 t k)).toNat < 16384) :
    result x ids g u v (ix2 t d)
      = ∑ k : Fin 128, (g (ix2 t k) * gelu (∑ n : Fin 2048, x (ix2 t n) * u (ix2 ⟨(ids (ix2 t k)).toNat, h k⟩ n))) * v (ix2 ⟨(ids (ix2 t k)).toNat, h k⟩ d) := by
  have e : result x ids g u v (ix2 t d)
      = ∑ k : Fin 128, gated g (products x u ids) (ix2 t k) * Host.gather gd (extf .f32 v bitsLt_bf16_f32) (starts ids) (ix3 t k d) := by
    pointwise [result]
  rw [e]
  refine Finset.sum_congr rfl fun k _ => ?_
  rw [gated_at, products_at x u ids t k (h k)]
  refine congrArg (fun w : EReal => (g (ix2 t k) * gelu (∑ n : Fin 2048, x (ix2 t n) * u (ix2 ⟨(ids (ix2 t k)).toNat, h k⟩ n))) * w) ?_
  exact (taken_at _ _ t k d ⟨(ids (ix2 t k)).toNat, h k⟩ ((starts_at ids t k (h k)).trans (by simp))).trans rfl

end Cert.Proof.Expert.Ref

end
-- ==== Proof.Expert.lean ====
/-
  The expert step's claims.
-/
module

public import proofs.«01_k».proof.Defs
public import proofs.«01_k».proof.Proof.ExpertLaunch
public import proofs.«01_k».proof.Proof.ExpertBits
public import proofs.«01_k».proof.Proof.ExpertRef
public import proofs.«01_k».proof.Proof.Gen.Pre_routed
public import Idealize.ShloMosaic.Lib.Bf16PairInverse

@[expose] public section

set_option maxRecDepth 16384

noncomputable section

open Idealize.ShloMosaic Idealize.ShloMosaic.TcCoe Idealize.SL.Sem

namespace Cert.Proof.Expert

open Cert.KernelIdeal Cert.KernelIdeal.Gen Cert.KernelIdeal.Body

variable (m : (ℓ : Loc nD τ sig) → Buf (Elt Ideal) ℓ) (ρ : Dev nD → PrngReg)

/-! ## The result of the sixteen points of a block of tokens -/

/-- What expert `e` adds to one entry of the result. -/
def part (c : Dev nD) (t : Fin 16384) (d : Fin 2048) (e : Fin 16384) : EReal :=
  (weight (fun k => ids m c (ix2 t k)) (fun k => gates m c (ix2 t k)) (e.val / 128) (e.val % 128)
    * gelu (∑ n : Fin 2048, tok m c (ix2 t n) * keys m c (ix2 e n))) * vals m c (ix2 e d)

/-- Expert `j` of block `b`. -/
abbrev expert (b : Fin 16) (j : Fin 1024) : Fin 16384 := ⟨b.val * 1024 + j.val, by omega⟩

/-- Row `r` of block `b` of tokens. -/
abbrev token (b : Fin 32) (r : Fin 512) : Fin 16384 := ⟨b.val * 512 + r.val, by omega⟩

theorem stepAt_at (c : Dev nD) (t : Fin cfg0.N) (y : Vec Ideal S512x2048 .f32) (r : Fin 512) (d : Fin 2048) :
    stepAt m c t y (ix2 r d) = y (ix2 r d) + ∑ j : Fin 1024, part m c (token (tb t.val) r) d (expert (eb t.val) j) := by
  unfold stepAt
  rw [stepOf_at]
  refine congrArg (fun v : EReal => y (ix2 r d) + v) (Finset.sum_congr rfl fun j _ => ?_)
  have hi : ((grid0.coords t 1).val : ℕ) = t.val % 16 := (idx_all t).2.2.2.2.2.2.2.2.2.2.2.2.1
  unfold part
  rw [hi]
  have e1 : 8 * (t.val % 16) + j.val / 128 = (expert (eb t.val) j).val / 128 := by show _ = (t.val % 16 * 1024 + j.val) / 128; omega
  have e2 : j.val % 128 = (expert (eb t.val) j).val % 128 := by show _ = (t.val % 16 * 1024 + j.val) % 128; omega
  rw [e1, e2]
  rfl

/-- What a block of experts adds. -/
def blockPart (c : Dev nD) (t : Fin 16384) (d : Fin 2048) (b : Fin 16) : EReal := ∑ j : Fin 1024, part m c t d (expert b j)

theorem zero_at (r : Fin 512) (d : Fin 2048) : (k0_pay50 : FVec Ideal S512x2048 .f32) (ix2 r d) = 0 := by
  pointwise [k0_pay50]

/-- After a point the buffer holds what the blocks of experts up to the point's add. -/
theorem held_at (c : Dev nD) (q : Fin 32) (r : Fin 512) (d : Fin 2048) : ∀ p : ℕ, p < 16 →
    held m c (16 * q.val + p) (ix2 r d) = ∑ b ∈ Finset.range (p + 1), blockPart m c (token q r) d (eb b) := by
  have hq := q.isLt
  have hN : cfg0.N = 512 := N_0
  intro p
  induction p with
  | zero =>
    intro _
    have hb : tb (16 * q.val + 0) = q := Fin.ext (by show (16 * q.val + 0) / 16 % 32 = q.val; omega)
    have he : eb (16 * q.val + 0) = eb 0 := Fin.ext (by show (16 * q.val + 0) % 16 = 0 % 16; omega)
    have h := held_first m c ⟨16 * q.val + 0, by omega⟩ (by show (16 * q.val + 0) % 16 = 0; omega)
    dsimp only at h
    rw [h, stepAt_at, zero_at, zero_add, Finset.sum_range_one]
    dsimp only
    rw [hb, he]
    rfl
  | succ p ih =>
    intro hp
    have hb : tb (16 * q.val + (p + 1)) = q := Fin.ext (by show (16 * q.val + (p + 1)) / 16 % 32 = q.val; omega)
    have he : eb (16 * q.val + (p + 1)) = eb (p + 1) := Fin.ext (by show (16 * q.val + (p + 1)) % 16 = (p + 1) % 16; omega)
    have h := held_next m c ⟨16 * q.val + (p + 1), by omega⟩ (by show (16 * q.val + (p + 1)) % 16 ≠ 0; omega)
    dsimp only at h
    rw [h, stepAt_at, show 16 * q.val + (p + 1) - 1 = 16 * q.val + p from by omega, ih (by omega), Finset.sum_range_succ _ (p + 1)]
    dsimp only
    rw [hb, he]
    rfl

/-- The sum over blocks of experts is the sum over experts. -/
theorem sum_blocks (f : Fin 16384 → EReal) : ∑ b ∈ Finset.range 16, ∑ j : Fin 1024, f (expert (eb b) j) = ∑ e : Fin 16384, f e := by
  rw [Finset.sum_range (fun b => ∑ j : Fin 1024, f (expert (eb b) j))]
  have h : ∀ b : Fin 16, ∑ j : Fin 1024, f (expert (eb b.val) j) = ∑ j : Fin 1024, f (finProdFinEquiv (b, j)) := fun b =>
    Finset.sum_congr rfl fun j _ => congrArg f (Fin.ext (by
      have hb := b.isLt
      show b.val % 16 * 1024 + j.val = j.val + 1024 * b.val
      omega))
  refine (Finset.sum_congr rfl fun b _ => h b).trans ((Fintype.sum_prod_type (fun q : Fin 16 × Fin 1024 => f (finProdFinEquiv q))).symm.trans ?_)
  exact Equiv.sum_comp (finProdFinEquiv : Fin 16 × Fin 1024 ≃ Fin (16 * 1024)) f

/-- One entry of the result. -/
theorem whole_at (c : Dev nD) (t : Fin 16384) (d : Fin 2048) : whole m c (ix2 t d) = ∑ e : Fin 16384, part m c t d e := by
  have ht := t.isLt
  rw [← sum_blocks]
  have e : token ⟨t.val / 512, by omega⟩ ⟨t.val % 512, by omega⟩ = t := Fin.ext (by show t.val / 512 * 512 + t.val % 512 = t.val; omega)
  have h := held_at m c ⟨t.val / 512, by omega⟩ ⟨t.val % 512, by omega⟩ d 15 (by omega)
  rw [e] at h
  show held m c (t.val / 512 * 16 + 15) (ix2 (⟨t.val % 512, _⟩ : Fin 512) d) = _
  rw [show t.val / 512 * 16 + 15 = 16 * (t.val / 512) + 15 from by omega]
  exact h

/-! ## The precondition -/

theorem bit_and (a b : BitVec 1) (h : a &&& b = 1#1) : a = 1#1 ∧ b = 1#1 := by
  revert a b; decide

/-- The precondition, entry by entry: the expert numbers are in range and the gates not negative. -/
theorem routed_at (c : Dev nD) (h : Cert.Pre_KernelIdeal_routed m) (t : Fin 16384) (k : Fin 128) :
    (ids m c (ix2 t k)).toNat < 16384 ∧ (0 : EReal) ≤ gates m c (ix2 t k) := by
  have h' := congrFun (h c) (ix2 t k)
  have e : Cert.Pre_routed.fn (F := Ideal) (tok m c) (ids m c) (gates m c) (keys m c) (vals m c) (ix2 t k)
      = (IntOp.cmpi .sge (ids m c (ix2 t k)) 0#32 &&& IntOp.cmpi .slt (ids m c (ix2 t k)) 16384#32)
        &&& BitVec.ofBool (decide ((0 : EReal) ≤ gates m c (ix2 t k))) := by
    pointwise [Cert.Pre_routed.fn]
    rfl
  have h2 := e.symm.trans h'
  obtain ⟨h3, hg⟩ := bit_and _ _ h2
  obtain ⟨h0, h1⟩ := bit_and _ _ h3
  refine ⟨?_, ?_⟩
  · have a0 : (0#32 : BitVec 32).toInt ≤ (ids m c (ix2 t k)).toInt := by
      have : BitVec.sle 0#32 (ids m c (ix2 t k)) = true := by
        unfold IntOp.cmpi at h0
        exact (Bool.eq_false_or_eq_true _).resolve_right fun q => by simp only [q] at h0; exact absurd h0 (by decide)
      exact BitVec.sle_iff_toInt_le.1 this
    have a1 : (ids m c (ix2 t k)).toInt < (16384#32 : BitVec 32).toInt := by
      have : BitVec.slt (ids m c (ix2 t k)) 16384#32 = true := by
        unfold IntOp.cmpi at h1
        exact (Bool.eq_false_or_eq_true _).resolve_right fun q => by simp only [q] at h1; exact absurd h1 (by decide)
      exact BitVec.slt_iff_toInt_lt.1 this
    rw [show (0#32 : BitVec 32).toInt = 0 from rfl] at a0
    rw [show (16384#32 : BitVec 32).toInt = 16384 from rfl] at a1
    rw [BitVec.toInt_eq_toNat_cond] at a0 a1
    split at a0 <;> omega
  · by_contra q
    rw [decide_eq_false q] at hg
    exact absurd hg (by decide)

/-! ## The claims -/

theorem frame_pi_routed : Cert.quiescent_KernelIdeal_pre_routed := fun m ρ _ => frame_pi m ρ trivial

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_routed : Cert.quiescent_ReferenceIdeal_pre_routed := fun m ρ _ => frame_ri m ρ trivial

/-- The words of two rounded halves, in the buffer of tables and in the body's values. -/
theorem preserves : Cert.preserves_Kernel_KernelIdeal :=
  ⟨IdealRules.bf16_pair.bufferStatement S34816x2x128 S34816x1x128, IdealRules.bf16_pair.halfStatement S128x128,
    IdealRules.bf16_pair.statement S128x2x128 S128x1x128, IdealRules.bf16_pair.statement S256x2x128 S256x1x128,
    IdealRules.bf16_pair.statement S512x128 S256x128⟩

/-- Under the precondition both programs leave the gated sum over the experts each token names. -/
theorem algebraic : Cert.algebraic_KernelIdeal_ReferenceIdeal_pre_routed := fun m ρ m' ρ' hpre hag =>
  ⟨fun c => whole m c,
    (θ_run Cert.KernelIdeal.defs _ _).mono (fun r h c => ⟨((h.1.1 c).1 5).trans (final m c), h.2 c⟩)
      (θ_run_and (run_main m ρ) (Cert.KernelIdeal.Gen.frame_of m ρ (dats m) (A_eq m)
        ((θ_run Cert.KernelIdeal.defs _ _).mono (fun _ h => h.1) (run_main m ρ)))),
    (θ_run Cert.ReferenceIdeal.defs _ _).mono (fun r h c => ⟨(h c).1.trans (by
        rw [(hag c).1, (hag c).2.1, (hag c).2.2.1, (hag c).2.2.2.1, (hag c).2.2.2.2]
        refine funext fun (i : (⟨2, ![16384, 2048]⟩ : Shape).Idx) => ?_
        rw [eq_ix2 i]
        refine Eq.trans ?_ (whole_at m c (i 0) (i 1)).symm
        refine (Ref.result_at (tok m c) (ids m c) (gates m c) (keys m c) (vals m c) (i 0) (i 1) (fun k => (routed_at m c hpre (i 0) k).1)).trans ?_
        exact (sum_experts (fun k => ids m c (ix2 (i 0) k)) (fun k => gates m c (ix2 (i 0) k)) (fun k => (routed_at m c hpre (i 0) k).1)
          (fun k => (routed_at m c hpre (i 0) k).2) (fun e => gelu (∑ n : Fin 2048, tok m c (ix2 (i 0) n) * keys m c (ix2 e n)))
          (fun e => vals m c (ix2 e (i 1)))).symm), (h c).2⟩)
      (Cert.ReferenceIdeal.Value.run (F := Ideal) m' ρ')⟩

end Cert.Proof.Expert

end
-- ==== Proof.InProjA.lean ====
/-
  The first column range of the input projection (columns 0 to 4095, single-precision result).  Each point of the grid
  multiplies a block of 1024 modulated rows, formed once per row block and kept in the scratch, by a block of 512
  weight columns; the result at row `r`, column `n` is the sum over `k` of `(x r k * scale k + shift k) * w k n`.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.Tactic
public import Idealize.ShloMosaic.Lib.Quiescent
public import proofs.«01_k».proof.Proof.InProj

@[expose] public section

set_option maxRecDepth 16384

noncomputable section

open Idealize.ShloMosaic Idealize.ShloMosaic.TcCoe Idealize.SL.Sem
open Idealize.ShloMosaic.Pipeline (Dat)
open Cert.Proof.InProj (z2 z3)

namespace Cert.Proof.InA

open Cert.Kernel2Ideal Cert.Kernel2Ideal.Gen Cert.Kernel2Ideal.Value

variable (m : (ℓ : Loc nD τ sig) → Buf (Elt Ideal) ℓ)

/-! ## What each case of the body leaves -/

theorem left_A (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole) (hc : cond0_0 i)
    (x0 : Vec Ideal S1024x2048 .f32) (x1 x2 : Vec Ideal S1x1x2048 .f32) (x3 : Vec Ideal S2048x512 .bf16) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero z2, View.readCov_unit_zero (S := S1024x2048) _ z2]
  simp only [View.readAt_eq_ld, h2.read_unread, h3.read_unread, h4.read_unread, h5.read_unread,
    View.ld_unit_zero (S := S1024x2048) z2, View.ld_unit_zero (S := S1x1x2048) z3, View.ld_unit_zero (S := S2048x512) z2]

theorem kept_A (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole) (hc : cond0_0 i)
    (x0 : Vec Ideal S1024x2048 .f32) (x1 x2 : Vec Ideal S1x1x2048 .f32) (x3 : Vec Ideal S2048x512 .bf16) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero z2]
  simp only [View.readAt_eq_ld, h2.read_unread, h3.read_unread, h4.read_unread,
    View.ld_unit_zero (S := S1024x2048) z2, View.ld_unit_zero (S := S1x1x2048) z3]

theorem left_B (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole) (hc : ¬cond0_0 i)
    (x0 : Vec Ideal S1024x2048 .f32) (x1 x2 : Vec Ideal S1x1x2048 .f32) (x3 : Vec Ideal S2048x512 .bf16)
    (s : Vec Ideal S1024x2048 .bf16) :
    out0_B_4 c i a2 h2 a3 h3 a4 h4 a5 h5 a6 h6 a7 h7 hc x0 x1 x2 x3 s = k0_pay2 s x3 := by
  unfold out0_B_4
  rw [View.read_writes_eq_canon _ _ _ (cover0_B_4 c i a2 h2 a3 h3 a4 h4 a5 h5 a6 h6 a7 h7 hc x0 x1 x2 x3 s)]
  unfold kernelRun0_B
  dsimp only
  sl_unfold_words
  rw [View.canon_unit_zero z2]
  simp only [View.readAt_eq_ld, h5.read_unread, h7.read_unread,
    View.ld_unit_zero (S := S1024x2048) z2, View.ld_unit_zero (S := S2048x512) z2]

/-! ## The blocks the windows read -/

/-- The block indices of the windows, as numbers of the point. -/
theorem idx_all : ∀ t : Fin grid0.N, win0_0.index t (0 : Fin 2) = t.val / 8 ∧ win0_0.index t (1 : Fin 2) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0
    ∧ win0_3.index t (0 : Fin 2) = 0 ∧ win0_3.index t (1 : Fin 2) = t.val % 8 := by decide +kernel

theorem t_lt (t : Fin cfg0.N) : t.val < 128 := lt_of_lt_of_eq t.isLt (show cfg0.N = 128 from N_0)

theorem rows_at (c : Dev nD) (t : Fin cfg0.N) (r : Fin 1024) (k : Fin 2048) :
    (iblk m c 0 t : Vec Ideal S1024x2048 .f32) (ix2 r k)
      = (m ((c : Thread nD τ).loc main_arg0) : Vec Ideal S16384x2048 .f32) (ix2 ⟨t.val / 8 * 1024 + r.val, by have := t_lt t; omega⟩ k) := by
  have hi := idx_all t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 8 * 1024 + r.val; rw [hi.1]; omega
  | ⟨1, _⟩ => show win0_0.index t 1 * 2048 + 1 * k.val = k.val; rw [hi.2.1]; omega

theorem scale_at (c : Dev nD) (t : Fin cfg0.N) (k : Fin 2048) :
    (iblk m c 1 t : Vec Ideal S1x1x2048 .f32) (ix3 0 0 k)
      = (m ((c : Thread nD τ).loc main_arg1) : Vec Ideal S4x1x2048 .f32) (ix3 ⟨t.val / 32, by have := t_lt t; omega⟩ 0 k) := by
  have hi := idx_all t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 32; rw [hi.2.2.1]; omega
  | ⟨1, _⟩ => show win0_1.index t 1 * 1 + 1 * 0 = 0; rw [hi.2.2.2.1]
  | ⟨2, _⟩ => show win0_1.index t 2 * 2048 + 1 * k.val = k.val; rw [hi.2.2.2.2.1]; omega

theorem shift_at (c : Dev nD) (t : Fin cfg0.N) (k : Fin 2048) :
    (iblk m c 2 t : Vec Ideal S1x1x2048 .f32) (ix3 0 0 k)
      = (m ((c : Thread nD τ).loc main_arg2) : Vec Ideal S4x1x2048 .f32) (ix3 ⟨t.val / 32, by have := t_lt t; omega⟩ 0 k) := by
  have hi := idx_all t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 32; rw [hi.2.2.2.2.2.1]; omega
  | ⟨1, _⟩ => show win0_2.index t 1 * 1 + 1 * 0 = 0; rw [hi.2.2.2.2.2.2.1]
  | ⟨2, _⟩ => show win0_2.index t 2 * 2048 + 1 * k.val = k.val; rw [hi.2.2.2.2.2.2.2.1]; omega

theorem weight_at (c : Dev nD) (t : Fin cfg0.N) (k : Fin 2048) (n : Fin 512) :
    (X0_3 m c t : Vec Ideal S2048x512 .bf16) (ix2 k n)
      = (m ((c : Thread nD τ).loc main_arg3) : Vec Ideal S2048x7696 .bf16) (ix2 k ⟨t.val % 8 * 512 + n.val, by have := t_lt t; omega⟩) := by
  have hi := idx_all t
  unfold X0_3 Pipeline.Window.fill
  rw [dif_pos (moved0_3 t _)]
  unfold iblk
  rw [View.read_apply]
  show V m c main_arg3 _ = m (c.tc.loc main_arg3) _
  rw [V_main_arg3]
  congr 1
  funext a
  apply Fin.ext
  match a with
  | ⟨0, _⟩ => show win0_3.index t 0 * 2048 + 1 * k.val = k.val; rw [hi.2.2.2.2.2.2.2.2.1]; omega
  | ⟨1, _⟩ => show win0_3.index t 1 * 512 + 1 * n.val = t.val % 8 * 512 + n.val; rw [hi.2.2.2.2.2.2.2.2.2]; omega

/-! ## The modulated rows a point finds in the scratch -/

/-- One entry of the modulated block: row times scale plus shift. -/
theorem modulated_at (x : Vec Ideal S1024x2048 .f32) (s b : Vec Ideal S1x1x2048 .f32) (r : Fin 1024) (k : Fin 2048) :
    (k0_pay1 x s b : Vec Ideal S1024x2048 .bf16) (ix2 r k) = x (ix2 r k) * s (ix3 0 0 k) + b (ix3 0 0 k) := by
  pointwise [k0_pay1]

/-- One entry of the block product. -/
theorem product_at (y : Vec Ideal S1024x2048 .bf16) (w : Vec Ideal S2048x512 .bf16) (r : Fin 1024) (n : Fin 512) :
    (k0_pay2 y w : Vec Ideal S1024x512 .f32) (ix2 r n) = ∑ k : Fin 2048, y (ix2 r k) * w (ix2 k n) := by
  pointwise [k0_pay2]

/-- The modulated block a point would form is the modulated rows of its row block. -/
theorem formed_at (c : Dev nD) (t : Fin cfg0.N) (r : Fin 1024) (k : Fin 2048) :
    (k0_pay1 (iblk m c 0 t) (iblk m c 1 t) (iblk m c 2 t) : Vec Ideal S1024x2048 .bf16) (ix2 r k)
      = InProj.row (m ((c : Thread nD τ).loc main_arg0)) (m ((c : Thread nD τ).loc main_arg1)) (m ((c : Thread nD τ).loc main_arg2))
          ⟨t.val / 8 * 1024 + r.val, by have := t_lt t; omega⟩ k := by
  rw [modulated_at, rows_at, scale_at, shift_at]
  unfold InProj.row
  have e : (t.val / 8 * 1024 + r.val) / 4096 = t.val / 32 := by omega
  simp only [e]

/-- After point `n` the scratch holds the modulated rows of the point's row block: the first of the eight points of
    a row block forms them and the others leave them. -/
theorem scratch_at (c : Dev nD) : ∀ (n : ℕ) (h : n < cfg0.N) (r : Fin 1024) (k : Fin 2048),
    ((outsAt0 m c n h).2 : Vec Ideal S1024x2048 .bf16) (ix2 r k)
      = InProj.row (m ((c : Thread nD τ).loc main_arg0)) (m ((c : Thread nD τ).loc main_arg1)) (m ((c : Thread nD τ).loc main_arg2))
          ⟨n / 8 * 1024 + r.val, by have : n < 128 := t_lt ⟨n, h⟩; omega⟩ k := by
  intro n
  induction n with
  | zero =>
    intro h r k
    rw [outsAt0_A m c ⟨0, h⟩ (Nat.zero_mod _)]
    dsimp only
    rw [kept_A]
    exact formed_at m c ⟨0, h⟩ r k
  | succ n ih =>
    intro h r k
    by_cases h0 : (n + 1) % 8 = 0
    · rw [outsAt0_A m c ⟨n + 1, h⟩ h0]
      dsimp only
      rw [kept_A]
      exact formed_at m c ⟨n + 1, h⟩ r k
    · rw [outsAt0_B m c ⟨n + 1, h⟩ h0]
      show ((outsAt0 m c n (Nat.lt_of_succ_lt h)).2 : Vec Ideal S1024x2048 .bf16) (ix2 r k) = _
      rw [ih (Nat.lt_of_succ_lt h) r k]
      have e8 : n / 8 = (n + 1) / 8 := by omega
      simp only [e8]

/-- The block a point leaves is the scratch it leaves times its weight block. -/
theorem block_eq (c : Dev nD) (t : Fin cfg0.N) :
    (outsAt0 m c t.val t.isLt).1 = k0_pay2 ((outsAt0 m c t.val t.isLt).2) (X0_3 m c t) := by
  by_cases h0 : t.val % 8 = 0
  · rw [outsAt0_A m c t h0]
    dsimp only
    rw [left_A, kept_A]
  · rw [outsAt0_B m c t h0]
    dsimp only
    rw [left_B]
    rfl

/-- The result array, entry by entry. -/
theorem result_at (c : Dev nD) (r : Fin 16384) (n : Fin 4096) :
    (G4 m c : Vec Ideal S16384x4096 .f32) (ix2 r n)
      = InProj.entry (m ((c : Thread nD τ).loc main_arg0)) (m ((c : Thread nD τ).loc main_arg1)) (m ((c : Thread nD τ).loc main_arg2))
          (m ((c : Thread nD τ).loc main_arg3)) r ⟨n.val, by omega⟩ := by
  have hp : pt4Of (ix2 r n) = 8 * (r.val / 1024) + n.val / 512 := by
    show 8 * (r.val / 1024 - 0) + 1 * (n.val / 512 - 0) = _; omega
  have hN : cfg0.N = 128 := N_0
  have hlt : pt4Of (ix2 r n) < cfg0.N := by rw [hp, hN]; omega
  unfold G4
  rw [dif_pos hlt, ← outsAt0_sweep m c _ hlt, block_eq m c ⟨_, hlt⟩]
  have hl : loc4Of (ix2 r n) = ix2 (⟨r.val % 1024, by omega⟩ : Fin 1024) (⟨n.val % 512, by omega⟩ : Fin 512) := by
    funext a
    match a with
    | ⟨0, _⟩ => rfl
    | ⟨1, _⟩ => rfl
  rw [hl]
  refine (product_at _ _ _ _).trans ?_
  unfold InProj.entry
  refine Finset.sum_congr rfl fun k _ => ?_
  have e1 : pt4Of (ix2 r n) / 8 * 1024 + r.val % 1024 = r.val := by rw [hp]; omega
  have e3 : pt4Of (ix2 r n) % 8 * 512 + n.val % 512 = n.val := by rw [hp]; omega
  exact congrArg₂ (· * ·)
    ((scratch_at m c _ hlt _ k).trans (congrArg (fun q => InProj.row _ _ _ q k) (Fin.ext e1)))
    ((weight_at m c ⟨_, hlt⟩ k _).trans (congrArg (fun q => (m ((c : Thread nD τ).loc main_arg3) : Vec Ideal S2048x7696 .bf16) (ix2 k q)) (Fin.ext e3)))

end Cert.Proof.InA

/-! ## The reference -/

namespace Cert.Proof.InA

open Cert.Reference2Ideal Cert.Reference2Ideal.Gen

/-- The reference's result, entry by entry. -/
theorem reference_at (x : FVec Ideal S16384x2048 .f32) (s b : FVec Ideal S4x1x2048 .f32) (w : FVec Ideal S2048x7696 .bf16)
    (r : Fin 16384) (n : Fin 4096) :
    (Host.dotGeneral dot_S16384x2048_S2048x4096_S16384x4096_1_0_0_1_n_n none (shapeCast _ (addf (mulf (shapeCast _ x shapeCasts_S16384x2048_S4x4096x2048) (broadcastInDim S4x4096x2048 ![0, 1, 2] bcast_S4x1x2048_S4x4096x2048_0_1_2 s)) (broadcastInDim S4x4096x2048 ![0, 1, 2] bcast_S4x1x2048_S4x4096x2048_0_1_2 b)) shapeCasts_S4x4096x2048_S16384x2048) (extf .f32 (extractStridedSlice S2048x4096 ![0, 0] w slices_S2048x7696_S2048x4096_0_0) bitsLt_bf16_f32) : FVec Ideal S16384x4096 .f32) (ix2 r n)
      = InProj.entry x s b w r ⟨n.val, by omega⟩ := by
  unfold InProj.entry InProj.row
  pointwise

end Cert.Proof.InA

/-! ## The claims -/

namespace Cert.Proof.InA

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs leave `InProj.entry` of the arguments at every index. -/
theorem algebraic : Cert.algebraic_Kernel2Ideal_Reference2Ideal := fun m ρ m' ρ' _ hag =>
  ⟨fun c => Cert.Kernel2Ideal.Value.G4 m c, Cert.Kernel2Ideal.Value.run m ρ,
    (θ_run Cert.Reference2Ideal.defs _ _).mono (fun r h c => ⟨(h c).1.trans (by
        rw [(hag c).1, (hag c).2.1, (hag c).2.2.1, (hag c).2.2.2]
        refine funext fun (i : (⟨2, ![16384, 4096]⟩ : Shape).Idx) => ?_
        rw [eq_ix2 i]
        exact (reference_at _ _ _ _ (i 0) (i 1)).trans (result_at m c (i 0) (i 1)).symm), (h c).2⟩)
      (Cert.Reference2Ideal.Value.run (F := Ideal) m' ρ')⟩

end Cert.Proof.InA

end
-- ==== Proof.InProjB.lean ====
/-
  The second column range of the input projection (columns 4096 to 5631, half-precision result).  Each point of the grid
  multiplies a block of 1024 modulated rows, formed once per row block and kept in the scratch, by a block of 512
  weight columns; the result at row `r`, column `n` is the sum over `k` of `(x r k * scale k + shift k) * w k n`.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Tactic
public import Idealize.ShloMosaic.Lib.Quiescent
public import proofs.«01_k».proof.Proof.InProj

@[expose] public section

set_option maxRecDepth 16384

noncomputable section

open Idealize.ShloMosaic Idealize.ShloMosaic.TcCoe Idealize.SL.Sem
open Idealize.ShloMosaic.Pipeline (Dat)
open Cert.Proof.InProj (z2 z3)

namespace Cert.Proof.InB

open Cert.Kernel3Ideal Cert.Kernel3Ideal.Gen Cert.Kernel3Ideal.Value

variable (m : (ℓ : Loc nD τ sig) → Buf (Elt Ideal) ℓ)

/-! ## What each case of the body leaves -/

theorem left_A (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .bf16) (h6 : a6.IsWhole)
    (a7 : Memref sig .tc .vmem S1024x2048 .bf16) (h7 : a7.IsWhole) (hc : cond0_0 i)
    (x0 : Vec Ideal S1024x2048 .f32) (x1 x2 : Vec Ideal S1x1x2048 .f32) (x3 : Vec Ideal S2048x512 .bf16) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero z2, View.readCov_unit_zero (S := S1024x2048) _ z2]
  simp only [View.readAt_eq_ld, h2.read_unread, h3.read_unread, h4.read_unread, h5.read_unread,
    View.ld_unit_zero (S := S1024x2048) z2, View.ld_unit_zero (S := S1x1x2048) z3, View.ld_unit_zero (S := S2048x512) z2]

theorem kept_A (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .bf16) (h6 : a6.IsWhole)
    (a7 : Memref sig .tc .vmem S1024x2048 .bf16) (h7 : a7.IsWhole) (hc : cond0_0 i)
    (x0 : Vec Ideal S1024x2048 .f32) (x1 x2 : Vec Ideal S1x1x2048 .f32) (x3 : Vec Ideal S2048x512 .bf16) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero z2]
  simp only [View.readAt_eq_ld, h2.read_unread, h3.read_unread, h4.read_unread,
    View.ld_unit_zero (S := S1024x2048) z2, View.ld_unit_zero (S := S1x1x2048) z3]

theorem left_B (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .bf16) (h6 : a6.IsWhole)
    (a7 : Memref sig .tc .vmem S1024x2048 .bf16) (h7 : a7.IsWhole) (hc : ¬cond0_0 i)
    (x0 : Vec Ideal S1024x2048 .f32) (x1 x2 : Vec Ideal S1x1x2048 .f32) (x3 : Vec Ideal S2048x512 .bf16)
    (s : Vec Ideal S1024x2048 .bf16) :
    out0_B_4 c i a2 h2 a3 h3 a4 h4 a5 h5 a6 h6 a7 h7 hc x0 x1 x2 x3 s = k0_pay2 s x3 := by
  unfold out0_B_4
  rw [View.read_writes_eq_canon _ _ _ (cover0_B_4 c i a2 h2 a3 h3 a4 h4 a5 h5 a6 h6 a7 h7 hc x0 x1 x2 x3 s)]
  unfold kernelRun0_B
  dsimp only
  sl_unfold_words
  rw [View.canon_unit_zero z2]
  simp only [View.readAt_eq_ld, h5.read_unread, h7.read_unread,
    View.ld_unit_zero (S := S1024x2048) z2, View.ld_unit_zero (S := S2048x512) z2]

/-! ## The blocks the windows read -/

/-- The block indices of the windows, as numbers of the point. -/
theorem idx_all : ∀ t : Fin grid0.N, win0_0.index t (0 : Fin 2) = t.val / 3 ∧ win0_0.index t (1 : Fin 2) = 0
    ∧ win0_1.index t (0 : Fin 3) = t.val / 12 ∧ win0_1.index t (1 : Fin 3) = 0 ∧ win0_1.index t (2 : Fin 3) = 0
    ∧ win0_2.index t (0 : Fin 3) = t.val / 12 ∧ win0_2.index t (1 : Fin 3) = 0 ∧ win0_2.index t (2 : Fin 3) = 0
    ∧ win0_3.index t (0 : Fin 2) = 0 ∧ win0_3.index t (1 : Fin 2) = t.val % 3 + 8 := by decide +kernel

theorem t_lt (t : Fin cfg0.N) : t.val < 48 := lt_of_lt_of_eq t.isLt (show cfg0.N = 48 from N_0)

theorem rows_at (c : Dev nD) (t : Fin cfg0.N) (r : Fin 1024) (k : Fin 2048) :
    (iblk m c 0 t : Vec Ideal S1024x2048 .f32) (ix2 r k)
      = (m ((c : Thread nD τ).loc main_arg0) : Vec Ideal S16384x2048 .f32) (ix2 ⟨t.val / 3 * 1024 + r.val, by have := t_lt t; omega⟩ k) := by
  have hi := idx_all t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 3 * 1024 + r.val; rw [hi.1]; omega
  | ⟨1, _⟩ => show win0_0.index t 1 * 2048 + 1 * k.val = k.val; rw [hi.2.1]; omega

theorem scale_at (c : Dev nD) (t : Fin cfg0.N) (k : Fin 2048) :
    (iblk m c 1 t : Vec Ideal S1x1x2048 .f32) (ix3 0 0 k)
      = (m ((c : Thread nD τ).loc main_arg1) : Vec Ideal S4x1x2048 .f32) (ix3 ⟨t.val / 12, by have := t_lt t; omega⟩ 0 k) := by
  have hi := idx_all t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 12; rw [hi.2.2.1]; omega
  | ⟨1, _⟩ => show win0_1.index t 1 * 1 + 1 * 0 = 0; rw [hi.2.2.2.1]
  | ⟨2, _⟩ => show win0_1.index t 2 * 2048 + 1 * k.val = k.val; rw [hi.2.2.2.2.1]; omega

theorem shift_at (c : Dev nD) (t : Fin cfg0.N) (k : Fin 2048) :
    (iblk m c 2 t : Vec Ideal S1x1x2048 .f32) (ix3 0 0 k)
      = (m ((c : Thread nD τ).loc main_arg2) : Vec Ideal S4x1x2048 .f32) (ix3 ⟨t.val / 12, by have := t_lt t; omega⟩ 0 k) := by
  have hi := idx_all t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 12; rw [hi.2.2.2.2.2.1]; omega
  | ⟨1, _⟩ => show win0_2.index t 1 * 1 + 1 * 0 = 0; rw [hi.2.2.2.2.2.2.1]
  | ⟨2, _⟩ => show win0_2.index t 2 * 2048 + 1 * k.val = k.val; rw [hi.2.2.2.2.2.2.2.1]; omega

theorem weight_at (c : Dev nD) (t : Fin cfg0.N) (k : Fin 2048) (n : Fin 512) :
    (X0_3 m c t : Vec Ideal S2048x512 .bf16) (ix2 k n)
      = (m ((c : Thread nD τ).loc main_arg3) : Vec Ideal S2048x7696 .bf16) (ix2 k ⟨(t.val % 3 + 8) * 512 + n.val, by have := t_lt t; omega⟩) := by
  have hi := idx_all t
  unfold X0_3 Pipeline.Window.fill
  rw [dif_pos (moved0_3 t _)]
  unfold iblk
  rw [View.read_apply]
  show V m c main_arg3 _ = m (c.tc.loc main_arg3) _
  rw [V_main_arg3]
  congr 1
  funext a
  apply Fin.ext
  match a with
  | ⟨0, _⟩ => show win0_3.index t 0 * 2048 + 1 * k.val = k.val; rw [hi.2.2.2.2.2.2.2.2.1]; omega
  | ⟨1, _⟩ => show win0_3.index t 1 * 512 + 1 * n.val = (t.val % 3 + 8) * 512 + n.val; rw [hi.2.2.2.2.2.2.2.2.2]; omega

/-! ## The modulated rows a point finds in the scratch -/

/-- One entry of the modulated block: row times scale plus shift. -/
theorem modulated_at (x : Vec Ideal S1024x2048 .f32) (s b : Vec Ideal S1x1x2048 .f32) (r : Fin 1024) (k : Fin 2048) :
    (k0_pay1 x s b : Vec Ideal S1024x2048 .bf16) (ix2 r k) = x (ix2 r k) * s (ix3 0 0 k) + b (ix3 0 0 k) := by
  pointwise [k0_pay1]

/-- One entry of the block product. -/
theorem product_at (y : Vec Ideal S1024x2048 .bf16) (w : Vec Ideal S2048x512 .bf16) (r : Fin 1024) (n : Fin 512) :
    (k0_pay2 y w : Vec Ideal S1024x512 .bf16) (ix2 r n) = ∑ k : Fin 2048, y (ix2 r k) * w (ix2 k n) := by
  pointwise [k0_pay2]

/-- The modulated block a point would form is the modulated rows of its row block. -/
theorem formed_at (c : Dev nD) (t : Fin cfg0.N) (r : Fin 1024) (k : Fin 2048) :
    (k0_pay1 (iblk m c 0 t) (iblk m c 1 t) (iblk m c 2 t) : Vec Ideal S1024x2048 .bf16) (ix2 r k)
      = InProj.row (m ((c : Thread nD τ).loc main_arg0)) (m ((c : Thread nD τ).loc main_arg1)) (m ((c : Thread nD τ).loc main_arg2))
          ⟨t.val / 3 * 1024 + r.val, by have := t_lt t; omega⟩ k := by
  rw [modulated_at, rows_at, scale_at, shift_at]
  unfold InProj.row
  have e : (t.val / 3 * 1024 + r.val) / 4096 = t.val / 12 := by omega
  simp only [e]

/-- After point `n` the scratch holds the modulated rows of the point's row block: the first of the three points of
    a row block forms them and the others leave them. -/
theorem scratch_at (c : Dev nD) : ∀ (n : ℕ) (h : n < cfg0.N) (r : Fin 1024) (k : Fin 2048),
    ((outsAt0 m c n h).2 : Vec Ideal S1024x2048 .bf16) (ix2 r k)
      = InProj.row (m ((c : Thread nD τ).loc main_arg0)) (m ((c : Thread nD τ).loc main_arg1)) (m ((c : Thread nD τ).loc main_arg2))
          ⟨n / 3 * 1024 + r.val, by have : n < 48 := t_lt ⟨n, h⟩; omega⟩ k := by
  intro n
  induction n with
  | zero =>
    intro h r k
    rw [outsAt0_A m c ⟨0, h⟩ (Nat.zero_mod _)]
    dsimp only
    rw [kept_A]
    exact formed_at m c ⟨0, h⟩ r k
  | succ n ih =>
    intro h r k
    by_cases h0 : (n + 1) % 3 = 0
    · rw [outsAt0_A m c ⟨n + 1, h⟩ h0]
      dsimp only
      rw [kept_A]
      exact formed_at m c ⟨n + 1, h⟩ r k
    · rw [outsAt0_B m c ⟨n + 1, h⟩ h0]
      show ((outsAt0 m c n (Nat.lt_of_succ_lt h)).2 : Vec Ideal S1024x2048 .bf16) (ix2 r k) = _
      rw [ih (Nat.lt_of_succ_lt h) r k]
      have e3' : n / 3 = (n + 1) / 3 := by omega
      simp only [e3']

/-- The block a point leaves is the scratch it leaves times its weight block. -/
theorem block_eq (c : Dev nD) (t : Fin cfg0.N) :
    (outsAt0 m c t.val t.isLt).1 = k0_pay2 ((outsAt0 m c t.val t.isLt).2) (X0_3 m c t) := by
  by_cases h0 : t.val % 3 = 0
  · rw [outsAt0_A m c t h0]
    dsimp only
    rw [left_A, kept_A]
  · rw [outsAt0_B m c t h0]
    dsimp only
    rw [left_B]
    rfl

/-- The result array, entry by entry. -/
theorem result_at (c : Dev nD) (r : Fin 16384) (n : Fin 1536) :
    (G4 m c : Vec Ideal S16384x1536 .bf16) (ix2 r n)
      = InProj.entry (m ((c : Thread nD τ).loc main_arg0)) (m ((c : Thread nD τ).loc main_arg1)) (m ((c : Thread nD τ).loc main_arg2))
          (m ((c : Thread nD τ).loc main_arg3)) r ⟨4096 + n.val, by omega⟩ := by
  have hp : pt4Of (ix2 r n) = 3 * (r.val / 1024) + n.val / 512 := by
    show 3 * (r.val / 1024 - 0) + 1 * (n.val / 512 - 0) = _; omega
  have hN : cfg0.N = 48 := N_0
  have hlt : pt4Of (ix2 r n) < cfg0.N := by rw [hp, hN]; omega
  unfold G4
  rw [dif_pos hlt, ← outsAt0_sweep m c _ hlt, block_eq m c ⟨_, hlt⟩]
  have hl : loc4Of (ix2 r n) = ix2 (⟨r.val % 1024, by omega⟩ : Fin 1024) (⟨n.val % 512, by omega⟩ : Fin 512) := by
    funext a
    match a with
    | ⟨0, _⟩ => rfl
    | ⟨1, _⟩ => rfl
  rw [hl]
  refine (product_at _ _ _ _).trans ?_
  unfold InProj.entry
  refine Finset.sum_congr rfl fun k _ => ?_
  have e1 : pt4Of (ix2 r n) / 3 * 1024 + r.val % 1024 = r.val := by rw [hp]; omega
  have e3 : (pt4Of (ix2 r n) % 3 + 8) * 512 + n.val % 512 = 4096 + n.val := by rw [hp]; omega
  exact congrArg₂ (· * ·)
    ((scratch_at m c _ hlt _ k).trans (congrArg (fun q => InProj.row _ _ _ q k) (Fin.ext e1)))
    ((weight_at m c ⟨_, hlt⟩ k _).trans (congrArg (fun q => (m ((c : Thread nD τ).loc main_arg3) : Vec Ideal S2048x7696 .bf16) (ix2 k q)) (Fin.ext e3)))

end Cert.Proof.InB

/-! ## The reference -/

namespace Cert.Proof.InB

open Cert.Reference3Ideal Cert.Reference3Ideal.Gen

/-- The reference's result, entry by entry. -/
theorem reference_at (x : FVec Ideal S16384x2048 .f32) (s b : FVec Ideal S4x1x2048 .f32) (w : FVec Ideal S2048x7696 .bf16)
    (r : Fin 16384) (n : Fin 1536) :
    (truncf .bf16 (Host.dotGeneral dot_S16384x2048_S2048x1536_S16384x1536_1_0_0_1_n_n none (shapeCast _ (addf (mulf (shapeCast _ x shapeCasts_S16384x2048_S4x4096x2048) (broadcastInDim S4x4096x2048 ![0, 1, 2] bcast_S4x1x2048_S4x4096x2048_0_1_2 s)) (broadcastInDim S4x4096x2048 ![0, 1, 2] bcast_S4x1x2048_S4x4096x2048_0_1_2 b)) shapeCasts_S4x4096x2048_S16384x2048) (extf .f32 (extractStridedSlice S2048x1536 ![0, 4096] w slices_S2048x7696_S2048x1536_0_4096) bitsLt_bf16_f32)) bitsLt_bf16_f32 : FVec Ideal S16384x1536 .bf16) (ix2 r n)
      = InProj.entry x s b w r ⟨4096 + n.val, by omega⟩ := by
  unfold InProj.entry InProj.row
  pointwise

end Cert.Proof.InB

/-! ## The claims -/

namespace Cert.Proof.InB

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs leave `InProj.entry` of the arguments at every index. -/
theorem algebraic : Cert.algebraic_Kernel3Ideal_Reference3Ideal := fun m ρ m' ρ' _ hag =>
  ⟨fun c => Cert.Kernel3Ideal.Value.G4 m c, Cert.Kernel3Ideal.Value.run m ρ,
    (θ_run Cert.Reference3Ideal.defs _ _).mono (fun r h c => ⟨(h c).1.trans (by
        rw [(hag c).1, (hag c).2.1, (hag c).2.2.1, (hag c).2.2.2]
        refine funext fun (i : (⟨2, ![16384, 1536]⟩ : Shape).Idx) => ?_
        rw [eq_ix2 i]
        exact (reference_at _ _ _ _ (i 0) (i 1)).trans (result_at m c (i 0) (i 1)).symm), (h c).2⟩)
      (Cert.Reference3Ideal.Value.run (F := Ideal) m' ρ')⟩

end Cert.Proof.InB

end
-- ==== Proof.InProjCRun.lean ====
/-
  The third column range of the input projection (columns 5632 to 7695): what one point of the grid does.  The last
  block of weight columns and of result columns reaches past the end of its array, so the run is stated over whatever
  the weight block holds there.
-/
module

public import proofs.«01_k».proof.Proof.Gen.Kernel4Ideal.Skeleton
public import proofs.«01_k».proof.Proof.Gen.Kernel4Ideal.Frame
public import proofs.«01_k».proof.Proof.InProj
public import Idealize.ShloMosaic.Lib.Pipeline.Value
public import Idealize.ShloMosaic.Lib.Tactic

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Proof.InProj (z2 z3)

variable {F : FTy → Type} [FloatOps F]

local notation "𝕄" => MT nD τ sig Unit (Elt F) ℕ (UR sig nD τ) ℕ

/-- The point is the first of its row block. -/
abbrev First (i : grid0.Coords) : Prop :=
  (Scalar.cmpi .ne (Scalar.extui (Scalar.cmpi .eq (BitVec.ofNat 32 (i 1).val) 0#32)) 0#32) = 1#1

theorem first_iff : ∀ t : Fin grid0.N, First (grid0.coords t) ↔ t.val % 5 = 0 := by decide +kernel

/-- One store over the whole of a memref leaves its payload. -/
theorem read_whole {S : Shape} {e : EltTy} (a : Memref sig .tc .vmem S e) (f) {off : Fin S.rank → Nat} (hz : off = fun _ => 0)
    (inb : ∀ x, off x + S.size x ≤ S.size x) (w : S.Idx → Elt F e) :
    a.view.read (Elt F) (a.view.writes (Elt F) f [⟨Rect.unit off S.size inb, w⟩]) = w := by
  rw [View.read_writes_eq_canon _ _ _ (fun y => ⟨_, List.mem_singleton_self _, by
    subst hz; show y ∈ (Rect.whole S).set; rw [Rect.set_whole]; exact Finset.mem_univ y⟩), View.canon_unit_zero hz]

theorem run_first (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole) (hc : First i)
    (x0 : Vec F S1024x2048 .f32) (x1 x2 : Vec F S1x1x2048 .f32) (x3 : Vec F S2048x512 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay2 (k0_pay1 x0 x1 x2) x3)
            ∗ owns (c : Thread nD τ) a7 fullShare (k0_pay1 x0 x1 x2)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    sl_unfold_words
    rw [read_whole _ _ z2, View.readCov_unit_zero (S := S1024x2048) _ z2]
    simp only [View.readAt_eq_ld, h2.read_unread, h3.read_unread, h4.read_unread, h5.read_unread,
      View.ld_unit_zero (S := S1024x2048) z2, View.ld_unit_zero (S := S1x1x2048) z3, View.ld_unit_zero (S := S2048x512) z2]
  · iexists _; isplitr
    swap; · iexact HS
    ipureintro
    sl_unfold_words
    rw [read_whole _ _ z2]
    simp only [View.readAt_eq_ld, h2.read_unread, h3.read_unread, h4.read_unread,
      View.ld_unit_zero (S := S1024x2048) z2, View.ld_unit_zero (S := S1x1x2048) z3]

theorem run_next (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole) (hc : ¬First i)
    (x0 : Vec F S1024x2048 .f32) (x1 x2 : Vec F S1x1x2048 .f32) (x3 : Vec F S2048x512 .bf16) (y : Vec F S1024x2048 .bf16)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare y
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay2 y x3)
            ∗ owns (c : Thread nD τ) a7 fullShare y) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := h2.eq_unread hf0; obtain rfl := h3.eq_unread hf1; obtain rfl := h4.eq_unread hf2; obtain rfl := h5.eq_unread hf3
  obtain rfl := h7.eq_unread hfs
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    sl_unfold_words
    rw [read_whole _ _ z2]
    simp only [View.readAt_eq_ld, h5.read_unread, h7.read_unread,
      View.ld_unit_zero (S := S1024x2048) z2, View.ld_unit_zero (S := S2048x512) z2]
  · iexists _; isplitr; · ipureintro; exact h7.read_unread _
    iexact HS

/-! ## The invariant's scratch, and the body's name at a point -/

abbrev rowsM : Memref sig .tc .vmem S1024x2048 .bf16 := Memref.whole cc0_scratch0

theorem rest_eq (c : Dev nD) :
    (Pipeline.ΦA spec0 c : sProp 𝕄)
      = iprop((∃ d, owns (c : Thread nD τ) rowsM fullShare d) ∗ (∃ r, prngReg c r)) := by
  unfold Pipeline.ΦA; rw [scopedRest0_eq]; simp only [rowsM, owns_whole]; rfl

theorem called (t : Fin cfg0.N) : (defs₀ (F := F)) .tc cfg0.body (cfg0.bodyArgs t (cfg0.slots t)) = bodyAt0 t := rfl

end Cert.Kernel4Ideal.Body

end
-- ==== Proof.InProjC.lean ====
/-
  The third column range of the input projection (columns 5632 to 7695, single-precision result).  Its last block of
  512 columns holds 16 columns of the array; what the buffers hold past them is left open, and nothing of it reaches
  the result.
-/
module

public import proofs.«01_k».proof.Defs
public import proofs.«01_k».proof.Proof.InProjCRun
public import proofs.«01_k».proof.Proof.Gen.Reference4Ideal.Run
public import Idealize.ShloMosaic.Lib.Pointwise
public import Idealize.ShloMosaic.Lib.Quiescent
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.Proof.InProj (z2 z3)

namespace Cert.Proof.InC

open Cert.Kernel4Ideal Cert.Kernel4Ideal.Gen Cert.Kernel4Ideal.Body

local notation "𝕄" => MT nD τ sig Unit (Elt Ideal) ℕ (UR sig nD τ) ℕ

variable (m : (ℓ : Loc nD τ sig) → Buf (Elt Ideal) ℓ) (ρ : Dev nD → PrngReg)

/-! ## The blocks the windows read -/

/-- The block indices of the windows, as numbers of the point. -/
theorem idx_all : ∀ t : Fin grid0.N, win0_0.index t (0 : Fin 2) = t.val / 5 ∧ win0_0.index t (1 : Fin 2) = 0
    ∧ win0_1.index t (0 : Fin 3) = t.val / 20 ∧ win0_1.index t (1 : Fin 3) = 0 ∧ win0_1.index t (2 : Fin 3) = 0
    ∧ win0_2.index t (0 : Fin 3) = t.val / 20 ∧ win0_2.index t (1 : Fin 3) = 0 ∧ win0_2.index t (2 : Fin 3) = 0
    ∧ win0_3.index t (0 : Fin 2) = 0 ∧ win0_3.index t (1 : Fin 2) = t.val % 5 + 11
    ∧ win0_4.index t (0 : Fin 2) = t.val / 5 ∧ win0_4.index t (1 : Fin 2) = t.val % 5 := by decide +kernel

/-- How much of each block lies inside its array: 512 columns, and 16 in the last block. -/
theorem size_all : ∀ t : Fin grid0.N, win0_3.xsize (grid0.coords t) (0 : Fin 2) = 2048
    ∧ win0_3.xsize (grid0.coords t) (1 : Fin 2) = min 512 (2064 - t.val % 5 * 512)
    ∧ win0_4.xsize (grid0.coords t) (0 : Fin 2) = 1024
    ∧ win0_4.xsize (grid0.coords t) (1 : Fin 2) = min 512 (2064 - t.val % 5 * 512) := by decide +kernel

theorem t_lt (t : Fin cfg0.N) : t.val < 80 := lt_of_lt_of_eq t.isLt (show cfg0.N = 80 from N_0)

theorem rows_at (c : Dev nD) (t : Fin cfg0.N) (r : Fin 1024) (k : Fin 2048) :
    (iblk m c 0 t : Vec Ideal S1024x2048 .f32) (ix2 r k)
      = (m ((c : Thread nD τ).loc main_arg0) : Vec Ideal S16384x2048 .f32) (ix2 ⟨t.val / 5 * 1024 + r.val, by have := t_lt t; omega⟩ k) := by
  have hi := idx_all t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 5 * 1024 + r.val; rw [hi.1]; omega
  | ⟨1, _⟩ => show win0_0.index t 1 * 2048 + 1 * k.val = k.val; rw [hi.2.1]; omega

theorem scale_at (c : Dev nD) (t : Fin cfg0.N) (k : Fin 2048) :
    (iblk m c 1 t : Vec Ideal S1x1x2048 .f32) (ix3 0 0 k)
      = (m ((c : Thread nD τ).loc main_arg1) : Vec Ideal S4x1x2048 .f32) (ix3 ⟨t.val / 20, by have := t_lt t; omega⟩ 0 k) := by
  have hi := idx_all t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 20; rw [hi.2.2.1]; omega
  | ⟨1, _⟩ => show win0_1.index t 1 * 1 + 1 * 0 = 0; rw [hi.2.2.2.1]
  | ⟨2, _⟩ => show win0_1.index t 2 * 2048 + 1 * k.val = k.val; rw [hi.2.2.2.2.1]; omega

theorem shift_at (c : Dev nD) (t : Fin cfg0.N) (k : Fin 2048) :
    (iblk m c 2 t : Vec Ideal S1x1x2048 .f32) (ix3 0 0 k)
      = (m ((c : Thread nD τ).loc main_arg2) : Vec Ideal S4x1x2048 .f32) (ix3 ⟨t.val / 20, by have := t_lt t; omega⟩ 0 k) := by
  have hi := idx_all t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 20; rw [hi.2.2.2.2.2.1]; omega
  | ⟨1, _⟩ => show win0_2.index t 1 * 1 + 1 * 0 = 0; rw [hi.2.2.2.2.2.2.1]
  | ⟨2, _⟩ => show win0_2.index t 2 * 2048 + 1 * k.val = k.val; rw [hi.2.2.2.2.2.2.2.1]; omega

/-- The weight block, at a column inside the array. -/
theorem weight_at (c : Dev nD) (t : Fin cfg0.N) (d : Vec Ideal S2048x512 .bf16) (k : Fin 2048) (n : Fin 512)
    (hn : t.val % 5 * 512 + n.val < 2064) :
    (win0_3.fill (grid0.coords t) d (iblk m c 3 t) : Vec Ideal S2048x512 .bf16) (ix2 k n)
      = (m ((c : Thread nD τ).loc main_arg3) : Vec Ideal S2048x7696 .bf16) (ix2 k ⟨5632 + (t.val % 5 * 512 + n.val), by omega⟩) := by
  have hi := idx_all t
  have hs := size_all t
  unfold Pipeline.Window.fill
  rw [dif_pos ((win0_3.moved_iff _ _).mpr fun a => by
    match a with
    | ⟨0, _⟩ => exact lt_of_lt_of_eq k.isLt hs.1.symm
    | ⟨1, _⟩ => exact lt_of_lt_of_eq (show n.val < min 512 (2064 - t.val % 5 * 512) by omega) hs.2.1.symm)]
  unfold iblk
  rw [View.read_apply]
  show V m c main_arg3 _ = m (c.tc.loc main_arg3) _
  rw [V_main_arg3]
  congr 1
  funext a
  apply Fin.ext
  match a with
  | ⟨0, _⟩ => show win0_3.index t 0 * 2048 + 1 * k.val = k.val; rw [hi.2.2.2.2.2.2.2.2.1]; omega
  | ⟨1, _⟩ => show win0_3.index t 1 * 512 + 1 * n.val = 5632 + (t.val % 5 * 512 + n.val); rw [hi.2.2.2.2.2.2.2.2.2.1]; omega

/-! ## The modulated rows a point finds in the scratch -/

/-- One entry of the modulated block: row times scale plus shift. -/
theorem modulated_at (x : Vec Ideal S1024x2048 .f32) (s b : Vec Ideal S1x1x2048 .f32) (r : Fin 1024) (k : Fin 2048) :
    (k0_pay1 x s b : Vec Ideal S1024x2048 .bf16) (ix2 r k) = x (ix2 r k) * s (ix3 0 0 k) + b (ix3 0 0 k) := by
  pointwise [k0_pay1]

/-- One entry of the block product. -/
theorem product_at (y : Vec Ideal S1024x2048 .bf16) (w : Vec Ideal S2048x512 .bf16) (r : Fin 1024) (n : Fin 512) :
    (k0_pay2 y w : Vec Ideal S1024x512 .f32) (ix2 r n) = ∑ k : Fin 2048, y (ix2 r k) * w (ix2 k n) := by
  pointwise [k0_pay2]

/-- The modulated rows of row block `q`. -/
def rows (c : Dev nD) (q : ℕ) : Vec Ideal S1024x2048 .bf16 := fun i =>
  InProj.row (m ((c : Thread nD τ).loc main_arg0)) (m ((c : Thread nD τ).loc main_arg1)) (m ((c : Thread nD τ).loc main_arg2))
    ⟨q % 16 * 1024 + (i 0).val, by have := (i 0).isLt; change (i 0).val < 1024 at this; omega⟩ (i 1)

/-- The modulated block a point forms is the modulated rows of its row block. -/
theorem formed (c : Dev nD) (t : Fin cfg0.N) :
    (k0_pay1 (iblk m c 0 t) (iblk m c 1 t) (iblk m c 2 t) : Vec Ideal S1024x2048 .bf16) = rows m c (t.val / 5) := by
  have ht := t_lt t
  have key : ∀ (r : Fin 1024) (k : Fin 2048),
      (k0_pay1 (iblk m c 0 t) (iblk m c 1 t) (iblk m c 2 t) : Vec Ideal S1024x2048 .bf16) (ix2 r k) = rows m c (t.val / 5) (ix2 r k) := by
    intro r k
    rw [modulated_at, rows_at, scale_at, shift_at]
    unfold rows InProj.row
    have e1 : t.val / 5 % 16 = t.val / 5 := by omega
    have e : (t.val / 5 * 1024 + r.val) / 4096 = t.val / 20 := by omega
    have e2 : ((ix2 r k : S1024x2048.Idx) 0).val = r.val := rfl
    simp only [e2, e1, e]
    rfl
  refine funext fun (i : (⟨2, ![1024, 2048]⟩ : Shape).Idx) => ?_
  exact (congrArg (k0_pay1 (iblk m c 0 t) (iblk m c 1 t) (iblk m c 2 t)) (eq_ix2 i)).trans
    ((key (i 0) (i 1)).trans (congrArg (rows m c (t.val / 5)) (eq_ix2 i)).symm)

/-- The result array. -/
def whole (c : Dev nD) : Vec Ideal S16384x2064 .f32 := fun i =>
  InProj.entry (m ((c : Thread nD τ).loc main_arg0)) (m ((c : Thread nD τ).loc main_arg1)) (m ((c : Thread nD τ).loc main_arg2))
    (m ((c : Thread nD τ).loc main_arg3)) (i 0) ⟨5632 + (i 1).val, by have := (i 1).isLt; change (i 1).val < 2064 at this; omega⟩

/-- The block of the result a point leaves; zero stands at the columns past the array, which nothing reads. -/
def block (c : Dev nD) (t : Fin cfg0.N) : Vec Ideal S1024x512 .f32 := fun y =>
  if h : t.val % 5 * 512 + (y 1).val < 2064 then
    whole m c (ix2 ⟨t.val / 5 * 1024 + (y 0).val, by have := t_lt t; have := (y 0).isLt; change (y 0).val < 1024 at this; omega⟩
      ⟨t.val % 5 * 512 + (y 1).val, h⟩)
  else (0 : EReal)

/-- What the body leaves in the result's buffer agrees with `block` inside the array. -/
theorem left_eq (c : Dev nD) (t : Fin cfg0.N) (d : Vec Ideal S2048x512 .bf16) :
    win0_4.fill (grid0.coords t) (k0_pay2 (rows m c (t.val / 5)) (win0_3.fill (grid0.coords t) d (iblk m c 3 t)))
        (win0_4.cut (grid0.coords t) (block m c t))
      = k0_pay2 (rows m c (t.val / 5)) (win0_3.fill (grid0.coords t) d (iblk m c 3 t)) := by
  have ht := t_lt t
  funext y
  unfold Pipeline.Window.fill
  split
  · rename_i hm
    have hm' := (win0_4.moved_iff _ _).mp hm
    have h1 : (y 1).val < min 512 (2064 - t.val % 5 * 512) := lt_of_lt_of_eq (hm' 1) (size_all t).2.2.2
    have hb : (y 0).val < 1024 := (y 0).isLt
    have hin : t.val % 5 * 512 + (y 1).val < 2064 := by omega
    show block m c t y = _
    unfold block
    rw [dif_pos hin]
    conv_rhs => rw [show y = ix2 (y 0) (y 1) from eq_ix2 y]
    refine Eq.trans ?_ (product_at _ _ _ _).symm
    unfold whole InProj.entry
    refine Finset.sum_congr rfl fun k _ => ?_
    refine congrArg₂ (· * ·) ?_ (weight_at m c t d k (y 1) hin).symm
    unfold rows
    have e1 : t.val / 5 % 16 = t.val / 5 := by omega
    simp only [e1]
    rfl
  · rfl

/-! ## The launch -/

/-- Before point `n` the scratch holds the modulated rows of the point's row block, except before the first point of
    a row block. -/
def inv (c : Dev nD) (n : ℕ) : sProp 𝕄 :=
  iprop((∃ d, ⌜n % 5 ≠ 0 → d = rows m c (n / 5)⌝ ∗ owns (c : Thread nD τ) rowsM fullShare d) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => (0 : EReal)) (iblk m c 3 t)
    | ⟨4, _⟩ => block m c t
  Φ t := inv m c t.val
  q _ := fullShare
  owed _ := 0

theorem A_eq (c : Dev nD) (w : Fin cfg0.W) : (dats m 0 c).A w = V m c (Pipeline.arrRef spec0 w) := by
  dsimp only [dats]

theorem found_0 (c : Dev nD) (t : Fin cfg0.N) (d) : (dats m 0 c).before 0 t d = iblk m c 0 t :=
  before0_0_of m (dats m 0 c) (A_eq m c 0) (fun t => by dsimp only [dats]) t d
theorem found_1 (c : Dev nD) (t : Fin cfg0.N) (d) : (dats m 0 c).before 1 t d = iblk m c 1 t :=
  before0_1_of m (dats m 0 c) (A_eq m c 1) (fun t => by dsimp only [dats]) t d
theorem found_2 (c : Dev nD) (t : Fin cfg0.N) (d) : (dats m 0 c).before 2 t d = iblk m c 2 t :=
  before0_2_of m (dats m 0 c) (A_eq m c 2) (fun t => by dsimp only [dats]) t d
theorem found_3 (c : Dev nD) (t : Fin cfg0.N) (d) :
    (dats m 0 c).before 3 t d = win0_3.fill (grid0.coords t) d (iblk m c 3 t) := by
  unfold Dat.before; rw [if_pos (fetch0_3 t)]; rfl

theorem obligation (c : Dev nD) : BodyObligationLoose (dats m 0 c) (defs₀ (F := Ideal)) Variants.none () Set.univ := fun t => by
  have ht := t_lt t
  rw [bigSep_W0, bigSep_W0, called]
  simp only
  rw [show (dats m 0 c).Φ t.castSucc = inv m c t.val from rfl, show (dats m 0 c).Φ t.succ = inv m c (t.val + 1) from rfl,
    show (dats m 0 c).owesAt () t.succ = (dats m 0 c).owesAt () t.castSucc from rfl]
  unfold inv
  iintro ⟨⟨⟨%ds, %hds, HS⟩, Hg⟩, Ho, ⟨%d0, H0⟩, ⟨%d1, H1⟩, ⟨%d2, H2⟩, ⟨%d3, H3⟩, ⟨%d4, H4⟩⟩
  rw [found_0 m c t d0, found_1 m c t d1, found_2 m c t d2, found_3 m c t d3]
  obtain ⟨P, hP⟩ : ∃ P : Vec Ideal S1024x512 .f32, P = k0_pay2 (rows m c (t.val / 5)) (win0_3.fill (grid0.coords t) d3 (iblk m c 3 t)) := ⟨_, rfl⟩
  have hleft := left_eq m c t d3
  rw [← hP] at hleft
  have key : ∀ e (K : PUnit → sProp 𝕄), iprop(owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (win0_3.fill (grid0.coords t) d3 (iblk m c 3 t))
      ∗ owns (c : Thread nD τ) (win0_4.stage (cfg0.slots t 4)) fullShare e
      ∗ owns (c : Thread nD τ) rowsM fullShare ds
      ∗ (iprop(owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (win0_3.fill (grid0.coords t) d3 (iblk m c 3 t))
      ∗ owns (c : Thread nD τ) (win0_4.stage (cfg0.slots t 4)) fullShare P
      ∗ owns (c : Thread nD τ) rowsM fullShare (rows m c (t.val / 5))) -∗ K ⟨⟩))
      ⊢ wp frame (wpE (defs₀ (F := Ideal)) Variants.none c none) Set.univ (bodyAt0 t) K := by
    intro e K
    rw [hP]
    by_cases h0 : t.val % 5 = 0
    · have r := run_first (F := Ideal) c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (win0_4.stage (cfg0.slots t 4)) (hstage0_4 ((cfg0.slots t 4).cast nbuf0_4))
        rowsM (Memref.isWhole_whole _) ((first_iff t).mpr h0) (iblk m c 0 t) (iblk m c 1 t) (iblk m c 2 t)
        (win0_3.fill (grid0.coords t) d3 (iblk m c 3 t)) Set.univ
      rw [formed] at r
      iintro ⟨H0, H1, H2, H3, H4, HS, Hk⟩
      iapply (r K)
      isplitl [H0]; · iexact H0
      isplitl [H1]; · iexact H1
      isplitl [H2]; · iexact H2
      isplitl [H3]; · iexact H3
      isplitl [H4]; · iexists _; iexact H4
      isplitl [HS]; · iexists _; iexact HS
      iexact Hk
    · have r := run_next (F := Ideal) c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (win0_4.stage (cfg0.slots t 4)) (hstage0_4 ((cfg0.slots t 4).cast nbuf0_4))
        rowsM (Memref.isWhole_whole _) (fun h => h0 ((first_iff t).mp h)) (iblk m c 0 t) (iblk m c 1 t) (iblk m c 2 t)
        (win0_3.fill (grid0.coords t) d3 (iblk m c 3 t)) (rows m c (t.val / 5)) Set.univ
      rw [hds h0]
      iintro ⟨H0, H1, H2, H3, H4, HS, Hk⟩
      iapply (r K)
      isplitl [H0]; · iexact H0
      isplitl [H1]; · iexact H1
      isplitl [H2]; · iexact H2
      isplitl [H3]; · iexact H3
      isplitl [H4]; · iexists _; iexact H4
      isplitl [HS]; · iexact HS
      iexact Hk
  iapply (key _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; isplitr
      swap; · iexact HS
      ipureintro
      intro h
      have e : (t.val + 1) / 5 = t.val / 5 := by omega
      rw [e]
    iexact Hg
  isplitl [Ho]; · iexact Ho
  isplitl [H0]; · iexact H0
  isplitl [H1]; · iexact H1
  isplitl [H2]; · iexact H2
  isplitl [H3]
  · iexists d3
    change _ ⊢ owns (c : Thread nD τ) (win0_3.stage (cfg0.slots t 3)) fullShare
      (win0_3.fill (grid0.coords t) d3 (win0_3.cut (grid0.coords t) (win0_3.fill (grid0.coords t) (fun _ => (0 : EReal)) (iblk m c 3 t))))
    rw [Pipeline.Window.cut_fill]
    try iexact H3
  · iexists P
    change _ ⊢ owns (c : Thread nD τ) (win0_4.stage (cfg0.slots t 4)) fullShare
      (win0_4.fill (grid0.coords t) P (win0_4.cut (grid0.coords t) (block m c t)))
    rw [hleft]
    try iexact H4

/-- What the launch hands over is the invariant before the first point. -/
theorem hin (c : Dev nD) : Pipeline.ΦA spec0 c ⊢ (dats m 0 c).Φ 0 := by
  rw [show (dats m 0 c).Φ 0 = inv m c 0 from rfl, rest_eq]
  unfold inv
  iintro ⟨⟨%d, HS⟩, Hg⟩
  isplitl [HS]
  · iexists d; isplitr
    · ipureintro; exact fun h => absurd rfl h
    iexact HS
  iexact Hg

theorem hout (c : Dev nD) : (dats m 0 c).Φ (Fin.last cfg0.N) ⊢ Pipeline.ΦA spec0 c := by
  rw [show (dats m 0 c).Φ (Fin.last cfg0.N) = inv m c (Fin.last cfg0.N).val from rfl, rest_eq]
  unfold inv
  iintro ⟨⟨%d, %hd, HS⟩, Hg⟩
  isplitl [HS]
  · iexists d; iexact HS
  iexact Hg

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := hin m) (hout := hout m)

/-- The result array after the last point. -/
theorem final (c : Dev nD) : (dats m 0 c).arrAt 4 cfg0.N = whole m c := by
  refine (dats m 0 c).arrAt_eq_of_covers 4 _ (by decide +kernel) fun t hf y => ?_
  have ht := t_lt t
  have hi := idx_all t
  have hs := size_all t
  have h1 : (y 1).val < min 512 (2064 - t.val % 5 * 512) := lt_of_lt_of_eq (y 1).isLt hs.2.2.2
  have hin : t.val % 5 * 512 + (y 1).val < 2064 := by omega
  show block m c t (win0_4.xinj (grid0.coords t) y) = whole m c ((win0_4.blk t).view.emb y)
  unfold block
  rw [dif_pos hin]
  congr 1
  funext a
  apply Fin.ext
  match a with
  | ⟨0, _⟩ => show t.val / 5 * 1024 + (y 0).val = win0_4.index t 0 * 1024 + 1 * (y 0).val; rw [hi.2.2.2.2.2.2.2.2.2.2.1]; omega
  | ⟨1, _⟩ => show t.val % 5 * 512 + (y 1).val = win0_4.index t 1 * 512 + 1 * (y 1).val; rw [hi.2.2.2.2.2.2.2.2.2.2.2]; omega

end Cert.Proof.InC

/-! ## The reference -/

namespace Cert.Proof.InC

open Cert.Reference4Ideal Cert.Reference4Ideal.Gen

/-- The reference's result, entry by entry. -/
theorem reference_at (x : FVec Ideal S16384x2048 .f32) (s b : FVec Ideal S4x1x2048 .f32) (w : FVec Ideal S2048x7696 .bf16)
    (r : Fin 16384) (n : Fin 2064) :
    (Host.dotGeneral dot_S16384x2048_S2048x2064_S16384x2064_1_0_0_1_n_n none (shapeCast _ (addf (mulf (shapeCast _ x shapeCasts_S16384x2048_S4x4096x2048) (broadcastInDim S4x4096x2048 ![0, 1, 2] bcast_S4x1x2048_S4x4096x2048_0_1_2 s)) (broadcastInDim S4x4096x2048 ![0, 1, 2] bcast_S4x1x2048_S4x4096x2048_0_1_2 b)) shapeCasts_S4x4096x2048_S16384x2048) (extf .f32 (extractStridedSlice S2048x2064 ![0, 5632] w slices_S2048x7696_S2048x2064_0_5632) bitsLt_bf16_f32) : FVec Ideal S16384x2064 .f32) (ix2 r n)
      = InProj.entry x s b w r ⟨5632 + n.val, by omega⟩ := by
  unfold InProj.entry InProj.row
  pointwise

end Cert.Proof.InC

/-! ## The claims -/

namespace Cert.Proof.InC

theorem frame_pi : Cert.quiescent_Kernel4Ideal := fun m ρ _ =>
  θ_run_and (Cert.Kernel4Ideal.Gen.frame_of m ρ (dats m) (A_eq m) ((θ_run Cert.Kernel4Ideal.defs _ _).mono (fun _ h => h.1) (run_main m ρ)))
    ((θ_run Cert.Kernel4Ideal.defs _ _).mono (fun _ h => h.2) (run_main m ρ))

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs leave `InProj.entry` of the arguments at every index. -/
theorem algebraic : Cert.algebraic_Kernel4Ideal_Reference4Ideal := fun m ρ m' ρ' _ hag =>
  ⟨fun c => whole m c,
    (θ_run Cert.Kernel4Ideal.defs _ _).mono (fun r h c => ⟨((h.1.1 c).1 4).trans (final m c), h.2 c⟩)
      (θ_run_and (run_main m ρ) (Cert.Kernel4Ideal.Gen.frame_of m ρ (dats m) (A_eq m)
        ((θ_run Cert.Kernel4Ideal.defs _ _).mono (fun _ h => h.1) (run_main m ρ)))),
    (θ_run Cert.Reference4Ideal.defs _ _).mono (fun r h c => ⟨(h c).1.trans (by
        rw [(hag c).1, (hag c).2.1, (hag c).2.2.1, (hag c).2.2.2]
        refine funext fun (i : (⟨2, ![16384, 2064]⟩ : Shape).Idx) => ?_
        rw [eq_ix2 i]
        exact reference_at _ _ _ _ (i 0) (i 1)), (h c).2⟩)
      (Cert.Reference4Ideal.Value.run (F := Ideal) m' ρ')⟩

end Cert.Proof.InC

end
-- ==== Proof.InProjCBits.lean ====
/-
  The third column range of the input projection at the machine's words: it runs to completion, leaves its arguments as
  they were and every counter at zero.  What it leaves in the result is not stated here.
-/
module

public import proofs.«01_k».proof.Proof.Gen.Kernel4.Skeleton
public import proofs.«01_k».proof.Proof.Gen.Kernel4.Frame
public import proofs.«01_k».proof.Defs
public import Idealize.ShloMosaic.Lib.Pipeline.Value
public import Idealize.ShloMosaic.Lib.Tactic

@[expose] public section

set_option maxRecDepth 16384

noncomputable section

namespace Cert.Kernel4.Body

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The point is the first of its row block. -/
abbrev First (i : grid0.Coords) : Prop :=
  (Scalar.cmpi .ne (Scalar.extui (Scalar.cmpi .eq (BitVec.ofNat 32 (i 1).val) 0#32)) 0#32) = 1#1

/-- The body at any point keeps what its inputs' buffers hold. -/
theorem run_keeps (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S2048x512 .bf16) (h5 : a5.IsWhole) (a6 : Memref sig .tc .vmem S1024x512 .f32) (h6 : a6.IsWhole)
    (a7 : Memref sig .tc .vmem S1024x2048 .bf16) (h7 : a7.IsWhole)
    (x0 : Vec F S1024x2048 .f32) (x1 x2 : Vec F S1x1x2048 .f32) (x3 : Vec F S2048x512 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (∃ d, owns (c : Thread nD τ) a7 fullShare d)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  by_cases hc : First i
  all_goals
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; iexists _; isplitr
      swap; · iexact H4
      ipureintro; rfl
    · iexists _; iexists _; isplitr
      swap; · iexact HS
      ipureintro; rfl

abbrev rowsM : Memref sig .tc .vmem S1024x2048 .bf16 := Memref.whole cc0_scratch0

theorem rest_eq (c : Dev nD) :
    (Pipeline.ΦA spec0 c : sProp 𝕄)
      = iprop((∃ d, owns (c : Thread nD τ) rowsM fullShare d) ∗ (∃ r, prngReg c r)) := by
  unfold Pipeline.ΦA; rw [scopedRest0_eq]; simp only [rowsM, owns_whole]; rfl

theorem called (t : Fin cfg0.N) : (defs₀ (F := F)) .tc cfg0.body (cfg0.bodyArgs t (cfg0.slots t)) = bodyAt0 t := rfl

/-! ## The launch -/

variable (m : (ℓ : Loc nD τ sig) → Buf (Elt F) ℓ) (ρ : Dev nD → PrngReg)

/-- Only the result's window is left open. -/
def open4 : Fin cfg0.W → Bool := fun w => match w with
  | ⟨4, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .bf16 0#16) (iblk m c 3 t)
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem found_0 (c : Dev nD) (t : Fin cfg0.N) (d) : (dats m 0 c).before 0 t d = iblk m c 0 t :=
  before0_0_of m (dats m 0 c) (A_eq m c 0) (fun t => by dsimp only [dats]) t d
theorem found_1 (c : Dev nD) (t : Fin cfg0.N) (d) : (dats m 0 c).before 1 t d = iblk m c 1 t :=
  before0_1_of m (dats m 0 c) (A_eq m c 1) (fun t => by dsimp only [dats]) t d
theorem found_2 (c : Dev nD) (t : Fin cfg0.N) (d) : (dats m 0 c).before 2 t d = iblk m c 2 t :=
  before0_2_of m (dats m 0 c) (A_eq m c 2) (fun t => by dsimp only [dats]) t d
theorem found_3 (c : Dev nD) (t : Fin cfg0.N) (d) :
    (dats m 0 c).before 3 t d = win0_3.fill (grid0.coords t) d (iblk m c 3 t) := by
  unfold Dat.before; rw [if_pos (fetch0_3 t)]; rfl

theorem obligation (c : Dev nD) : BodyObligationLoose (dats m 0 c) (defs₀ (F := F)) Variants.none () Set.univ open4 := fun t => by
  rw [bigSep_W0, bigSep_W0, called]
  simp only [open4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, rest_eq]
  iintro ⟨⟨HS, Hg⟩, Ho, ⟨%d0, H0⟩, ⟨%d1, H1⟩, ⟨%d2, H2⟩, ⟨%d3, H3⟩, H4⟩
  rw [found_0 m c t d0, found_1 m c t d1, found_2 m c t d2, found_3 m c t d3]
  iapply (run_keeps (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    rowsM (Memref.isWhole_whole _) (iblk m c 0 t) (iblk m c 1 t) (iblk m c 2 t)
    (win0_3.fill (grid0.coords t) d3 (iblk m c 3 t)) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · iexists d3
    change _ ⊢ owns (c : Thread nD τ) (win0_3.stage (cfg0.slots t 3)) fullShare
      (win0_3.fill (grid0.coords t) d3 (win0_3.cut (grid0.coords t) ((dats m 0 c).after 3 t)))
    rw [show win0_3.cut (grid0.coords t) ((dats m 0 c).after 3 t) = iblk m c 3 t from win0_3.cut_fill _ _ _]
    try iexact H3
  iexact H4

set_option backward.isDefEq.respectTransparency.types false in
theorem run_main : θ_run defs (onTc (τ := τ) (main (F := F))) (s₀ m ρ)
    (fun r => Pipeline.RDat.FramePost cfg0 (fun c => (dats m 0 c).toRForget open4) (V m) r ∧ r.2.sem = fun _ => 0) :=
  Pipeline.θ_run_frame_forget (Q' := _) cfgs (dats m) (0 : Fin 1) launch0 defs₀ Variants.none open4 m ρ main
    (hbody := fun c => obligation m c) (hshare := fun c => (dats m 0 c).share_full fun _ => rfl)
    (howed := fun _ _ => rfl) (V := V m) (hmain := hmain m Variants.none) (hA := A_eq m) (hΦ := fun _ _ => rfl)

end Cert.Kernel4.Body

namespace Cert.Proof.InC

open Cert.Kernel4 Cert.Kernel4.Gen Cert.Kernel4.Body
open Idealize.ShloMosaic Idealize.ShloMosaic.TcCoe Idealize.SL.Sem

theorem frame_p : Cert.quiescent_Kernel4 := fun m ρ _ =>
  (θ_run Cert.Kernel4.defs _ _).mono (fun r h => ⟨fun c =>
    ⟨(h.1.arr_in c 0 rfl).trans (V_main_arg0 m c), (h.1.arr_in c 1 rfl).trans (V_main_arg1 m c),
     (h.1.arr_in c 2 rfl).trans (V_main_arg2 m c), (h.1.arr_in c 3 rfl).trans (V_main_arg3 m c)⟩, h.2⟩) (run_main m ρ)

end Cert.Proof.InC

end
-- ==== Proof.Norm.lean ====
/-
  The layer norm of a row, as a number: the row less its mean, times the reciprocal root of its mean square
  deviation plus a small constant, scaled and shifted column by column.
-/
module

public import Idealize.ShloMosaic.Lib.Pointwise

@[expose] public section

noncomputable section

open Idealize.ShloMosaic

namespace Cert.Proof.Norm

/-- The mean of a row of 2048 numbers. -/
def mean (z : Fin 2048 → EReal) : EReal :=
  (FloatOps.divf (F := Ideal) (φ := .f32) (∑ k : Fin 2048, z k : EReal) (Scalar.ofBits (F := Ideal) .f32 0x45000000#32) : Ideal .f32)

/-- The norm of a row at column `n`, with scale `g` and shift `b`. -/
def norm (z g b : Fin 2048 → EReal) (n : Fin 2048) : EReal :=
  (z n - mean z) * (FloatOps.rsqrt (F := Ideal) (φ := .f32)
    (mean (fun k => (z k - mean z) * (z k - mean z)) + (Scalar.ofBits (F := Ideal) .f32 0x3727C5AC#32 : Ideal .f32) : EReal) : Ideal .f32) * g n + b n

/-- What the residual step norms: the row times a constant plus the gated update. -/
def mixed (x gate y : Fin 2048 → EReal) (k : Fin 2048) : EReal :=
  (Scalar.ofBits (F := Ideal) .f32 0x3FB504F3#32 : Ideal .f32) * x k + gate k * y k

end Cert.Proof.Norm

end
-- ==== Proof.Residual.lean ====
/-
  The residual step with its norm: each row, times a constant, plus its update times the row group's gate, is normed.
  Each point of the grid takes a block of 256 rows.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Norm
public import proofs.«01_k».proof.Proof.InProj
public import Idealize.ShloMosaic.Lib.Pipeline.Value
public import Idealize.ShloMosaic.Lib.Pipeline.ValueKit
public import Idealize.ShloMosaic.Lib.Tactic
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Proof.InProj (z2 z3)

namespace Cert.Proof.Res

open Cert.Kernel6Ideal Cert.Kernel6Ideal.Gen Cert.Kernel6Ideal.Value

theorem block_at (x y : Vec Ideal S256x2048 .f32) (s : Vec Ideal S1x1x2048 .f32) (g b : Vec Ideal S1x2048 .f32) (r : Fin 256) (n : Fin 2048) :
    (k0_pay1 x s y g b : Vec Ideal S256x2048 .f32) (ix2 r n)
      = Norm.norm (Norm.mixed (fun k => x (ix2 r k)) (fun k => s (ix3 0 0 k)) (fun k => y (ix2 r k))) (fun k => g (ix2 0 k)) (fun k => b (ix2 0 k)) n := by
  unfold Norm.norm Norm.mean Norm.mixed
  pointwise [k0_pay1]

/-! ## The blocks the windows read -/

variable (m : (ℓ : Loc nD τ sig) → Buf (Elt Ideal) ℓ)

/-- The block indices of the windows, as numbers of the point. -/
theorem idx_all : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 := by decide +kernel

theorem t_lt (t : Fin cfg0.N) : t.val < 64 := lt_of_lt_of_eq t.isLt (show cfg0.N = 64 from N_0)

theorem rows_at (c : Dev nD) (t : Fin cfg0.N) (r : Fin 256) (k : Fin 2048) :
    (iblk m c 0 t : Vec Ideal S256x2048 .f32) (ix2 r k)
      = (m ((c : Thread nD τ).loc main_arg0) : Vec Ideal S16384x2048 .f32) (ix2 ⟨t.val * 256 + r.val, by have := t_lt t; omega⟩ k) := by
  have hi := idx_all t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [hi.1]; omega
  | ⟨1, _⟩ => show win0_0.index t 1 * 2048 + 1 * k.val = k.val; rw [hi.2.1]; omega

theorem update_at (c : Dev nD) (t : Fin cfg0.N) (r : Fin 256) (k : Fin 2048) :
    (iblk m c 1 t : Vec Ideal S256x2048 .f32) (ix2 r k)
      = (m ((c : Thread nD τ).loc main_arg1) : Vec Ideal S16384x2048 .f32) (ix2 ⟨t.val * 256 + r.val, by have := t_lt t; omega⟩ k) := by
  have hi := idx_all t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = t.val * 256 + r.val; rw [hi.2.2.1]; omega
  | ⟨1, _⟩ => show win0_1.index t 1 * 2048 + 1 * k.val = k.val; rw [hi.2.2.2.1]; omega

theorem gate_at (c : Dev nD) (t : Fin cfg0.N) (k : Fin 2048) :
    (iblk m c 2 t : Vec Ideal S1x1x2048 .f32) (ix3 0 0 k)
      = (m ((c : Thread nD τ).loc main_arg2) : Vec Ideal S4x1x2048 .f32) (ix3 ⟨t.val / 16, by have := t_lt t; omega⟩ 0 k) := by
  have hi := idx_all t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 16; rw [hi.2.2.2.2.1]; omega
  | ⟨1, _⟩ => show win0_2.index t 1 * 1 + 1 * 0 = 0; rw [hi.2.2.2.2.2.1]
  | ⟨2, _⟩ => show win0_2.index t 2 * 2048 + 1 * k.val = k.val; rw [hi.2.2.2.2.2.2.1]; omega

/-- The norm's scale as the kernel is given it: the argument as one row. -/
theorem V_main_v0 (c : Dev nD) : V m c main_v0
    = (shapeCast S1x2048 (m ((c : Thread nD τ).loc main_arg3) : Vec Ideal S2048 .f32) shapeCasts_S2048_S1x2048 : Vec Ideal S1x2048 .f32) := by
  show StableHlo.after hostOps0 _ (Proc.devRef .tc main_v0) = _
  after_results
  rfl

/-- The norm's shift as the kernel is given it: the argument as one row. -/
theorem V_main_v1 (c : Dev nD) : V m c main_v1
    = (shapeCast S1x2048 (m ((c : Thread nD τ).loc main_arg4) : Vec Ideal S2048 .f32) shapeCasts_S2048_S1x2048 : Vec Ideal S1x2048 .f32) := by
  show StableHlo.after hostOps0 _ (Proc.devRef .tc main_v1) = _
  after_results
  rfl

theorem asRow_at (v : FVec Ideal S2048 .f32) (k : Fin 2048) :
    (shapeCast S1x2048 v shapeCasts_S2048_S1x2048 : FVec Ideal S1x2048 .f32) (ix2 0 k) = v (ix1 k) := by
  pointwise

theorem scale_at (c : Dev nD) (t : Fin cfg0.N) (k : Fin 2048) :
    (iblk m c 3 t : Vec Ideal S1x2048 .f32) (ix2 0 k) = (m ((c : Thread nD τ).loc main_arg3) : Vec Ideal S2048 .f32) (ix1 k) := by
  have hi := idx_all t
  refine Eq.trans ?_ (asRow_at _ k)
  unfold iblk
  rw [View.read_apply]
  show V m c main_v0 _ = _
  rw [V_main_v0]
  congr 1
  funext a
  apply Fin.ext
  match a with
  | ⟨0, _⟩ => show win0_3.index t 0 * 1 + 1 * 0 = 0; rw [hi.2.2.2.2.2.2.2.1]
  | ⟨1, _⟩ => show win0_3.index t 1 * 2048 + 1 * k.val = k.val; rw [hi.2.2.2.2.2.2.2.2.1]; omega

theorem shift_at (c : Dev nD) (t : Fin cfg0.N) (k : Fin 2048) :
    (iblk m c 4 t : Vec Ideal S1x2048 .f32) (ix2 0 k) = (m ((c : Thread nD τ).loc main_arg4) : Vec Ideal S2048 .f32) (ix1 k) := by
  have hi := idx_all t
  refine Eq.trans ?_ (asRow_at _ k)
  unfold iblk
  rw [View.read_apply]
  show V m c main_v1 _ = _
  rw [V_main_v1]
  congr 1
  funext a
  apply Fin.ext
  match a with
  | ⟨0, _⟩ => show win0_4.index t 0 * 1 + 1 * 0 = 0; rw [hi.2.2.2.2.2.2.2.2.2.1]
  | ⟨1, _⟩ => show win0_4.index t 1 * 2048 + 1 * k.val = k.val; rw [hi.2.2.2.2.2.2.2.2.2.2.1]; omega

/-! ## The result array -/

/-- The result array: each row mixed with its update and normed. -/
def whole (c : Dev nD) : Vec Ideal S16384x2048 .f32 := fun i =>
  Norm.norm (Norm.mixed (fun k => (m ((c : Thread nD τ).loc main_arg0) : Vec Ideal S16384x2048 .f32) (ix2 (i 0) k))
      (fun k => (m ((c : Thread nD τ).loc main_arg2) : Vec Ideal S4x1x2048 .f32) (ix3 ⟨(i 0).val / 4096, by have := (i 0).isLt; change (i 0).val < 16384 at this; omega⟩ 0 k))
      (fun k => (m ((c : Thread nD τ).loc main_arg1) : Vec Ideal S16384x2048 .f32) (ix2 (i 0) k)))
    (fun k => (m ((c : Thread nD τ).loc main_arg3) : Vec Ideal S2048 .f32) (ix1 k))
    (fun k => (m ((c : Thread nD τ).loc main_arg4) : Vec Ideal S2048 .f32) (ix1 k)) (i 1)

theorem left_at (c : Dev nD) (t : Fin cfg0.N) (r : Fin 256) (n : Fin 2048) :
    ((dats m 0 c).after 5 t : Vec Ideal S256x2048 .f32) (ix2 r n)
      = whole m c (ix2 ⟨t.val * 256 + r.val, by have := t_lt t; omega⟩ n) := by
  have e : (t.val * 256 + r.val) / 4096 = t.val / 16 := by omega
  rw [after0_5]
  unfold out0_5
  rw [View.canon_unit_zero z2]
  simp only [View.ld_unit_zero (S := S256x2048) z2, View.ld_unit_zero (S := S1x1x2048) z3, View.ld_unit_zero (S := S1x2048) z2]
  refine (block_at _ _ _ _ _ r n).trans ?_
  unfold whole
  simp only [rows_at, update_at, gate_at, scale_at, shift_at]
  show _ = Norm.norm (Norm.mixed _ (fun k => (m ((c : Thread nD τ).loc main_arg2) : Vec Ideal S4x1x2048 .f32) (ix3 ⟨(t.val * 256 + r.val) / 4096, _⟩ 0 k)) _) _ _ _
  simp only [e]
  rfl

/-- The result array after the last point. -/
theorem final (c : Dev nD) : (dats m 0 c).arrAt 5 cfg0.N = whole m c := by
  refine (dats m 0 c).arrAt_eq_of_covers 5 _ (by decide +kernel) fun t hf (y : (⟨2, ![256, 2048]⟩ : Shape).Idx) => ?_
  have hi := idx_all t
  show (dats m 0 c).after 5 t y = whole m c ((win0_5.blk t).view.emb y)
  rw [eq_ix2 y]
  refine (left_at m c t (y 0) (y 1)).trans (congrArg (whole m c) ?_)
  funext a
  apply Fin.ext
  match a with
  | ⟨0, _⟩ => show t.val * 256 + (y 0).val = win0_5.index t 0 * 256 + 1 * (y 0).val; rw [hi.2.2.2.2.2.2.2.2.2.2.2.1]; omega
  | ⟨1, _⟩ => show (y 1).val = win0_5.index t 1 * 2048 + 1 * (y 1).val; rw [hi.2.2.2.2.2.2.2.2.2.2.2.2]; omega

end Cert.Proof.Res

namespace Cert.Proof.Res

open Cert.Reference6Ideal Cert.Reference6Ideal.Gen Cert.Reference6Ideal.Value

/-- The reference's mean of each row. -/
def hostMean (z : FVec Ideal S4x4096x2048 .f32) : FVec Ideal S4x4096x1 .f32 :=
  Host.divf (broadcastInDim S4x4096x1 ![0, 1] bcast_S4x4096_S4x4096x1_0_1
      (Host.reduceAdd z (constant S_ .f32 0x00000000#32) reducesTo_S4x4096x2048_S4x4096_d2 h_S_))
    (broadcastInDim S4x4096x1 ![] bcast_S_S4x4096x1 (constant S_ .f32 0x45000000#32))

/-- The reference's rows less their means. -/
def hostCentred (z : FVec Ideal S4x4096x2048 .f32) : FVec Ideal S4x4096x2048 .f32 :=
  subf z (broadcastInDim S4x4096x2048 ![0, 1, 2] bcast_S4x4096x1_S4x4096x2048_0_1_2 (hostMean z))

/-- The reference's layer norm. -/
def hostNorm (z : FVec Ideal S4x4096x2048 .f32) (g b : FVec Ideal S2048 .f32) : FVec Ideal S4x4096x2048 .f32 :=
  addf (mulf (mulf (hostCentred z) (broadcastInDim S4x4096x2048 ![0, 1, 2] bcast_S4x4096x1_S4x4096x2048_0_1_2
      (Host.rsqrt (addf (hostMean (mulf (hostCentred z) (hostCentred z)))
        (broadcastInDim S4x4096x1 ![] bcast_S_S4x4096x1 (constant S_ .f32 0x3727C5AC#32))))))
      (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))

theorem hostMean_at (z : FVec Ideal S4x4096x2048 .f32) (q : Fin 4) (t : Fin 4096) :
    hostMean z (ix3 q t 0) = Norm.mean (fun k => z (ix3 q t k)) := by
  unfold hostMean Norm.mean
  pointwise

theorem hostCentred_at (z : FVec Ideal S4x4096x2048 .f32) (q : Fin 4) (t : Fin 4096) (k : Fin 2048) :
    hostCentred z (ix3 q t k) = z (ix3 q t k) - Norm.mean (fun k => z (ix3 q t k)) := by
  unfold hostCentred
  pointwise [hostMean_at]

theorem hostNorm_at (z : FVec Ideal S4x4096x2048 .f32) (g b : FVec Ideal S2048 .f32) (q : Fin 4) (t : Fin 4096) (n : Fin 2048) :
    hostNorm z g b (ix3 q t n) = Norm.norm (fun k => z (ix3 q t k)) (fun k => g (ix1 k)) (fun k => b (ix1 k)) n := by
  unfold hostNorm Norm.norm
  pointwise [hostMean_at, hostCentred_at]

/-- What the reference norms. -/
def hostMixed (x : FVec Ideal S16384x2048 .f32) (s : FVec Ideal S4x1x2048 .f32) (y : FVec Ideal S16384x2048 .f32) : FVec Ideal S4x4096x2048 .f32 :=
  addf (mulf (broadcastInDim S4x4096x2048 ![] bcast_S_S4x4096x2048 (constant S_ .f32 0x3FB504F3#32)) (shapeCast _ x shapeCasts_S16384x2048_S4x4096x2048))
    (mulf (broadcastInDim S4x4096x2048 ![0, 1, 2] bcast_S4x1x2048_S4x4096x2048_0_1_2 s) (shapeCast _ y shapeCasts_S16384x2048_S4x4096x2048))

theorem hostMixed_at (x : FVec Ideal S16384x2048 .f32) (s : FVec Ideal S4x1x2048 .f32) (y : FVec Ideal S16384x2048 .f32)
    (q : Fin 4) (t : Fin 4096) (k : Fin 2048) :
    hostMixed x s y (ix3 q t k)
      = Norm.mixed (fun k => x (ix2 ⟨q.val * 4096 + t.val, by omega⟩ k)) (fun k => s (ix3 q 0 k)) (fun k => y (ix2 ⟨q.val * 4096 + t.val, by omega⟩ k)) k := by
  unfold hostMixed Norm.mixed
  pointwise

/-- The reference's residual step, entry by entry. -/
theorem stepped_at (x : FVec Ideal S16384x2048 .f32) (s : FVec Ideal S4x1x2048 .f32) (y : FVec Ideal S16384x2048 .f32) (g b : FVec Ideal S2048 .f32)
    (r : Fin 16384) (n : Fin 2048) :
    (shapeCast S16384x2048 (hostNorm (hostMixed x s y) g b) shapeCasts_S4x4096x2048_S16384x2048 : FVec Ideal S16384x2048 .f32) (ix2 r n)
      = Norm.norm (Norm.mixed (fun k => x (ix2 r k)) (fun k => s (ix3 ⟨r.val / 4096, by omega⟩ 0 k)) (fun k => y (ix2 r k)))
        (fun k => g (ix1 k)) (fun k => b (ix1 k)) n := by
  have e : (shapeCast S16384x2048 (hostNorm (hostMixed x s y) g b) shapeCasts_S4x4096x2048_S16384x2048 : FVec Ideal S16384x2048 .f32) (ix2 r n)
      = hostNorm (hostMixed x s y) g b (ix3 ⟨r.val / 4096, by omega⟩ ⟨r.val % 4096, by omega⟩ n) := by
    pointwise
  have hr : (⟨r.val / 4096 * 4096 + r.val % 4096, by omega⟩ : Fin 16384) = r := Fin.ext (by show _ * _ + _ = _; omega)
  rw [e, hostNorm_at]
  congr 1
  funext k
  rw [hostMixed_at]
  simp only [hr]

variable (m : (ℓ : Loc nD τ sig) → Buf (Elt Ideal) ℓ)

theorem reference_eq (c : Dev nD) : res_main_v31 m c
    = shapeCast S16384x2048 (hostNorm (hostMixed (m ((c.tc : Thread nD τ).loc main_arg0)) (m ((c.tc : Thread nD τ).loc main_arg2)) (m ((c.tc : Thread nD τ).loc main_arg1)))
        (m ((c.tc : Thread nD τ).loc main_arg3)) (m ((c.tc : Thread nD τ).loc main_arg4))) shapeCasts_S4x4096x2048_S16384x2048 := rfl

end Cert.Proof.Res

/-! ## The claims -/

namespace Cert.Proof.Res

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Both programs leave the normed rows at every index. -/
theorem algebraic : Cert.algebraic_Kernel6Ideal_Reference6Ideal := fun m ρ m' ρ' _ hag =>
  ⟨fun c => whole m c,
    (θ_run Cert.Kernel6Ideal.defs _ _).mono (fun r h c => ⟨(h c).1.trans (final m c), (h c).2⟩) (Cert.Kernel6Ideal.Value.run_blocks m ρ),
    (θ_run Cert.Reference6Ideal.defs _ _).mono (fun r h c => ⟨((h c).1.trans (reference_eq m' c)).trans (by
        rw [(hag c).1, (hag c).2.1, (hag c).2.2.1, (hag c).2.2.2.1, (hag c).2.2.2.2]
        refine funext fun (i : (⟨2, ![16384, 2048]⟩ : Shape).Idx) => ?_
        rw [eq_ix2 i]
        exact stepped_at _ _ _ _ _ (i 0) (i 1)), (h c).2⟩)
      (Cert.Reference6Ideal.Value.run (F := Ideal) m' ρ')⟩

end Cert.Proof.Res

end
-- ==== Proof.OutProj.lean ====
/-
  The output projection with its residual norm.  The four mixer outputs are multiplied by the four row blocks of the
  weight and the products added; the row, times a constant, plus the gated sum is normed.  The reference joins the four
  outputs side by side and multiplies once.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Norm
public import proofs.«01_k».proof.Proof.Residual
public import proofs.«01_k».proof.Proof.InProj
public import Idealize.ShloMosaic.Lib.Pipeline.Value
public import Idealize.ShloMosaic.Lib.Pipeline.ValueKit
public import Idealize.ShloMosaic.Lib.Tactic
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Proof.InProj (z2 z3)

namespace Cert.Proof.Out

/-- A sum over 2048 positions is the sum over its four quarters. -/
theorem sum_quarters (f : Fin 2048 → EReal) : ∑ k : Fin 2048, f k
    = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩) :=
  (Fin.sum_univ_add (a := 1536) (b := 512) f).trans (congrArg (· + _)
    ((Fin.sum_univ_add (a := 1024) (b := 512) fun k => f ⟨k.val, by omega⟩).trans (congrArg (· + _)
      (Fin.sum_univ_add (a := 512) (b := 512) fun k => f ⟨k.val, by omega⟩))))

/-- One entry of the product of four parts, side by side, with a weight. -/
def product (p0 p1 p2 p3 : Fin 512 → EReal) (w : Fin 2048 → EReal) : EReal :=
  (∑ k : Fin 512, p0 k * w ⟨k.val, by omega⟩) + (∑ k : Fin 512, p1 k * w ⟨512 + k.val, by omega⟩)
    + (∑ k : Fin 512, p2 k * w ⟨1024 + k.val, by omega⟩) + (∑ k : Fin 512, p3 k * w ⟨1536 + k.val, by omega⟩)

end Cert.Proof.Out

/-! ## The reference -/

namespace Cert.Proof.Out

open Cert.Reference5Ideal Cert.Reference5Ideal.Gen Cert.Reference5Ideal.Value

/-- The reference's projection. -/
def hostProduct (p0 p1 p2 p3 : FVec Ideal S16384x512 .bf16) (w : FVec Ideal S2048x2048 .bf16) : FVec Ideal S16384x2048 .f32 :=
  Host.dotGeneral dot_S16384x2048_S2048x2048_S16384x2048_1_0_0_1_n_n none
    (concatenate S16384x2048 1 [⟨S16384x512, (extf .f32 p0 bitsLt_bf16_f32 : FVec Ideal S16384x512 .f32)⟩, ⟨S16384x512, (extf .f32 p1 bitsLt_bf16_f32 : FVec Ideal S16384x512 .f32)⟩,
        ⟨S16384x512, (extf .f32 p2 bitsLt_bf16_f32 : FVec Ideal S16384x512 .f32)⟩, ⟨S16384x512, (extf .f32 p3 bitsLt_bf16_f32 : FVec Ideal S16384x512 .f32)⟩]
      concatenates_S16384x512_S16384x512_S16384x512_S16384x512_S16384x2048_d1 : FVec Ideal S16384x2048 .f32)
    (extf .f32 w bitsLt_bf16_f32)

theorem hostProduct_at (p0 p1 p2 p3 : FVec Ideal S16384x512 .bf16) (w : FVec Ideal S2048x2048 .bf16) (r : Fin 16384) (n : Fin 2048) :
    hostProduct p0 p1 p2 p3 w (ix2 r n) = product (fun k => p0 (ix2 r k)) (fun k => p1 (ix2 r k)) (fun k => p2 (ix2 r k)) (fun k => p3 (ix2 r k)) (fun k => w (ix2 k n)) := by
  unfold hostProduct product
  pointwise
  rw [sum_quarters]
  refine congrArg₂ (· + ·) (congrArg₂ (· + ·) (congrArg₂ (· + ·) ?_ ?_) ?_) ?_ <;> refine Finset.sum_congr rfl fun k _ => ?_
  · rw [dif_pos (show k.val < 512 by omega)]
  · rw [dif_neg (show ¬ 512 + k.val < 512 by omega), dif_pos (show 512 + k.val - 512 < 512 by omega)]
    simp only [Nat.add_sub_cancel_left]
  · have e : 1024 + k.val - 512 - 512 = k.val := by omega
    rw [dif_neg (show ¬ 1024 + k.val < 512 by omega), dif_neg (show ¬ 1024 + k.val - 512 < 512 by omega), dif_pos (show 1024 + k.val - 512 - 512 < 512 by omega)]
    simp only [e]
  · have e : 1536 + k.val - 512 - 512 - 512 = k.val := by omega
    rw [dif_neg (show ¬ 1536 + k.val < 512 by omega), dif_neg (show ¬ 1536 + k.val - 512 < 512 by omega), dif_neg (show ¬ 1536 + k.val - 512 - 512 < 512 by omega)]
    simp only [e]

variable (m : (ℓ : Loc nD τ sig) → Buf (Elt Ideal) ℓ)

theorem reference_eq (c : Dev nD) : res_main_v38 m c
    = shapeCast S16384x2048 (Res.hostNorm (Res.hostMixed (m ((c.tc : Thread nD τ).loc main_arg5)) (m ((c.tc : Thread nD τ).loc main_arg6))
        (hostProduct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
        (m ((c.tc : Thread nD τ).loc main_arg7)) (m ((c.tc : Thread nD τ).loc main_arg8))) shapeCasts_S4x4096x2048_S16384x2048 := rfl

end Cert.Proof.Out

/-! ## The body -/

namespace Cert.Proof.Out

open Cert.Kernel5Ideal Cert.Kernel5Ideal.Gen Cert.Kernel5Ideal.Value

section body

variable (p0 p1 p2 p3 : Vec Ideal S256x512 .bf16) (w0 w1 w2 w3 : Vec Ideal S512x2048 .bf16) (x : Vec Ideal S256x2048 .f32) (s : Vec Ideal S1x1x2048 .f32)
  (g b : Vec Ideal S1x2048 .f32)

/-- What the body norms. -/
theorem mixed_at (r : Fin 256) (n : Fin 2048) :
    (k0_pay2 p0 w0 p1 w1 p2 w2 p3 w3 x s : Vec Ideal S256x2048 .f32) (ix2 r n)
      = Norm.mixed (fun k => x (ix2 r k)) (fun k => s (ix3 0 0 k)) (fun j =>
          (∑ k : Fin 512, p0 (ix2 r k) * w0 (ix2 k j)) + (∑ k : Fin 512, p1 (ix2 r k) * w1 (ix2 k j))
            + (∑ k : Fin 512, p2 (ix2 r k) * w2 (ix2 k j)) + (∑ k : Fin 512, p3 (ix2 r k) * w3 (ix2 k j))) n := by
  unfold Norm.mixed
  pointwise [k0_pay2]

theorem mean_at (r : Fin 256) :
    (k0_pay3 p0 w0 p1 w1 p2 w2 p3 w3 x s : Vec Ideal S256x1 .f32) (ix2 r 0)
      = Norm.mean (fun k => (k0_pay2 p0 w0 p1 w1 p2 w2 p3 w3 x s : Vec Ideal S256x2048 .f32) (ix2 r k)) := by
  unfold Norm.mean k0_pay3
  pointwise

theorem spread_at (r : Fin 256) (n : Fin 2048) :
    (k0_pay4 p0 w0 p1 w1 p2 w2 p3 w3 x s : Vec Ideal S256x2048 .f32) (ix2 r n) = (k0_pay3 p0 w0 p1 w1 p2 w2 p3 w3 x s : Vec Ideal S256x1 .f32) (ix2 r 0) := by
  unfold k0_pay4
  pointwise

end body

theorem normed_at (z e : Vec Ideal S256x2048 .f32) (u : Vec Ideal S256x1 .f32) (g b : Vec Ideal S1x2048 .f32) (r : Fin 256) (n : Fin 2048)
    (hu : u (ix2 r 0) = Norm.mean (fun k => z (ix2 r k))) (he : ∀ k : Fin 2048, e (ix2 r k) = Norm.mean (fun k => z (ix2 r k))) :
    (k0_pay1 z u e g b : Vec Ideal S256x2048 .f32) (ix2 r n) = Norm.norm (fun k => z (ix2 r k)) (fun k => g (ix2 0 k)) (fun k => b (ix2 0 k)) n := by
  have h : (k0_pay1 z u e g b : Vec Ideal S256x2048 .f32) (ix2 r n)
      = (z (ix2 r n) - u (ix2 r 0)) * (FloatOps.rsqrt (F := Ideal) (φ := .f32)
          (Norm.mean (fun k => (z (ix2 r k) - e (ix2 r k)) * (z (ix2 r k) - e (ix2 r k))) + (Scalar.ofBits (F := Ideal) .f32 0x3727C5AC#32 : Ideal .f32) : EReal) : Ideal .f32)
          * g (ix2 0 n) + b (ix2 0 n) := by
    unfold Norm.mean
    pointwise [k0_pay1]
  rw [h, hu]
  simp only [he]
  rfl

/-! ## The blocks the windows read -/

variable (m : (ℓ : Loc nD τ sig) → Buf (Elt Ideal) ℓ)

/-- The block indices of the windows that take a block of rows, as numbers of the point. -/
theorem idx_rows : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_5.index t (0 : Fin 2) = t.val ∧ win0_5.index t (1 : Fin 2) = 0
    ∧ win0_9.index t (0 : Fin 2) = t.val ∧ win0_9.index t (1 : Fin 2) = 0 := by decide +kernel

/-- The block indices of the other windows, as numbers of the point. -/
theorem idx_rest : ∀ t : Fin grid0.N, win0_6.index t (0 : Fin 3) = t.val / 16 ∧ win0_6.index t (1 : Fin 3) = 0 ∧ win0_6.index t (2 : Fin 3) = 0
    ∧ win0_4.index t (0 : Fin 2) = 0 ∧ win0_4.index t (1 : Fin 2) = 0
    ∧ win0_7.index t (0 : Fin 2) = 0 ∧ win0_7.index t (1 : Fin 2) = 0
    ∧ win0_8.index t (0 : Fin 2) = 0 ∧ win0_8.index t (1 : Fin 2) = 0 := by decide +kernel

theorem t_lt (t : Fin cfg0.N) : t.val < 64 := lt_of_lt_of_eq t.isLt (show cfg0.N = 64 from N_0)

theorem part0_at (c : Dev nD) (t : Fin cfg0.N) (r : Fin 256) (k : Fin 512) :
    (iblk m c 0 t : Vec Ideal S256x512 .bf16) (ix2 r k)
      = (m ((c : Thread nD τ).loc main_arg0) : Vec Ideal S16384x512 .bf16) (ix2 ⟨t.val * 256 + r.val, by have := t_lt t; omega⟩ k) := by
  have hi := idx_rows t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [hi.1]; omega
  | ⟨1, _⟩ => show win0_0.index t 1 * 512 + 1 * k.val = k.val; rw [hi.2.1]; omega

theorem part1_at (c : Dev nD) (t : Fin cfg0.N) (r : Fin 256) (k : Fin 512) :
    (iblk m c 1 t : Vec Ideal S256x512 .bf16) (ix2 r k)
      = (m ((c : Thread nD τ).loc main_arg1) : Vec Ideal S16384x512 .bf16) (ix2 ⟨t.val * 256 + r.val, by have := t_lt t; omega⟩ k) := by
  have hi := idx_rows t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = t.val * 256 + r.val; rw [hi.2.2.1]; omega
  | ⟨1, _⟩ => show win0_1.index t 1 * 512 + 1 * k.val = k.val; rw [hi.2.2.2.1]; omega

theorem part2_at (c : Dev nD) (t : Fin cfg0.N) (r : Fin 256) (k : Fin 512) :
    (iblk m c 2 t : Vec Ideal S256x512 .bf16) (ix2 r k)
      = (m ((c : Thread nD τ).loc main_arg2) : Vec Ideal S16384x512 .bf16) (ix2 ⟨t.val * 256 + r.val, by have := t_lt t; omega⟩ k) := by
  have hi := idx_rows t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = t.val * 256 + r.val; rw [hi.2.2.2.2.1]; omega
  | ⟨1, _⟩ => show win0_2.index t 1 * 512 + 1 * k.val = k.val; rw [hi.2.2.2.2.2.1]; omega

theorem part3_at (c : Dev nD) (t : Fin cfg0.N) (r : Fin 256) (k : Fin 512) :
    (iblk m c 3 t : Vec Ideal S256x512 .bf16) (ix2 r k)
      = (m ((c : Thread nD τ).loc main_arg3) : Vec Ideal S16384x512 .bf16) (ix2 ⟨t.val * 256 + r.val, by have := t_lt t; omega⟩ k) := by
  have hi := idx_rows t
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * r.val = t.val * 256 + r.val; rw [hi.2.2.2.2.2.2.1]; omega
  | ⟨1, _⟩ => show win0_3.index t 1 * 512 + 1 * k.val = k.val; rw [hi.2.2.2.2.2.2.2.1]; omega

theorem rows_at (c : Dev nD) (t : Fin cfg0.N) (r : Fin 256) (k : Fin 2048) :
    (iblk m c 5 t : Vec Ideal S256x2048 .f32) (ix2 r k)
      = (m ((c : Thread nD τ).loc main_arg5) : Vec Ideal S16384x2048 .f32) (ix2 ⟨t.val * 256 + r.val, by have := t_lt t; omega⟩ k) := by
  have hi := idx_rows t
  unfold iblk
  rw [View.read_apply]
  show V m c main_arg5 _ = m (c.tc.loc main_arg5) _
  rw [V_main_arg5]
  congr 1
  funext a
  apply Fin.ext
  match a with
  | ⟨0, _⟩ => show win0_5.index t 0 * 256 + 1 * r.val = t.val * 256 + r.val; rw [hi.2.2.2.2.2.2.2.2.1]; omega
  | ⟨1, _⟩ => show win0_5.index t 1 * 2048 + 1 * k.val = k.val; rw [hi.2.2.2.2.2.2.2.2.2.1]; omega

theorem gate_at (c : Dev nD) (t : Fin cfg0.N) (k : Fin 2048) :
    (iblk m c 6 t : Vec Ideal S1x1x2048 .f32) (ix3 0 0 k)
      = (m ((c : Thread nD τ).loc main_arg6) : Vec Ideal S4x1x2048 .f32) (ix3 ⟨t.val / 16, by have := t_lt t; omega⟩ 0 k) := by
  have hi := idx_rest t
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * 0 = t.val / 16; rw [hi.1]; omega
  | ⟨1, _⟩ => show win0_6.index t 1 * 1 + 1 * 0 = 0; rw [hi.2.1]
  | ⟨2, _⟩ => show win0_6.index t 2 * 2048 + 1 * k.val = k.val; rw [hi.2.2.1]; omega

/-- The norm's scale as the kernel is given it: the argument as one row. -/
theorem V_main_v0 (c : Dev nD) : V m c main_v0
    = (shapeCast S1x2048 (m ((c : Thread nD τ).loc main_arg7) : Vec Ideal S2048 .f32) shapeCasts_S2048_S1x2048 : Vec Ideal S1x2048 .f32) := by
  show StableHlo.after hostOps0 _ (Proc.devRef .tc main_v0) = _
  after_results
  rfl

/-- The norm's shift as the kernel is given it: the argument as one row. -/
theorem V_main_v1 (c : Dev nD) : V m c main_v1
    = (shapeCast S1x2048 (m ((c : Thread nD τ).loc main_arg8) : Vec Ideal S2048 .f32) shapeCasts_S2048_S1x2048 : Vec Ideal S1x2048 .f32) := by
  show StableHlo.after hostOps0 _ (Proc.devRef .tc main_v1) = _
  after_results
  rfl

theorem scale_at (c : Dev nD) (t : Fin cfg0.N) (k : Fin 2048) :
    (iblk m c 7 t : Vec Ideal S1x2048 .f32) (ix2 0 k) = (m ((c : Thread nD τ).loc main_arg7) : Vec Ideal S2048 .f32) (ix1 k) := by
  have hi := idx_rest t
  refine Eq.trans ?_ (Res.asRow_at _ k)
  unfold iblk
  rw [View.read_apply]
  show V m c main_v0 _ = _
  rw [V_main_v0]
  congr 1
  funext a
  apply Fin.ext
  match a with
  | ⟨0, _⟩ => show win0_7.index t 0 * 1 + 1 * 0 = 0; rw [hi.2.2.2.2.2.1]
  | ⟨1, _⟩ => show win0_7.index t 1 * 2048 + 1 * k.val = k.val; rw [hi.2.2.2.2.2.2.1]; omega

theorem shift_at (c : Dev nD) (t : Fin cfg0.N) (k : Fin 2048) :
    (iblk m c 8 t : Vec Ideal S1x2048 .f32) (ix2 0 k) = (m ((c : Thread nD τ).loc main_arg8) : Vec Ideal S2048 .f32) (ix1 k) := by
  have hi := idx_rest t
  refine Eq.trans ?_ (Res.asRow_at _ k)
  unfold iblk
  rw [View.read_apply]
  show V m c main_v1 _ = _
  rw [V_main_v1]
  congr 1
  funext a
  apply Fin.ext
  match a with
  | ⟨0, _⟩ => show win0_8.index t 0 * 1 + 1 * 0 = 0; rw [hi.2.2.2.2.2.2.2.1]
  | ⟨1, _⟩ => show win0_8.index t 1 * 2048 + 1 * k.val = k.val; rw [hi.2.2.2.2.2.2.2.2]; omega

theorem weight_at (c : Dev nD) (t : Fin cfg0.N) (k n : Fin 2048) :
    (iblk m c 4 t : Vec Ideal S2048x2048 .bf16) (ix2 k n) = (m ((c : Thread nD τ).loc main_arg4) : Vec Ideal S2048x2048 .bf16) (ix2 k n) := by
  have hi := idx_rest t
  unfold iblk
  rw [View.read_apply]
  show V m c main_arg4 _ = m (c.tc.loc main_arg4) _
  rw [V_main_arg4]
  congr 1
  funext a
  apply Fin.ext
  match a with
  | ⟨0, _⟩ => show win0_4.index t 0 * 2048 + 1 * k.val = k.val; rw [hi.2.2.2.1]; omega
  | ⟨1, _⟩ => show win0_4.index t 1 * 2048 + 1 * n.val = n.val; rw [hi.2.2.2.2.1]; omega

theorem slice0_at (w : Vec Ideal S2048x2048 .bf16) (k : Fin 512) (n : Fin 2048) :
    (View.ld w r0_1 : Vec Ideal S512x2048 .bf16) (ix2 k n) = w (ix2 ⟨k.val, by omega⟩ n) := by
  show w _ = w _
  congr 1
  funext a
  apply Fin.ext
  match a with
  | ⟨0, _⟩ => show 0 + 1 * k.val = k.val; omega
  | ⟨1, _⟩ => show 0 + 1 * n.val = n.val; omega

theorem slice1_at (w : Vec Ideal S2048x2048 .bf16) (k : Fin 512) (n : Fin 2048) :
    (View.ld w r0_2 : Vec Ideal S512x2048 .bf16) (ix2 k n) = w (ix2 ⟨512 + k.val, by omega⟩ n) := by
  show w _ = w _
  congr 1
  funext a
  apply Fin.ext
  match a with
  | ⟨0, _⟩ => show 512 + 1 * k.val = 512 + k.val; omega
  | ⟨1, _⟩ => show 0 + 1 * n.val = n.val; omega

theorem slice2_at (w : Vec Ideal S2048x2048 .bf16) (k : Fin 512) (n : Fin 2048) :
    (View.ld w r0_3 : Vec Ideal S512x2048 .bf16) (ix2 k n) = w (ix2 ⟨1024 + k.val, by omega⟩ n) := by
  show w _ = w _
  congr 1
  funext a
  apply Fin.ext
  match a with
  | ⟨0, _⟩ => show 1024 + 1 * k.val = 1024 + k.val; omega
  | ⟨1, _⟩ => show 0 + 1 * n.val = n.val; omega

theorem slice3_at (w : Vec Ideal S2048x2048 .bf16) (k : Fin 512) (n : Fin 2048) :
    (View.ld w r0_4 : Vec Ideal S512x2048 .bf16) (ix2 k n) = w (ix2 ⟨1536 + k.val, by omega⟩ n) := by
  show w _ = w _
  congr 1
  funext a
  apply Fin.ext
  match a with
  | ⟨0, _⟩ => show 1536 + 1 * k.val = 1536 + k.val; omega
  | ⟨1, _⟩ => show 0 + 1 * n.val = n.val; omega

/-! ## The result array -/

/-- The result array: each row mixed with its projection and normed. -/
def whole (c : Dev nD) : Vec Ideal S16384x2048 .f32 := fun i =>
  Norm.norm (Norm.mixed (fun k => (m ((c : Thread nD τ).loc main_arg5) : Vec Ideal S16384x2048 .f32) (ix2 (i 0) k))
      (fun k => (m ((c : Thread nD τ).loc main_arg6) : Vec Ideal S4x1x2048 .f32) (ix3 ⟨(i 0).val / 4096, by have := (i 0).isLt; change (i 0).val < 16384 at this; omega⟩ 0 k))
      (fun n => product (fun k => (m ((c : Thread nD τ).loc main_arg0) : Vec Ideal S16384x512 .bf16) (ix2 (i 0) k))
        (fun k => (m ((c : Thread nD τ).loc main_arg1) : Vec Ideal S16384x512 .bf16) (ix2 (i 0) k))
        (fun k => (m ((c : Thread nD τ).loc main_arg2) : Vec Ideal S16384x512 .bf16) (ix2 (i 0) k))
        (fun k => (m ((c : Thread nD τ).loc main_arg3) : Vec Ideal S16384x512 .bf16) (ix2 (i 0) k))
        (fun k => (m ((c : Thread nD τ).loc main_arg4) : Vec Ideal S2048x2048 .bf16) (ix2 k n))))
    (fun k => (m ((c : Thread nD τ).loc main_arg7) : Vec Ideal S2048 .f32) (ix1 k))
    (fun k => (m ((c : Thread nD τ).loc main_arg8) : Vec Ideal S2048 .f32) (ix1 k)) (i 1)

theorem left_at (c : Dev nD) (t : Fin cfg0.N) (r : Fin 256) (n : Fin 2048) :
    ((dats m 0 c).after 9 t : Vec Ideal S256x2048 .f32) (ix2 r n)
      = whole m c (ix2 ⟨t.val * 256 + r.val, by have := t_lt t; omega⟩ n) := by
  have e : (t.val * 256 + r.val) / 4096 = t.val / 16 := by omega
  rw [after0_9]
  unfold out0_9
  rw [View.canon_unit_zero z2]
  simp only [View.ld_unit_zero (S := S256x2048) z2, View.ld_unit_zero (S := S256x512) z2, View.ld_unit_zero (S := S1x1x2048) z3, View.ld_unit_zero (S := S1x2048) z2]
  refine (normed_at _ _ _ _ _ r n (mean_at _ _ _ _ _ _ _ _ _ _ r) (fun k => (spread_at _ _ _ _ _ _ _ _ _ _ r k).trans (mean_at _ _ _ _ _ _ _ _ _ _ r))).trans ?_
  unfold whole product
  simp only [mixed_at, part0_at, part1_at, part2_at, part3_at, rows_at, gate_at, scale_at, shift_at]
  show _ = Norm.norm (Norm.mixed _ (fun k => (m ((c : Thread nD τ).loc main_arg6) : Vec Ideal S4x1x2048 .f32) (ix3 ⟨(t.val * 256 + r.val) / 4096, _⟩ 0 k)) _) _ _ _
  simp only [e]
  refine congrArg (fun f => Norm.norm (Norm.mixed _ _ f) _ _ n) (funext fun j => ?_)
  refine congrArg₂ (· + ·) (congrArg₂ (· + ·) (congrArg₂ (· + ·) ?_ ?_) ?_) ?_ <;> refine Finset.sum_congr rfl fun k _ => congrArg (fun v : EReal => (_ : EReal) * v) ?_
  · exact (slice0_at _ k j).trans (weight_at m c t _ j)
  · exact (slice1_at _ k j).trans (weight_at m c t _ j)
  · exact (slice2_at _ k j).trans (weight_at m c t _ j)
  · exact (slice3_at _ k j).trans (weight_at m c t _ j)

/-- The result array after the last point. -/
theorem final (c : Dev nD) : (dats m 0 c).arrAt 9 cfg0.N = whole m c := by
  refine (dats m 0 c).arrAt_eq_of_covers 9 _ (by decide +kernel) fun t hf (y : (⟨2, ![256, 2048]⟩ : Shape).Idx) => ?_
  have hi := idx_rows t
  show (dats m 0 c).after 9 t y = whole m c ((win0_9.blk t).view.emb y)
  rw [eq_ix2 y]
  refine (left_at m c t (y 0) (y 1)).trans (congrArg (whole m c) ?_)
  funext a
  apply Fin.ext
  match a with
  | ⟨0, _⟩ => show t.val * 256 + (y 0).val = win0_9.index t 0 * 256 + 1 * (y 0).val; rw [hi.2.2.2.2.2.2.2.2.2.2.1]; omega
  | ⟨1, _⟩ => show (y 1).val = win0_9.index t 1 * 2048 + 1 * (y 1).val; rw [hi.2.2.2.2.2.2.2.2.2.2.2]; omega

end Cert.Proof.Out

/-! ## The claims -/

namespace Cert.Proof.Out

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both programs leave the normed rows at every index. -/
theorem algebraic : Cert.algebraic_Kernel5Ideal_Reference5Ideal := fun m ρ m' ρ' _ hag =>
  ⟨fun c => whole m c,
    (θ_run Cert.Kernel5Ideal.defs _ _).mono (fun r h c => ⟨(h c).1.trans (final m c), (h c).2⟩) (Cert.Kernel5Ideal.Value.run_blocks m ρ),
    (θ_run Cert.Reference5Ideal.defs _ _).mono (fun r h c => ⟨((h c).1.trans (reference_eq m' c)).trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
        refine funext fun (i : (⟨2, ![16384, 2048]⟩ : Shape).Idx) => ?_
        rw [eq_ix2 i]
        refine (Res.stepped_at _ _ _ _ _ (i 0) (i 1)).trans ?_
        exact congrArg (fun f => Norm.norm (Norm.mixed _ _ f) _ _ (i 1)) (funext fun n => hostProduct_at _ _ _ _ _ (i 0) n)), (h c).2⟩)
      (Cert.Reference5Ideal.Value.run (F := Ideal) m' ρ')⟩

end Cert.Proof.Out

end
-- ==== Proof.RouteRounds.lean ====
/-
  Taking the greatest entries of a column, one per round: the maximum, the least number among the rows that hold
  it, and that row set to the least value.
-/
module

public import Idealize.ShloMosaic.PureOps.Ideal
public import Idealize.ShloMosaic.Lib.SortPrefix

@[expose] public section

set_option maxRecDepth 16384

noncomputable section

open Idealize.ShloMosaic

namespace Cert.Proof.Route

variable {n : ℕ}

/-- Row `a` comes before row `b`: it holds more, or as much with a smaller number. -/
def Before (x : Fin n → EReal) (o : Fin n → ℕ) (a b : Fin n) : Prop := x b < x a ∨ (x a = x b ∧ o a < o b)

/-- The rows `σ` are the first ones, in order. -/
structure Picks {k : ℕ} (x : Fin n → EReal) (o : Fin n → ℕ) (σ : Fin k → Fin n) : Prop where
  ordered : ∀ i j, i < j → Before x o (σ i) (σ j)
  rest : ∀ p, (∀ i, σ i ≠ p) → ∀ i, Before x o (σ i) p

/-- The maximum of a column. -/
def most (s : Fin n → EReal) : EReal := Finset.univ.fold max ⊥ s

/-- The least number of a row that holds the maximum. -/
def least (o : Fin n → ℕ) (s : Fin n → EReal) : EReal :=
  Finset.univ.fold min ⊤ fun a => if s a = most s then ((o a : ℝ) : EReal) else ((16777216 : ℝ) : EReal)

/-- The column after a round. -/
def after (o : Fin n → ℕ) (s : Fin n → EReal) (a : Fin n) : EReal := if ((o a : ℝ) : EReal) = least o s then ⊥ else s a

/-- The column after some rounds. -/
def rounds (o : Fin n → ℕ) (s : Fin n → EReal) : ℕ → Fin n → EReal
  | 0 => s
  | r + 1 => after o (rounds o s r)

theorem le_most (s : Fin n → EReal) (a : Fin n) : s a ≤ most s := (Finset.le_fold_max _).2 (.inr ⟨a, Finset.mem_univ _, le_rfl⟩)

theorem most_mem (s : Fin n → EReal) (h : 0 < n) : ∃ a, s a = most s := by
  haveI : Nonempty (Fin n) := ⟨⟨0, h⟩⟩
  obtain ⟨a, -, ha⟩ := Finset.exists_max_image Finset.univ s Finset.univ_nonempty
  exact ⟨a, le_antisymm (le_most s a) ((Finset.fold_max_le _).2 ⟨bot_le, fun b hb => ha b hb⟩)⟩

/-- What one round finds. -/
theorem round_spec (o : Fin n → ℕ) (ho : ∀ a, o a < 16777216) (s : Fin n → EReal) (h : 0 < n) :
    ∃ a, s a = most s ∧ ((o a : ℝ) : EReal) = least o s ∧ ∀ p, s p = s a → o a ≤ o p := by
  obtain ⟨a₀, h₀⟩ := most_mem s h
  obtain ⟨a, ha, hmin⟩ := Finset.exists_min_image (Finset.univ.filter fun a => s a = most s) o ⟨a₀, by simp [h₀]⟩
  have ha' : s a = most s := by simpa using ha
  refine ⟨a, ha', le_antisymm ((Finset.le_fold_min _).2 ⟨le_top, fun p _ => ?_⟩) ((Finset.fold_min_le _).2 (.inr ⟨a, Finset.mem_univ _, by rw [if_pos ha']⟩)),
    fun p hp => hmin p (by simp [hp, ha'])⟩
  by_cases hp : s p = most s
  · rw [if_pos hp]; exact_mod_cast hmin p (by simp [hp])
  · rw [if_neg hp]; exact_mod_cast (ho a).le

/-- The row a round finds. -/
def found (o : Fin n → ℕ) (s : Fin n → EReal) [NeZero n] : Fin n :=
  open Classical in if h : ∃ a, s a = most s ∧ ((o a : ℝ) : EReal) = least o s ∧ ∀ p, s p = s a → o a ≤ o p then h.choose else 0

theorem found_spec (o : Fin n → ℕ) (ho : ∀ a, o a < 16777216) (s : Fin n → EReal) [NeZero n] :
    s (found o s) = most s ∧ ((o (found o s) : ℝ) : EReal) = least o s ∧ ∀ p, s p = s (found o s) → o (found o s) ≤ o p := by
  have h := round_spec o ho s (Nat.pos_of_ne_zero (NeZero.ne n))
  unfold found; rw [dif_pos h]; exact h.choose_spec

/-- The row that round `r` finds. -/
def pick (o : Fin n → ℕ) (s : Fin n → EReal) [NeZero n] (r : ℕ) : Fin n := found o (rounds o s r)

theorem rounds_eq (o : Fin n → ℕ) (ho : ∀ a, o a < 16777216) (hi : Function.Injective o) (s : Fin n → EReal) [NeZero n] (r : ℕ) (a : Fin n) :
    rounds o s r a = if ∃ i < r, pick o s i = a then ⊥ else s a := by
  induction r with
  | zero => simp [rounds]
  | succ r ih =>
    have e : rounds o s (r + 1) a = if pick o s r = a then ⊥ else rounds o s r a := by
      show (if ((o a : ℝ) : EReal) = least o (rounds o s r) then ⊥ else rounds o s r a) = _
      rw [← (found_spec o ho (rounds o s r)).2.1]
      refine if_congr ⟨fun h => (hi (by exact_mod_cast h)).symm, fun h => by rw [← h]; rfl⟩ rfl rfl
    rw [e, ih]
    by_cases h : pick o s r = a
    · rw [if_pos h, if_pos ⟨r, Nat.lt_succ_self r, h⟩]
    · rw [if_neg h]
      refine if_congr ⟨fun ⟨i, hr, hp⟩ => ⟨i, hr.trans (Nat.lt_succ_self r), hp⟩, fun ⟨i, hr, hp⟩ => ⟨i, ?_, hp⟩⟩ rfl rfl
      exact lt_of_le_of_ne (Nat.le_of_lt_succ hr) fun q => h (q ▸ hp)

/-- With enough rows above the least value, a round finds one of them that was not found before. -/
theorem pick_fresh (o : Fin n → ℕ) (ho : ∀ a, o a < 16777216) (hi : Function.Injective o) (s : Fin n → EReal) [NeZero n] (r : ℕ)
    (hr : r < (Finset.univ.filter fun a => s a ≠ ⊥).card) :
    (∀ i < r, pick o s i ≠ pick o s r) ∧ s (pick o s r) ≠ ⊥ := by
  have hcard : ((Finset.range r).image (pick o s)).card < (Finset.univ.filter fun a => s a ≠ ⊥).card :=
    (Finset.card_image_le.trans (by simp)).trans_lt hr
  obtain ⟨a, ha, hna⟩ := Finset.exists_mem_notMem_of_card_lt_card hcard
  have hva : rounds o s r a ≠ ⊥ := by
    rw [rounds_eq o ho hi, if_neg]
    · simpa using ha
    · rintro ⟨i, hir, hp⟩; exact hna (Finset.mem_image.2 ⟨i, Finset.mem_range.2 hir, hp⟩)
  have hm : rounds o s r (pick o s r) ≠ ⊥ := by
    intro q
    have := (found_spec o ho (rounds o s r)).1
    have hb : most (rounds o s r) = ⊥ := this.symm.trans q
    exact hva (le_bot_iff.1 (hb ▸ le_most (rounds o s r) a))
  rw [rounds_eq o ho hi] at hm
  constructor
  · intro i hir q; exact hm (if_pos ⟨i, hir, q⟩)
  · intro q; apply hm; split <;> simp_all

theorem rounds_pick (o : Fin n → ℕ) (ho : ∀ a, o a < 16777216) (hi : Function.Injective o) (s : Fin n → EReal) [NeZero n] (r : ℕ)
    (hr : r < (Finset.univ.filter fun a => s a ≠ ⊥).card) : rounds o s r (pick o s r) = s (pick o s r) := by
  rw [rounds_eq o ho hi, if_neg]
  rintro ⟨i, hir, q⟩; exact (pick_fresh o ho hi s r hr).1 i hir q

/-- The rows found are the first ones. -/
theorem picks (o : Fin n → ℕ) (ho : ∀ a, o a < 16777216) (hi : Function.Injective o) (s : Fin n → EReal) [NeZero n] (k : ℕ)
    (hk : k ≤ (Finset.univ.filter fun a => s a ≠ ⊥).card) : Picks s o fun i : Fin k => pick o s i := by
  have key : ∀ (i : ℕ) (p : Fin n), i < k → (∀ j ≤ i, pick o s j ≠ p) → Before s o (pick o s i) p := by
    intro i p hik hp
    have hr := lt_of_lt_of_le hik hk
    have e : rounds o s i p = s p := by
      rw [rounds_eq o ho hi, if_neg]
      rintro ⟨j, hj, q⟩; exact hp j hj.le q
    obtain ⟨h1, -, h3⟩ := found_spec o ho (rounds o s i)
    have e1 : rounds o s i (pick o s i) = s (pick o s i) := rounds_pick o ho hi s i hr
    have hle : s p ≤ s (pick o s i) := by
      rw [← e, ← e1]; exact (le_most _ p).trans h1.ge
    rcases hle.lt_or_eq with h | h
    · exact .inl h
    · refine .inr ⟨h.symm, lt_of_le_of_ne (h3 p (e.trans (h.trans e1.symm))) fun q => hp i le_rfl (hi q)⟩
  refine ⟨fun i j hij => key i _ i.2 fun l hl q => ?_, fun p hp i => key i p i.2 fun l hl q => hp ⟨l, lt_of_le_of_lt hl i.2⟩ q⟩
  exact (pick_fresh o ho hi s j (lt_of_lt_of_le j.2 hk)).1 l (lt_of_le_of_lt hl hij) q

/-- What round `r` writes: the value of the row it finds, and that row's number. -/
theorem most_rounds (o : Fin n → ℕ) (ho : ∀ a, o a < 16777216) (hi : Function.Injective o) (s : Fin n → EReal) [NeZero n] (r : ℕ)
    (hr : r < (Finset.univ.filter fun a => s a ≠ ⊥).card) : most (rounds o s r) = s (pick o s r) :=
  (found_spec o ho (rounds o s r)).1.symm.trans (rounds_pick o ho hi s r hr)

theorem least_rounds (o : Fin n → ℕ) (ho : ∀ a, o a < 16777216) (s : Fin n → EReal) [NeZero n] (r : ℕ) :
    least o (rounds o s r) = ((o (pick o s r) : ℝ) : EReal) := (found_spec o ho (rounds o s r)).2.1.symm

/-- The greatest of the weights of the rows with the number found, or `b`. -/
theorem payload_rounds (o : Fin n → ℕ) (ho : ∀ a, o a < 16777216) (hi : Function.Injective o) (s : Fin n → EReal) [NeZero n] (r : ℕ)
    (w : Fin n → EReal) (b : EReal) (hb : ∀ a, b ≤ w a) :
    (Finset.univ.fold max ⊥ fun a => if ((o a : ℝ) : EReal) = least o (rounds o s r) then w a else b) = w (pick o s r) := by
  rw [least_rounds o ho]
  refine le_antisymm ((Finset.fold_max_le _).2 ⟨bot_le, fun a _ => ?_⟩) ((Finset.le_fold_max _).2 (.inr ⟨pick o s r, Finset.mem_univ _, by rw [if_pos rfl]⟩))
  split
  · next h => rw [hi (show o a = o (pick o s r) by exact_mod_cast h)]
  · exact hb _

/-- The comparison of a stable sort that puts the greatest first. -/
def sooner (x : Fin n → EReal) (a b : Fin n) : Bool := decide (x b < x a) || (decide (x a = x b) && decide (a.val < b.val))

theorem Picks.injective {k : ℕ} {x : Fin n → EReal} {o : Fin n → ℕ} {σ : Fin k → Fin n} (h : Picks x o σ) : Function.Injective σ := by
  intro i j e
  rcases lt_trichotomy i j with q | q | q
  · have := h.ordered i j q; rw [e] at this; simp [Before] at this
  · exact q
  · have := h.ordered j i q; rw [e] at this; simp [Before] at this

theorem Before.not_symm {x : Fin n → EReal} {o : Fin n → ℕ} {a b : Fin n} (h : Before x o a b) : ¬ Before x o b a := by
  rcases h with h | ⟨h, q⟩
  · rintro (h' | ⟨h', -⟩)
    · exact lt_asymm h h'
    · exact h.ne h'.symm.symm
  · rintro (h' | ⟨-, q'⟩)
    · exact h'.ne h
    · exact lt_asymm q q'

theorem Before.trans {x : Fin n → EReal} {o : Fin n → ℕ} {a b c : Fin n} (h : Before x o a b) (h' : Before x o b c) : Before x o a c := by
  rcases h with h | ⟨h, q⟩ <;> rcases h' with h' | ⟨h', q'⟩
  · exact .inl (h'.trans h)
  · exact .inl (h' ▸ h)
  · exact .inl (h ▸ h')
  · exact .inr ⟨h.trans h', q.trans q'⟩

theorem Before.total {x : Fin n → EReal} {o : Fin n → ℕ} (hi : Function.Injective o) {a b : Fin n} (h : a ≠ b) : Before x o a b ∨ Before x o b a := by
  rcases lt_trichotomy (x a) (x b) with q | q | q
  · exact .inr (.inl q)
  · rcases lt_or_gt_of_ne (fun e => h (hi e) : o a ≠ o b) with w | w
    · exact .inl (.inr ⟨q, w⟩)
    · exact .inr (.inr ⟨q.symm, w⟩)
  · exact .inl (.inl q)

theorem sooner_iff (x : Fin n → EReal) (a b : Fin n) : sooner x a b = true ↔ Before x (fun p => p.val) a b := by
  simp [sooner, Before]

theorem sooner_false {x : Fin n → EReal} {a b : Fin n} (h : Before x (fun p => p.val) a b) : sooner x b a = false := by
  rw [← Bool.not_eq_true, sooner_iff]; exact h.not_symm

theorem sooner_strict (x : Fin n → EReal) : StrictTotalBefore (sooner x) where
  irrefl a := by simp [sooner]
  trans a b c h h' := (sooner_iff x a c).2 (((sooner_iff x a b).1 h).trans ((sooner_iff x b c).1 h'))
  total a b h := by
    rcases Before.total (x := x) Fin.val_injective h with q | q
    · exact .inl ((sooner_iff _ _ _).2 q)
    · exact .inr ((sooner_iff _ _ _).2 q)

/-- The first rows are the first ones of the sort. -/
theorem sorted_of_picks {k : ℕ} (x : Fin n → EReal) (σ : Fin k → Fin n) (h : Picks x (fun p => p.val) σ) (hk : k ≤ n) (i : Fin k) :
    sortedFrom (sooner x) (i.castLE hk) = σ i :=
  (sooner_strict x).sortedFrom_eq_of_prefix hk σ h.injective (fun i j hij => sooner_false (h.ordered i j hij))
    (fun i p hp => sooner_false (h.rest p hp i)) i

end Cert.Proof.Route

end
-- ==== Proof.RouteKernel.lean ====
/-
  What the routing kernel stores for one head, written by rounds: the scores of the two halves, their sixteen greatest
  entries, the candidate pairs, and the sixteen greatest of those.
-/
module

public import proofs.«01_k».proof.Proof.Gen.Kernel7Ideal.Frame
public import proofs.«01_k».proof.Proof.RouteRounds
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Proof.Route

open Cert.Kernel7Ideal Cert.Kernel7Ideal.Gen

/-- A block of rows over 256 tokens. -/
abbrev Rows (N : ℕ) : Shape := ⟨2, ![N, 256]⟩

/-- The maximum over the rows, for each token. -/
def greatest {N : ℕ} (hr : (Rows N).Reduces [0] S256) (s : FVec Ideal (Rows N) .f32) : FVec Ideal S1x256 .f32 :=
  shapeCast S1x256 (multiReduction .maximumf [0] S256 s 0xFF800000#32 hr (.inl rfl) rfl) shapeCasts_S256_S1x256

/-- The least number of a row that holds the maximum. -/
def first {N : ℕ} (hr : (Rows N).Reduces [0] S256) (hb : S1x256.Broadcasts (Rows N)) (o s : FVec Ideal (Rows N) .f32) :
    FVec Ideal S1x256 .f32 :=
  shapeCast S1x256 (multiReduction .minimumf [0] S256 (select (cmpf .oeq s (broadcastTo (Rows N) (greatest hr s) hb)) o
    (broadcast (Rows N) (Scalar.ofBits .f32 0x4B800000#32 : Ideal .f32))) 0x7F800000#32 hr (.inl rfl) rfl) shapeCasts_S256_S1x256

/-- The row found. -/
def hit {N : ℕ} (hr : (Rows N).Reduces [0] S256) (hb : S1x256.Broadcasts (Rows N)) (o s : FVec Ideal (Rows N) .f32) :
    IVec (Rows N) 1 := cmpf .oeq o (broadcastTo (Rows N) (first hr hb o s) hb)

/-- The rows after a round. -/
def next {N : ℕ} (hr : (Rows N).Reduces [0] S256) (hb : S1x256.Broadcasts (Rows N)) (o s : FVec Ideal (Rows N) .f32) :
    FVec Ideal (Rows N) .f32 := select (hit hr hb o s) (broadcast (Rows N) (Scalar.ofBits .f32 0xFF800000#32 : Ideal .f32)) s

/-- The rows after some rounds. -/
def left {N : ℕ} (hr : (Rows N).Reduces [0] S256) (hb : S1x256.Broadcasts (Rows N)) (o s : FVec Ideal (Rows N) .f32) :
    ℕ → FVec Ideal (Rows N) .f32
  | 0 => s
  | r + 1 => next hr hb o (left hr hb o s r)

/-- What the row found carries. -/
def carried {N : ℕ} (hr : (Rows N).Reduces [0] S256) (hb : S1x256.Broadcasts (Rows N)) (o w s : FVec Ideal (Rows N) .f32) :
    FVec Ideal S1x256 .f32 :=
  greatest hr (select (hit hr hb o s) w (broadcast (Rows N) (Scalar.ofBits .f32 0xBF800000#32 : Ideal .f32)))

/-- Sixteen rows. -/
def stack (f : Fin 16 → FVec Ideal S1x256 .f32) : FVec Ideal S16x256 .f32 :=
  concatenate S16x256 0 (List.ofFn fun r : Fin 16 => (⟨S1x256, f r⟩ : (s : Shape) × FVec Ideal s .f32)) concatenates_S1x256_S1x256_S1x256_S1x256_S1x256_S1x256_S1x256_S1x256_S1x256_S1x256_S1x256_S1x256_S1x256_S1x256_S1x256_S1x256_S16x256_d0

abbrev keyLeft (s : FVec Ideal S128x256 .f32) (r : ℕ) : FVec Ideal S128x256 .f32 :=
  left (N := 128) reduces_S128x256_S256 broadcasts_S1x256_S128x256 (k0_pay4 (F := Ideal)) s r

/-- The sixteen greatest scores of a half. -/
def keyVals (s : FVec Ideal S128x256 .f32) : FVec Ideal S16x256 .f32 :=
  stack fun r => greatest (N := 128) reduces_S128x256_S256 (keyLeft s r.val)

/-- Their keys. -/
def keyIds (s : FVec Ideal S128x256 .f32) : FVec Ideal S16x256 .f32 :=
  stack fun r => first (N := 128) reduces_S128x256_S256 broadcasts_S1x256_S128x256 (k0_pay4 (F := Ideal)) (keyLeft s r.val)

/-- The pairs of the sixteen entries that are looked at: all of the first row, eight of each of the next seven, and the
    first of each of the last eight. -/
def pairs (g : ∀ {s : Shape}, FVec Ideal s .f32 → FVec Ideal s .f32) (a b : FVec Ideal S16x256 .f32) : FVec Ideal S80x256 .f32 :=
  concatenate S80x256 0 [
    ⟨S16x256, addf (broadcastTo S16x256 (g (extractStridedSlice S1x256 ![0, 0] a slices_S16x256_o0_0_S1x256)) broadcasts_S1x256_S16x256) b⟩,
    ⟨S8x256, addf (broadcastTo S8x256 (g (extractStridedSlice S1x256 ![1, 0] a slices_S16x256_o1_0_S1x256)) broadcasts_S1x256_S8x256) (extractStridedSlice S8x256 ![0, 0] b slices_S16x256_o0_0_S8x256)⟩,
    ⟨S8x256, addf (broadcastTo S8x256 (g (extractStridedSlice S1x256 ![2, 0] a slices_S16x256_o2_0_S1x256)) broadcasts_S1x256_S8x256) (extractStridedSlice S8x256 ![0, 0] b slices_S16x256_o0_0_S8x256)⟩,
    ⟨S8x256, addf (broadcastTo S8x256 (g (extractStridedSlice S1x256 ![3, 0] a slices_S16x256_o3_0_S1x256)) broadcasts_S1x256_S8x256) (extractStridedSlice S8x256 ![0, 0] b slices_S16x256_o0_0_S8x256)⟩,
    ⟨S8x256, addf (broadcastTo S8x256 (g (extractStridedSlice S1x256 ![4, 0] a slices_S16x256_o4_0_S1x256)) broadcasts_S1x256_S8x256) (extractStridedSlice S8x256 ![0, 0] b slices_S16x256_o0_0_S8x256)⟩,
    ⟨S8x256, addf (broadcastTo S8x256 (g (extractStridedSlice S1x256 ![5, 0] a slices_S16x256_o5_0_S1x256)) broadcasts_S1x256_S8x256) (extractStridedSlice S8x256 ![0, 0] b slices_S16x256_o0_0_S8x256)⟩,
    ⟨S8x256, addf (broadcastTo S8x256 (g (extractStridedSlice S1x256 ![6, 0] a slices_S16x256_o6_0_S1x256)) broadcasts_S1x256_S8x256) (extractStridedSlice S8x256 ![0, 0] b slices_S16x256_o0_0_S8x256)⟩,
    ⟨S8x256, addf (broadcastTo S8x256 (g (extractStridedSlice S1x256 ![7, 0] a slices_S16x256_o7_0_S1x256)) broadcasts_S1x256_S8x256) (extractStridedSlice S8x256 ![0, 0] b slices_S16x256_o0_0_S8x256)⟩,
    ⟨S8x256, addf (g (extractStridedSlice S8x256 ![8, 0] a slices_S16x256_o8_0_S8x256)) (broadcastTo S8x256 (extractStridedSlice S1x256 ![0, 0] b slices_S16x256_o0_0_S1x256) broadcasts_S1x256_S8x256)⟩]
    concatenates_S16x256_S8x256_S8x256_S8x256_S8x256_S8x256_S8x256_S8x256_S8x256_S80x256_d0

/-- A candidate's row. -/
abbrev rowNumber : IVec S80x256 32 := iota .tc S80x256 32 [0] iota_S80x256_d0_w32

/-- The candidates' numbers. -/
abbrev pairOrder : FVec Ideal S80x256 .f32 := k0_pay9 (F := Ideal) rowNumber k0_pay5 k0_pay6 0#32

/-- The candidates that count. -/
abbrev pairValid : IVec S80x256 1 := k0_pay10 rowNumber k0_pay5 k0_pay6 0#32

/-- The candidates' scores. -/
def pairScores (a b : FVec Ideal S128x256 .f32) : FVec Ideal S80x256 .f32 :=
  select pairValid (pairs (fun v => v) (keyVals a) (keyVals b)) (broadcast S80x256 (Scalar.ofBits .f32 0xFF800000#32 : Ideal .f32))

/-- The candidates' experts. -/
def pairIds (a b : FVec Ideal S128x256 .f32) : FVec Ideal S80x256 .f32 :=
  pairs (fun {s} v => mulf v (broadcast s (Scalar.ofBits .f32 0x43000000#32 : Ideal .f32))) (keyIds a) (keyIds b)

abbrev pairLeft (s : FVec Ideal S80x256 .f32) (r : ℕ) : FVec Ideal S80x256 .f32 :=
  left (N := 80) reduces_S80x256_S256 broadcasts_S1x256_S80x256 pairOrder s r

/-- The sixteen greatest candidates' scores. -/
def bestVals (a b : FVec Ideal S128x256 .f32) : FVec Ideal S16x256 .f32 :=
  stack fun r => greatest (N := 80) reduces_S80x256_S256 (pairLeft (pairScores a b) r.val)

/-- Their experts. -/
def bestIds (a b : FVec Ideal S128x256 .f32) : FVec Ideal S16x256 .f32 :=
  stack fun r => carried (N := 80) reduces_S80x256_S256 broadcasts_S1x256_S80x256 pairOrder (pairIds a b) (pairLeft (pairScores a b) r.val)

/-- The exponentials of the gates. -/
def powers (v : FVec Ideal S16x256 .f32) : FVec Ideal S16x256 .f32 :=
  exp (subf v (broadcastTo S16x256 (extractStridedSlice S1x256 ![0, 0] v slices_S16x256_o0_0_S1x256) broadcasts_S1x256_S16x256))

/-- The gates. -/
def shares (e : FVec Ideal S16x256 .f32) : FVec Ideal S16x256 .f32 :=
  divf e (broadcastTo S16x256 (shapeCast S1x256 (multiReduction .add [0] S256 e 0x00000000#32 reduces_S16x256_S256 (.inl rfl) rfl)
    shapeCasts_S256_S1x256) broadcasts_S1x256_S16x256)

/-- A head's experts. -/
def headIds (a b : FVec Ideal S128x256 .f32) : IVec S16x256 32 := fptosi 32 (bestIds a b)

/-- A head's gates. -/
def headGates (a b : FVec Ideal S128x256 .f32) : FVec Ideal S16x256 .f32 := shares (powers (bestVals a b))

/-- The scores of a half of a head: the keys times the queries' part. -/
def scores {off : Fin 2 → ℕ} (h : S256x2048.Slices off S256x128) (q : FVec Ideal S256x2048 .bf16) (k : Vec Ideal S1x128x128 .bf16) :
    FVec Ideal S128x256 .f32 :=
  matmul dot_S128x128_S256x128_S128x256_1_1_0_0_n_n none (shapeCast S128x128 k shapeCasts_S1x128x128_S128x128 : FVec Ideal S128x128 .bf16)
    (extractStridedSlice S256x128 off q h : FVec Ideal S256x128 .bf16) (constant S128x256 .f32 0x00000000#32)

variable (x0 : Vec Ideal S256x2048 .f32) (x1 : Vec Ideal S1x1x2048 .f32) (x2 : Vec Ideal S1x1x2048 .f32)
  (x3 : Vec Ideal S2048x2048 .bf16) (x4 : Vec Ideal S16x128x128 .bf16)

/-- The queries of a block of tokens. -/
abbrev queries : FVec Ideal S256x2048 .bf16 := k0_pay3 (View.ld x0 r0_0) (View.ld x1 r0_1) (View.ld x2 r0_1) (View.ld x3 r0_2)

theorem out_gates : out0_7 x0 x1 x2 x3 x4 = View.canon [
    ⟨r0_26, headGates (scores slices_S256x2048_o0_1792_S256x128 (queries x0 x1 x2 x3) (View.ld x4 r0_24)) (scores slices_S256x2048_o0_1920_S256x128 (queries x0 x1 x2 x3) (View.ld x4 r0_25))⟩,
    ⟨r0_23, headGates (scores slices_S256x2048_o0_1536_S256x128 (queries x0 x1 x2 x3) (View.ld x4 r0_21)) (scores slices_S256x2048_o0_1664_S256x128 (queries x0 x1 x2 x3) (View.ld x4 r0_22))⟩,
    ⟨r0_20, headGates (scores slices_S256x2048_o0_1280_S256x128 (queries x0 x1 x2 x3) (View.ld x4 r0_18)) (scores slices_S256x2048_o0_1408_S256x128 (queries x0 x1 x2 x3) (View.ld x4 r0_19))⟩,
    ⟨r0_17, headGates (scores slices_S256x2048_o0_1024_S256x128 (queries x0 x1 x2 x3) (View.ld x4 r0_15)) (scores slices_S256x2048_o0_1152_S256x128 (queries x0 x1 x2 x3) (View.ld x4 r0_16))⟩,
    ⟨r0_14, headGates (scores slices_S256x2048_o0_768_S256x128 (queries x0 x1 x2 x3) (View.ld x4 r0_12)) (scores slices_S256x2048_o0_896_S256x128 (queries x0 x1 x2 x3) (View.ld x4 r0_13))⟩,
    ⟨r0_11, headGates (scores slices_S256x2048_o0_512_S256x128 (queries x0 x1 x2 x3) (View.ld x4 r0_9)) (scores slices_S256x2048_o0_640_S256x128 (queries x0 x1 x2 x3) (View.ld x4 r0_10))⟩,
    ⟨r0_8, headGates (scores slices_S256x2048_o0_256_S256x128 (queries x0 x1 x2 x3) (View.ld x4 r0_6)) (scores slices_S256x2048_o0_384_S256x128 (queries x0 x1 x2 x3) (View.ld x4 r0_7))⟩,
    ⟨r0_5, headGates (scores slices_S256x2048_o0_0_S256x128 (queries x0 x1 x2 x3) (View.ld x4 r0_3)) (scores slices_S256x2048_o0_128_S256x128 (queries x0 x1 x2 x3) (View.ld x4 r0_4))⟩] := rfl

theorem out_ids : out0_6 x0 x1 x2 x3 x4 = View.canon [
    ⟨r0_26, headIds (scores slices_S256x2048_o0_1792_S256x128 (queries x0 x1 x2 x3) (View.ld x4 r0_24)) (scores slices_S256x2048_o0_1920_S256x128 (queries x0 x1 x2 x3) (View.ld x4 r0_25))⟩,
    ⟨r0_23, headIds (scores slices_S256x2048_o0_1536_S256x128 (queries x0 x1 x2 x3) (View.ld x4 r0_21)) (scores slices_S256x2048_o0_1664_S256x128 (queries x0 x1 x2 x3) (View.ld x4 r0_22))⟩,
    ⟨r0_20, headIds (scores slices_S256x2048_o0_1280_S256x128 (queries x0 x1 x2 x3) (View.ld x4 r0_18)) (scores slices_S256x2048_o0_1408_S256x128 (queries x0 x1 x2 x3) (View.ld x4 r0_19))⟩,
    ⟨r0_17, headIds (scores slices_S256x2048_o0_1024_S256x128 (queries x0 x1 x2 x3) (View.ld x4 r0_15)) (scores slices_S256x2048_o0_1152_S256x128 (queries x0 x1 x2 x3) (View.ld x4 r0_16))⟩,
    ⟨r0_14, headIds (scores slices_S256x2048_o0_768_S256x128 (queries x0 x1 x2 x3) (View.ld x4 r0_12)) (scores slices_S256x2048_o0_896_S256x128 (queries x0 x1 x2 x3) (View.ld x4 r0_13))⟩,
    ⟨r0_11, headIds (scores slices_S256x2048_o0_512_S256x128 (queries x0 x1 x2 x3) (View.ld x4 r0_9)) (scores slices_S256x2048_o0_640_S256x128 (queries x0 x1 x2 x3) (View.ld x4 r0_10))⟩,
    ⟨r0_8, headIds (scores slices_S256x2048_o0_256_S256x128 (queries x0 x1 x2 x3) (View.ld x4 r0_6)) (scores slices_S256x2048_o0_384_S256x128 (queries x0 x1 x2 x3) (View.ld x4 r0_7))⟩,
    ⟨r0_5, headIds (scores slices_S256x2048_o0_0_S256x128 (queries x0 x1 x2 x3) (View.ld x4 r0_3)) (scores slices_S256x2048_o0_128_S256x128 (queries x0 x1 x2 x3) (View.ld x4 r0_4))⟩] := rfl

end Cert.Proof.Route

end
-- ==== Proof.RouteCands.lean ====
/-
  The candidate pairs that are looked at are enough: the sixteen greatest of them are the sixteen greatest of all pairs.
-/
module

public import proofs.«01_k».proof.Proof.RouteRounds

@[expose] public section

set_option maxRecDepth 16384

noncomputable section

open Idealize.ShloMosaic

namespace Cert.Proof.Route

/-- The first entry of a candidate's pair. -/
def ci (r : ℕ) : ℕ := if r < 16 then 0 else if r < 24 then 1 else if r < 72 then 2 + (r - 24) / 8 else r - 64

/-- The second entry of a candidate's pair. -/
def cj (r : ℕ) : ℕ := if r < 16 then r else if r < 24 then r - 16 else if r < 72 then (r - 24) % 8 else 0

/-- Whether a pair counts. -/
def good (i j : ℕ) : Bool := decide ((i + 1) * (j + 1) ≤ 16)

theorem number_lt : ∀ r : Fin 80, ci r.val * 16 + cj r.val < 256 := by decide +kernel

/-- A candidate's pair among all pairs. -/
def number (r : Fin 80) : Fin 256 := ⟨ci r.val * 16 + cj r.val, number_lt r⟩

theorem number_div : ∀ r : Fin 80, (number r).val / 16 = ci r.val := by decide +kernel

theorem number_mod : ∀ r : Fin 80, (number r).val % 16 = cj r.val := by decide +kernel

theorem number_injective : Function.Injective number := by
  have h : ∀ a b : Fin 80, number a = number b → a = b := by decide +kernel
  exact fun a b => h a b

theorem reached : ∀ p : Fin 256, good (p.val / 16) (p.val % 16) = true → ∃ r : Fin 80, number r = p := by decide +kernel

theorem dominators : ∀ p : Fin 256, good (p.val / 16) (p.val % 16) = false →
    16 ≤ (Finset.univ.filter fun r : Fin 80 => good (ci r.val) (cj r.val) = true ∧ ci r.val ≤ p.val / 16 ∧ cj r.val ≤ p.val % 16).card := by
  decide +kernel

theorem many : 16 ≤ (Finset.univ.filter fun r : Fin 80 => good (ci r.val) (cj r.val) = true).card := by decide +kernel

variable (A B : Fin 16 → EReal)

/-- The score of a pair. -/
def pairSum (p : Fin 256) : EReal := A ⟨p.val / 16, by omega⟩ + B ⟨p.val % 16, by omega⟩

/-- The scores looked at. -/
def looked (r : Fin 80) : EReal := if good (ci r.val) (cj r.val) = true then pairSum A B (number r) else ⊥

/-- The pair that a round finds. -/
def chosen (i : ℕ) : Fin 256 := number (pick (fun r => (number r).val) (looked A B) i)

variable {A B}

theorem looked_many (h : ∀ p, pairSum A B p ≠ ⊥) : 16 ≤ (Finset.univ.filter fun r => looked A B r ≠ ⊥).card := by
  refine many.trans (Finset.card_le_card fun r hr => ?_)
  rw [Finset.mem_filter] at hr ⊢
  exact ⟨hr.1, by unfold looked; rw [if_pos hr.2]; exact h _⟩

theorem number_small (r : Fin 80) : (number r).val < 16777216 := (number r).isLt.trans (by decide)

theorem val_number_injective : Function.Injective fun r : Fin 80 => (number r).val :=
  fun a b e => number_injective (Fin.ext e)

theorem looked_of (r : Fin 80) (h : looked A B r ≠ ⊥) : looked A B r = pairSum A B (number r) ∧ good (ci r.val) (cj r.val) = true := by
  by_cases hg : good (ci r.val) (cj r.val) = true
  · exact ⟨by unfold looked; rw [if_pos hg], hg⟩
  · exact absurd (by unfold looked; rw [if_neg hg]) h

theorem looked_pick (h : ∀ p, pairSum A B p ≠ ⊥) (i : Fin 16) :
    looked A B (pick (fun r => (number r).val) (looked A B) i) = pairSum A B (chosen A B i)
      ∧ good (ci (pick (fun r => (number r).val) (looked A B) i).val) (cj (pick (fun r => (number r).val) (looked A B) i).val) = true :=
  looked_of _ (pick_fresh (fun r => (number r).val) number_small val_number_injective (looked A B) i (i.isLt.trans_le (looked_many h))).2

/-- The pairs found are the first ones among all. -/
theorem chosen_picks (hA : ∀ i j, i ≤ j → A j ≤ A i) (hB : ∀ i j, i ≤ j → B j ≤ B i) (h : ∀ p, pairSum A B p ≠ ⊥) :
    Picks (pairSum A B) (fun p => p.val) fun i : Fin 16 => chosen A B i := by
  have hp := picks (fun r => (number r).val) number_small val_number_injective (looked A B) 16 (looked_many h)
  have ord : ∀ i j : Fin 16, i < j → Before (pairSum A B) (fun p => p.val) (chosen A B i) (chosen A B j) := by
    intro i j hij
    have := hp.ordered i j hij
    unfold Before at this ⊢
    rw [(looked_pick h i).1, (looked_pick h j).1] at this
    exact this
  -- a candidate that counts and is not found comes after all that are found
  have rest : ∀ r : Fin 80, good (ci r.val) (cj r.val) = true → (∀ i : Fin 16, chosen A B i ≠ number r) →
      ∀ i : Fin 16, Before (pairSum A B) (fun p => p.val) (chosen A B i) (number r) := by
    intro r hg hr i
    have := hp.rest r (fun i e => hr i (congrArg number e)) i
    unfold Before at this ⊢
    rw [(looked_pick h i).1, show looked A B r = pairSum A B (number r) by unfold looked; rw [if_pos hg]] at this
    exact this
  refine ⟨ord, fun p hpn m => ?_⟩
  by_cases hg : good (p.val / 16) (p.val % 16) = true
  · obtain ⟨r, rfl⟩ := reached p hg
    rw [number_div, number_mod] at hg
    exact rest r hg hpn m
  · have hg' : good (p.val / 16) (p.val % 16) = false := by simpa using hg
    by_contra hb
    have hpm : Before (pairSum A B) (fun p => p.val) p (chosen A B m) :=
      (Before.total (fun a b e => Fin.ext e) (hpn m)).resolve_left hb
    have dom : ∀ r : Fin 80, good (ci r.val) (cj r.val) = true ∧ ci r.val ≤ p.val / 16 ∧ cj r.val ≤ p.val % 16 →
        ∃ t : Fin 16, t < m ∧ chosen A B t = number r := by
      rintro r ⟨hr, h1, h2⟩
      have hle : pairSum A B p ≤ pairSum A B (number r) := by
        unfold pairSum
        exact add_le_add (hA _ _ (by show (number r).val / 16 ≤ _; rw [number_div]; exact h1))
          (hB _ _ (by show (number r).val % 16 ≤ _; rw [number_mod]; exact h2))
      have hne : number r ≠ p := fun e => hg (by rw [← e, number_div, number_mod]; exact hr)
      have hlt : (number r).val < p.val := by
        refine lt_of_le_of_ne ?_ fun e => hne (Fin.ext e)
        show ci r.val * 16 + cj r.val ≤ p.val
        have := Nat.div_add_mod p.val 16
        omega
      have hd : Before (pairSum A B) (fun p => p.val) (number r) p := by
        rcases hle.lt_or_eq with q | q
        · exact .inl q
        · exact .inr ⟨q.symm, hlt⟩
      have hdm := hd.trans hpm
      by_contra hno
      push Not at hno
      by_cases hf : ∃ t : Fin 16, chosen A B t = number r
      · obtain ⟨t, ht⟩ := hf
        rcases lt_trichotomy t m with q | q | q
        · exact hno t q ht
        · subst q; rw [ht] at hdm; exact hdm.not_symm hdm
        · have := ord m t q; rw [ht] at this; exact this.not_symm hdm
      · push Not at hf
        exact (rest r hr hf m).not_symm hdm
    have hsub : (Finset.univ.filter fun r : Fin 80 => good (ci r.val) (cj r.val) = true ∧ ci r.val ≤ p.val / 16 ∧ cj r.val ≤ p.val % 16).image number
        ⊆ (Finset.univ.filter fun t : Fin 16 => t < m).image fun t : Fin 16 => chosen A B t := by
      intro q hq
      obtain ⟨r, hr, rfl⟩ := Finset.mem_image.1 hq
      obtain ⟨t, ht, e⟩ := dom r (Finset.mem_filter.1 hr).2
      exact Finset.mem_image.2 ⟨t, Finset.mem_filter.2 ⟨Finset.mem_univ _, ht⟩, e⟩
    have c1 := Finset.card_le_card hsub
    rw [Finset.card_image_of_injective _ number_injective] at c1
    have c2 := c1.trans Finset.card_image_le
    have c3 : (Finset.univ.filter fun t : Fin 16 => t < m).card < 16 := by
      have : (Finset.univ.filter fun t : Fin 16 => t < m) ⊂ Finset.univ := by
        refine Finset.filter_ssubset.2 ⟨m, Finset.mem_univ _, lt_irrefl m⟩
      exact (Finset.card_lt_card this).trans_eq (by simp)
    have := dominators p hg'
    omega

end Cert.Proof.Route

end
-- ==== Proof.RouteColumns.lean ====
/-
  The rounds of the routing kernel, read for one token.
-/
module

public import proofs.«01_k».proof.Proof.RouteKernel
public import proofs.«01_k».proof.Proof.RouteCands
public import Idealize.ShloMosaic.Lib.ValueLayout

@[expose] public section

set_option maxRecDepth 16384

noncomputable section

open Idealize.ShloMosaic Idealize.ShloMosaic.TcCoe Idealize.SL.Sem

namespace Cert.Proof.Route

open Cert.Kernel7Ideal Cert.Kernel7Ideal.Gen

/-- The column of one token. -/
abbrev col {N : ℕ} (s : FVec Ideal (Rows N) .f32) (l : Fin 256) (a : Fin N) : EReal := s (ix2 a l)

theorem big_eq : Ideal.ofBits .f32 0x4B800000#32 = ((16777216 : ℝ) : EReal) := by
  simp [Ideal.ofBits, Ideal.ieee, -EReal.coe_mul]; norm_num

theorem top_eq : Ideal.ofBits .f32 0x7F800000#32 = ⊤ := by simp [Ideal.ofBits, Ideal.ieee]

theorem bot_eq : Ideal.ofBits .f32 0xFF800000#32 = ⊥ := by simp [Ideal.ofBits, Ideal.ieee]

theorem minus_eq : Ideal.ofBits .f32 0xBF800000#32 = ((-1 : ℝ) : EReal) := by
  simp [Ideal.ofBits, Ideal.ieee, -EReal.coe_mul, -EReal.coe_neg]; norm_num

theorem scale_eq : Ideal.ofBits .f32 0x43000000#32 = ((128 : ℝ) : EReal) := by
  simp [Ideal.ofBits, Ideal.ieee, -EReal.coe_mul]; norm_num

variable {N : ℕ} (hr : (Rows N).Reduces [0] S256) (hb : S1x256.Broadcasts (Rows N))

theorem lift_eq (l : Fin 256) (k : Fin N) : hr.lift (ix1 l) k = (ix2 k l : (Rows N).Idx) := by
  funext c
  match c with
  | ⟨0, _⟩ => rfl
  | ⟨1, _⟩ => rfl

theorem row_at (v : FVec Ideal S256 .f32) (u : Fin 1) (l : Fin 256) : shapeCast S1x256 v shapeCasts_S256_S1x256 (ix2 u l) = v (ix1 l) :=
  ValueIdx.shapeCast_a_1a_apply v shapeCasts_S256_S1x256 u l

theorem spread_at (v : FVec Ideal S1x256 .f32) (a : Fin N) (l : Fin 256) : broadcastTo (Rows N) v hb (ix2 a l) = v (ix2 0 l) :=
  ValueIdx.broadcastTo_1b_ab_apply v hb a l

theorem greatest_at (s : FVec Ideal (Rows N) .f32) (u : Fin 1) (l : Fin 256) : greatest hr s (ix2 u l) = most (col s l) := by
  unfold greatest
  rw [row_at]
  refine (Ideal.multiReduction_maximumf_single s _ hr _ _ _).trans ?_
  exact congrArg₂ (fun b f => Finset.fold max b f Finset.univ) bot_eq (funext fun k => congrArg s (lift_eq hr l k))

theorem min_single (s : FVec Ideal (Rows N) .f32) (l : Fin 256) :
    multiReduction .minimumf [0] S256 s 0x7F800000#32 hr (.inl rfl) rfl (ix1 l) = Finset.univ.fold min ⊤ fun k : Fin N => (s (ix2 k l) : EReal) := by
  refine (multiReduction_minimumf_eq_fold s _ hr _ _ _).trans ?_
  refine (hr.fold_filter_drop_single _ _ s _).trans ?_
  exact congrArg₂ (fun b f => Finset.fold min b f Finset.univ) top_eq (funext fun k => congrArg s (lift_eq hr l k))

variable (o : FVec Ideal (Rows N) .f32) (on : Fin N → ℕ) (ho : ∀ a l, o (ix2 a l) = ((on a : ℝ) : EReal))

include ho in
theorem first_at (s : FVec Ideal (Rows N) .f32) (u : Fin 1) (l : Fin 256) : first hr hb o s (ix2 u l) = least on (col s l) := by
  unfold first
  rw [row_at, min_single]
  refine congrArg (fun f => Finset.fold min ⊤ f Finset.univ) (funext fun k => ?_)
  show Scalar.select (Ideal.cmp .oeq (s (ix2 k l)) (broadcastTo (Rows N) (greatest hr s) hb (ix2 k l))) (o (ix2 k l)) (Ideal.ofBits .f32 0x4B800000#32) = _
  rw [spread_at, greatest_at, ho, big_eq]
  by_cases h : s (ix2 k l) = most (col s l)
  · rw [if_pos h, (Ideal.cmp_oeq_eq_one _ _).2 h]; rfl
  · rw [if_neg h, Ideal.cmp_oeq, decide_eq_false h]; rfl

include ho in
theorem hit_at (s : FVec Ideal (Rows N) .f32) (a : Fin N) (l : Fin 256) :
    hit hr hb o s (ix2 a l) = BitVec.ofBool (decide (((on a : ℝ) : EReal) = least on (col s l))) := by
  show Ideal.cmp .oeq (o (ix2 a l)) (broadcastTo (Rows N) (first hr hb o s) hb (ix2 a l)) = _
  rw [spread_at, first_at hr hb o on ho, ho, Ideal.cmp_oeq]

theorem select_ofBool {α : Type} (p : Prop) [Decidable p] (x y : α) : Scalar.select (BitVec.ofBool (decide p)) x y = if p then x else y := by
  by_cases h : p
  · rw [decide_eq_true h, if_pos h]; rfl
  · rw [decide_eq_false h, if_neg h]; rfl

include ho in
theorem left_at (s : FVec Ideal (Rows N) .f32) (r : ℕ) (l : Fin 256) : col (left hr hb o s r) l = rounds on (col s l) r := by
  induction r with
  | zero => rfl
  | succ r ih =>
    funext a
    show Scalar.select (hit hr hb o (left hr hb o s r) (ix2 a l)) (Ideal.ofBits .f32 0xFF800000#32) (left hr hb o s r (ix2 a l)) = _
    rw [hit_at hr hb o on ho, select_ofBool, bot_eq, ih]
    exact congrArg (fun v => if ((on a : ℝ) : EReal) = least on (rounds on (col s l) r) then ⊥ else v) (congrFun ih a)

include ho in
theorem carried_at (w s : FVec Ideal (Rows N) .f32) (u : Fin 1) (l : Fin 256) : carried hr hb o w s (ix2 u l)
    = Finset.univ.fold max ⊥ fun a => if ((on a : ℝ) : EReal) = least on (col s l) then (w (ix2 a l) : EReal) else ((-1 : ℝ) : EReal) := by
  unfold carried
  rw [greatest_at]
  refine congrArg (fun f => Finset.fold max ⊥ f Finset.univ) (funext fun a => ?_)
  show Scalar.select (hit hr hb o s (ix2 a l)) (w (ix2 a l)) (Ideal.ofBits .f32 0xBF800000#32) = _
  rw [hit_at hr hb o on ho, select_ofBool, minus_eq]

theorem stack_at (f : Fin 16 → FVec Ideal S1x256 .f32) (r : Fin 16) (l : Fin 256) : stack f (ix2 r l) = f r (ix2 0 l) := by
  unfold stack
  exact concatenate_ofFn_unit_apply (t := S16x256) (0 : Fin 2) (s₁ := S1x256) f _ rfl rfl (ix2 r l) r rfl (ix2 0 l)
    (Fin.forall_fin_two.2 ⟨fun h => absurd rfl h, fun _ => rfl⟩)

/-- The keys' numbers. -/
theorem key_order (a : Fin 128) (l : Fin 256) : (k0_pay4 (F := Ideal) : FVec Ideal S128x256 .f32) (ix2 a l) = ((a.val : ℝ) : EReal) := by
  have h : ∀ a : Fin 128, ((iota .tc S128x256 32 [0] iota_S128x256_d0_w32 : IVec S128x256 32) (ix2 a 0)).toInt = (a.val : ℤ) := by decide +kernel
  show ((((iota .tc S128x256 32 [0] iota_S128x256_d0_w32 : IVec S128x256 32) (ix2 a 0)).toInt : ℝ) : EReal) = _
  rw [h]; norm_cast

theorem order_word : ∀ r : Fin 80, (addi (muli (k0_pay7 k0_pay5 k0_pay6 0#32) (broadcast S80x256 16#32)) (k0_pay8 rowNumber) : IVec S80x256 32) (ix2 r 0)
    = BitVec.ofNat 32 (number r).val := by decide +kernel

theorem valid_word : ∀ r : Fin 80, pairValid (ix2 r 0) = BitVec.ofBool (good (ci r.val) (cj r.val)) := by decide +kernel

/-- The candidates' numbers. -/
theorem pair_order (r : Fin 80) (l : Fin 256) : pairOrder (ix2 r l) = (((number r).val : ℝ) : EReal) := by
  have h : ∀ a : Fin 256, (BitVec.ofNat 32 a.val).toInt = (a.val : ℤ) := by decide +kernel
  show ((((addi (muli (k0_pay7 k0_pay5 k0_pay6 0#32) (broadcast S80x256 16#32)) (k0_pay8 rowNumber) : IVec S80x256 32) (ix2 r 0)).toInt : ℝ) : EReal) = _
  rw [order_word, h]; norm_cast

theorem pair_valid (r : Fin 80) (l : Fin 256) : pairValid (ix2 r l) = BitVec.ofBool (good (ci r.val) (cj r.val)) :=
  (show pairValid (ix2 r l) = pairValid (ix2 r 0) from rfl).trans (valid_word r)

variable (g : ∀ {s : Shape}, FVec Ideal s .f32 → FVec Ideal s .f32) (γ : EReal → EReal)
  (hg : ∀ {s : Shape} (v : FVec Ideal s .f32) (j : s.Idx), g v j = γ (v j)) (a b : FVec Ideal S16x256 .f32)

theorem slice_at {M : ℕ} (off : ℕ) (v : FVec Ideal S16x256 .f32) (h : S16x256.Slices ![off, 0] (Rows M)) (p : Fin M) (l : Fin 256) (i : Fin 16)
    (hi : i.val = off + p.val) : extractStridedSlice (Rows M) ![off, 0] v h (ix2 p l) = v (ix2 i l) :=
  congrArg v (funext fun c => Fin.ext (match c with
    | ⟨0, _⟩ => hi.symm
    | ⟨1, _⟩ => Nat.zero_add _))

include hg in
theorem mid_at (i : ℕ) (h : S16x256.Slices ![i, 0] S1x256) (hi : i < 16) (p : Fin 8) (l : Fin 256) (i' j' : Fin 16) (ei : i'.val = i) (ej : j'.val = p.val) :
    (addf (broadcastTo S8x256 (g (extractStridedSlice S1x256 ![i, 0] a h)) broadcasts_S1x256_S8x256)
      (extractStridedSlice S8x256 ![0, 0] b slices_S16x256_o0_0_S8x256) : FVec Ideal S8x256 .f32) (ix2 p l) = γ (a (ix2 i' l)) + b (ix2 j' l) := by
  show broadcastTo (Rows 8) (g (extractStridedSlice S1x256 ![i, 0] a h)) broadcasts_S1x256_S8x256 (ix2 p l)
    + extractStridedSlice (Rows 8) ![0, 0] b slices_S16x256_o0_0_S8x256 (ix2 p l) = _
  rw [spread_at, hg]
  exact congrArg₂ (fun x y : EReal => γ x + y) (slice_at (M := 1) i a h 0 l i' ei) (slice_at (M := 8) 0 b slices_S16x256_o0_0_S8x256 p l j' (by omega))

theorem ci_lt : ∀ r : Fin 80, ci r.val < 16 := by decide +kernel

theorem cj_lt : ∀ r : Fin 80, cj r.val < 16 := by decide +kernel

include hg in
theorem pairs_at (r : Fin 80) (l : Fin 256) :
    pairs g a b (ix2 r l) = γ (a (ix2 ⟨ci r.val, ci_lt r⟩ l)) + b (ix2 ⟨cj r.val, cj_lt r⟩ l) := by
  unfold pairs
  have hr := r.isLt
  obtain ⟨k, hk⟩ : ∃ k : Fin 9, k.val = if r.val < 16 then 0 else (r.val - 8) / 8 :=
    ⟨⟨if r.val < 16 then 0 else (r.val - 8) / 8, by split_ifs <;> omega⟩, rfl⟩
  have hlo : r.val < 16 → k.val = 0 := fun h => by rw [hk, if_pos h]
  have hhi : 16 ≤ r.val → k.val = (r.val - 8) / 8 := fun h => by rw [hk, if_neg (by omega)]
  match k with
  | ⟨0, _⟩ =>
    have h16 : r.val < 16 := by by_contra h; have := hhi (by omega); simp only at this; omega
    refine (concatenate_apply_piece (t := S80x256) (0 : Fin 2) _ _ (ix2 r l) 0 (by show 0 < 9; decide) S16x256 _ rfl rfl 0 rfl (ix2 ⟨r.val, h16⟩ l)
      (Fin.forall_fin_two.2 ⟨fun h => absurd rfl h, fun _ => rfl⟩) (Nat.zero_add _)).trans ?_
    show broadcastTo (Rows 16) (g (extractStridedSlice S1x256 ![0, 0] a slices_S16x256_o0_0_S1x256)) broadcasts_S1x256_S16x256 (ix2 ⟨r.val, h16⟩ l)
      + b (ix2 ⟨r.val, h16⟩ l) = _
    rw [spread_at, hg]
    refine congrArg₂ (fun x y : EReal => γ x + y) (slice_at (M := 1) 0 a slices_S16x256_o0_0_S1x256 0 l ⟨ci r.val, ci_lt r⟩ ?_) (congrArg (fun i => b (ix2 i l)) (Fin.ext ?_))
    · show ci r.val = 0; unfold ci; rw [if_pos h16]
    · show r.val = cj r.val; unfold cj; rw [if_pos h16]
  | ⟨1, _⟩ =>
    have h16 : 16 ≤ r.val := by by_contra h; have := hlo (by omega); simp only at this; omega
    have hq := hhi h16
    simp only at hq
    exact (concatenate_apply_piece (t := S80x256) (0 : Fin 2) _ _ (ix2 r l) 1 (by show 1 < 9; decide) S8x256 _ rfl rfl 16 rfl (ix2 ⟨r.val - 16, by omega⟩ l)
      (Fin.forall_fin_two.2 ⟨fun h => absurd rfl h, fun _ => rfl⟩) (by show 16 + (r.val - 16) = r.val; omega)).trans
      (mid_at g γ hg a b 1 _ (by omega) _ l _ _ (by show ci r.val = 1; unfold ci; split_ifs <;> omega) (by show cj r.val = r.val - 16; unfold cj; split_ifs <;> omega))
  | ⟨2, _⟩ =>
    have h16 : 16 ≤ r.val := by by_contra h; have := hlo (by omega); simp only at this; omega
    have hq := hhi h16
    simp only at hq
    exact (concatenate_apply_piece (t := S80x256) (0 : Fin 2) _ _ (ix2 r l) 2 (by show 2 < 9; decide) S8x256 _ rfl rfl 24 rfl (ix2 ⟨r.val - 24, by omega⟩ l)
      (Fin.forall_fin_two.2 ⟨fun h => absurd rfl h, fun _ => rfl⟩) (by show 24 + (r.val - 24) = r.val; omega)).trans
      (mid_at g γ hg a b 2 _ (by omega) _ l _ _ (by show ci r.val = 2; unfold ci; split_ifs <;> omega) (by show cj r.val = r.val - 24; unfold cj; split_ifs <;> omega))
  | ⟨3, _⟩ =>
    have h16 : 16 ≤ r.val := by by_contra h; have := hlo (by omega); simp only at this; omega
    have hq := hhi h16
    simp only at hq
    exact (concatenate_apply_piece (t := S80x256) (0 : Fin 2) _ _ (ix2 r l) 3 (by show 3 < 9; decide) S8x256 _ rfl rfl 32 rfl (ix2 ⟨r.val - 32, by omega⟩ l)
      (Fin.forall_fin_two.2 ⟨fun h => absurd rfl h, fun _ => rfl⟩) (by show 32 + (r.val - 32) = r.val; omega)).trans
      (mid_at g γ hg a b 3 _ (by omega) _ l _ _ (by show ci r.val = 3; unfold ci; split_ifs <;> omega) (by show cj r.val = r.val - 32; unfold cj; split_ifs <;> omega))
  | ⟨4, _⟩ =>
    have h16 : 16 ≤ r.val := by by_contra h; have := hlo (by omega); simp only at this; omega
    have hq := hhi h16
    simp only at hq
    exact (concatenate_apply_piece (t := S80x256) (0 : Fin 2) _ _ (ix2 r l) 4 (by show 4 < 9; decide) S8x256 _ rfl rfl 40 rfl (ix2 ⟨r.val - 40, by omega⟩ l)
      (Fin.forall_fin_two.2 ⟨fun h => absurd rfl h, fun _ => rfl⟩) (by show 40 + (r.val - 40) = r.val; omega)).trans
      (mid_at g γ hg a b 4 _ (by omega) _ l _ _ (by show ci r.val = 4; unfold ci; split_ifs <;> omega) (by show cj r.val = r.val - 40; unfold cj; split_ifs <;> omega))
  | ⟨5, _⟩ =>
    have h16 : 16 ≤ r.val := by by_contra h; have := hlo (by omega); simp only at this; omega
    have hq := hhi h16
    simp only at hq
    exact (concatenate_apply_piece (t := S80x256) (0 : Fin 2) _ _ (ix2 r l) 5 (by show 5 < 9; decide) S8x256 _ rfl rfl 48 rfl (ix2 ⟨r.val - 48, by omega⟩ l)
      (Fin.forall_fin_two.2 ⟨fun h => absurd rfl h, fun _ => rfl⟩) (by show 48 + (r.val - 48) = r.val; omega)).trans
      (mid_at g γ hg a b 5 _ (by omega) _ l _ _ (by show ci r.val = 5; unfold ci; split_ifs <;> omega) (by show cj r.val = r.val - 48; unfold cj; split_ifs <;> omega))
  | ⟨6, _⟩ =>
    have h16 : 16 ≤ r.val := by by_contra h; have := hlo (by omega); simp only at this; omega
    have hq := hhi h16
    simp only at hq
    exact (concatenate_apply_piece (t := S80x256) (0 : Fin 2) _ _ (ix2 r l) 6 (by show 6 < 9; decide) S8x256 _ rfl rfl 56 rfl (ix2 ⟨r.val - 56, by omega⟩ l)
      (Fin.forall_fin_two.2 ⟨fun h => absurd rfl h, fun _ => rfl⟩) (by show 56 + (r.val - 56) = r.val; omega)).trans
      (mid_at g γ hg a b 6 _ (by omega) _ l _ _ (by show ci r.val = 6; unfold ci; split_ifs <;> omega) (by show cj r.val = r.val - 56; unfold cj; split_ifs <;> omega))
  | ⟨7, _⟩ =>
    have h16 : 16 ≤ r.val := by by_contra h; have := hlo (by omega); simp only at this; omega
    have hq := hhi h16
    simp only at hq
    exact (concatenate_apply_piece (t := S80x256) (0 : Fin 2) _ _ (ix2 r l) 7 (by show 7 < 9; decide) S8x256 _ rfl rfl 64 rfl (ix2 ⟨r.val - 64, by omega⟩ l)
      (Fin.forall_fin_two.2 ⟨fun h => absurd rfl h, fun _ => rfl⟩) (by show 64 + (r.val - 64) = r.val; omega)).trans
      (mid_at g γ hg a b 7 _ (by omega) _ l _ _ (by show ci r.val = 7; unfold ci; split_ifs <;> omega) (by show cj r.val = r.val - 64; unfold cj; split_ifs <;> omega))
  | ⟨8, _⟩ =>
    have h16 : 16 ≤ r.val := by by_contra h; have := hlo (by omega); simp only at this; omega
    have hq := hhi h16
    simp only at hq
    refine (concatenate_apply_piece (t := S80x256) (0 : Fin 2) _ _ (ix2 r l) 8 (by show 8 < 9; decide) S8x256 _ rfl rfl 72 rfl (ix2 ⟨r.val - 72, by omega⟩ l)
      (Fin.forall_fin_two.2 ⟨fun h => absurd rfl h, fun _ => rfl⟩) (by show 72 + (r.val - 72) = r.val; omega)).trans ?_
    show g (extractStridedSlice S8x256 ![8, 0] a slices_S16x256_o8_0_S8x256) (ix2 ⟨r.val - 72, by omega⟩ l)
      + broadcastTo (Rows 8) (extractStridedSlice S1x256 ![0, 0] b slices_S16x256_o0_0_S1x256) broadcasts_S1x256_S8x256 (ix2 ⟨r.val - 72, by omega⟩ l) = _
    rw [spread_at, hg]
    refine congrArg₂ (fun x y : EReal => γ x + y) (slice_at (M := 8) 8 a slices_S16x256_o8_0_S8x256 _ l ⟨ci r.val, ci_lt r⟩ ?_)
      (slice_at (M := 1) 0 b slices_S16x256_o0_0_S1x256 0 l ⟨cj r.val, cj_lt r⟩ ?_)
    · show ci r.val = 8 + (r.val - 72); unfold ci; split_ifs <;> omega
    · show cj r.val = 0 + 0; unfold cj; split_ifs <;> omega

end Cert.Proof.Route

end
-- ==== Proof.RouteHead.lean ====
/-
  One head of the routing kernel, read for one token: the sixteen pairs of keys found, their experts and their gates.
-/
module

public import proofs.«01_k».proof.Proof.RouteColumns

@[expose] public section

set_option maxRecDepth 16384

noncomputable section

open Idealize.ShloMosaic Idealize.ShloMosaic.TcCoe Idealize.SL.Sem

namespace Cert.Proof.Route

open Cert.Kernel7Ideal Cert.Kernel7Ideal.Gen

/-- The key that a round finds. -/
def keyAt (u : Fin 128 → EReal) (i : ℕ) : Fin 128 := pick (fun a => a.val) u i

/-- The greatest scores. -/
def top (u : Fin 128 → EReal) (i : Fin 16) : EReal := u (keyAt u i)

theorem key_small (a : Fin 128) : a.val < 16777216 := a.isLt.trans (by decide)

theorem val_injective {n : ℕ} : Function.Injective fun a : Fin n => a.val := fun _ _ e => Fin.ext e

theorem all_count {u : Fin 128 → EReal} (hu : ∀ a, u a ≠ ⊥) : 16 ≤ (Finset.univ.filter fun a => u a ≠ ⊥).card := by
  rw [Finset.filter_true_of_mem fun a _ => hu a]; simp

theorem top_picks {u : Fin 128 → EReal} (hu : ∀ a, u a ≠ ⊥) : Picks u (fun a => a.val) fun i : Fin 16 => keyAt u i :=
  picks (fun a => a.val) key_small val_injective u 16 (all_count hu)

theorem top_le {u : Fin 128 → EReal} (hu : ∀ a, u a ≠ ⊥) (i j : Fin 16) (h : i ≤ j) : top u j ≤ top u i := by
  rcases h.lt_or_eq with q | q
  · rcases (top_picks hu).ordered i j q with w | ⟨w, -⟩
    · exact w.le
    · exact w.ge
  · rw [q]

/-- The expert of a pair of keys. -/
def expertOf (u v : Fin 128 → EReal) (p : Fin 256) : ℕ := (keyAt u (p.val / 16)).val * 128 + (keyAt v (p.val % 16)).val

theorem expertOf_lt (u v : Fin 128 → EReal) (p : Fin 256) : expertOf u v p < 16384 := by unfold expertOf; omega

variable (a b : FVec Ideal S128x256 .f32) (l : Fin 256)

theorem keyLeft_at (r : ℕ) : col (keyLeft a r) l = rounds (fun k : Fin 128 => k.val) (col a l) r :=
  left_at (N := 128) _ _ _ _ key_order a r l

theorem keyVals_at (hu : ∀ k, col a l k ≠ ⊥) (i : Fin 16) : keyVals a (ix2 i l) = top (col a l) i := by
  unfold keyVals
  rw [stack_at, greatest_at, keyLeft_at, most_rounds _ key_small val_injective _ _ (i.isLt.trans_le (all_count hu))]
  rfl

theorem keyIds_at (i : Fin 16) : keyIds a (ix2 i l) = (((keyAt (col a l) i).val : ℝ) : EReal) := by
  unfold keyIds
  rw [stack_at, first_at (N := 128) _ _ _ _ key_order, keyLeft_at, least_rounds _ key_small]
  rfl

theorem pairScores_at (hu : ∀ k, col a l k ≠ ⊥) (hv : ∀ k, col b l k ≠ ⊥) :
    col (N := 80) (pairScores a b) l = looked (top (col a l)) (top (col b l)) := by
  funext r
  show Scalar.select (pairValid (ix2 r l)) (pairs (fun v => v) (keyVals a) (keyVals b) (ix2 r l)) (Ideal.ofBits .f32 0xFF800000#32) = _
  rw [pair_valid, bot_eq, pairs_at (fun v => v) (fun x => x) (fun _ _ => rfl), keyVals_at a l hu, keyVals_at b l hv]
  unfold looked pairSum
  have e1 : (⟨(number r).val / 16, by omega⟩ : Fin 16) = ⟨ci r.val, ci_lt r⟩ := Fin.ext (number_div r)
  have e2 : (⟨(number r).val % 16, by omega⟩ : Fin 16) = ⟨cj r.val, cj_lt r⟩ := Fin.ext (number_mod r)
  rw [e1, e2]
  cases good (ci r.val) (cj r.val) <;> rfl

theorem pairIds_at (r : Fin 80) : pairIds a b (ix2 r l) = ((expertOf (col a l) (col b l) (number r) : ℝ) : EReal) := by
  unfold pairIds
  rw [pairs_at (fun {s} v => mulf v (broadcast s (Scalar.ofBits .f32 0x43000000#32 : Ideal .f32))) (fun x => x * Ideal.ofBits .f32 0x43000000#32) (fun _ _ => rfl),
    keyIds_at, keyIds_at, scale_eq]
  unfold expertOf
  rw [number_div, number_mod]
  push_cast
  rfl

variable (hu : ∀ k, col a l k ≠ ⊥) (hv : ∀ k, col b l k ≠ ⊥) (hs : ∀ p, pairSum (top (col a l)) (top (col b l)) p ≠ ⊥)

include hu hv in
theorem pairLeft_at (r : ℕ) : col (N := 80) (pairLeft (pairScores a b) r) l
    = rounds (fun k : Fin 80 => (number k).val) (looked (top (col a l)) (top (col b l))) r :=
  (left_at (N := 80) _ _ _ _ pair_order (pairScores a b) r l).trans (by rw [pairScores_at a b l hu hv])

include hu hv hs in
theorem bestVals_at (i : Fin 16) : bestVals a b (ix2 i l)
    = pairSum (top (col a l)) (top (col b l)) (chosen (top (col a l)) (top (col b l)) i) := by
  unfold bestVals
  rw [stack_at, greatest_at, pairLeft_at a b l hu hv,
    most_rounds _ number_small val_number_injective _ _ (i.isLt.trans_le (looked_many hs))]
  exact (looked_pick hs i).1

include hu hv hs in
theorem bestIds_at (i : Fin 16) : bestIds a b (ix2 i l)
    = ((expertOf (col a l) (col b l) (chosen (top (col a l)) (top (col b l)) i) : ℝ) : EReal) := by
  unfold bestIds
  rw [stack_at, carried_at (N := 80) _ _ _ _ pair_order, pairLeft_at a b l hu hv]
  refine (payload_rounds _ number_small val_number_injective _ _ (fun r => (pairIds a b (ix2 r l) : EReal)) _ fun r => ?_).trans (pairIds_at a b l _)
  show ((-1 : ℝ) : EReal) ≤ pairIds a b (ix2 r l)
  rw [pairIds_at]
  exact EReal.coe_le_coe_iff.2 ((by norm_num : (-1 : ℝ) ≤ 0).trans (Nat.cast_nonneg _))

theorem whole_word (n : ℕ) (h : n < 16384) : Ideal.fptosi 32 ((n : ℝ) : EReal) = BitVec.ofNat 32 n := by
  unfold Ideal.fptosi
  rw [Ideal.toIntClamped_coe, if_pos (Nat.cast_nonneg n), Int.floor_natCast]
  have e : max (-(2 ^ (32 - 1) : ℕ) : ℤ) (min (((2 ^ (32 - 1) : ℕ) : ℤ) - 1) (n : ℤ)) = (n : ℤ) := by
    rw [min_eq_right (by omega), max_eq_right (by omega)]
  rw [e, BitVec.ofInt_natCast]

include hu hv hs in
theorem headIds_at (i : Fin 16) : headIds a b (ix2 i l)
    = BitVec.ofNat 32 (expertOf (col a l) (col b l) (chosen (top (col a l)) (top (col b l)) i)) := by
  show Ideal.fptosi 32 (bestIds a b (ix2 i l)) = _
  rw [bestIds_at a b l hu hv hs, whole_word _ (expertOf_lt _ _ _)]

/-- The share of an entry, from the scores. -/
def shareOf (w : Fin 16 → EReal) (i : Fin 16) : EReal :=
  Ideal.div (Ideal.exp (w i - w 0)) (∑ k : Fin 16, Ideal.exp (w k - w 0))

theorem shares_at (v : FVec Ideal S16x256 .f32) (i : Fin 16) : shares (powers v) (ix2 i l) = shareOf (fun k => v (ix2 k l)) i := by
  have p : ∀ k : Fin 16, powers v (ix2 k l) = Ideal.exp (v (ix2 k l) - v (ix2 0 l)) := by
    intro k
    show Ideal.exp (v (ix2 k l) - broadcastTo (Rows 16) (extractStridedSlice S1x256 ![0, 0] v slices_S16x256_o0_0_S1x256) broadcasts_S1x256_S16x256 (ix2 k l)) = _
    rw [spread_at]
    exact congrArg (fun y : EReal => Ideal.exp (v (ix2 k l) - y)) (slice_at (M := 1) 0 v slices_S16x256_o0_0_S1x256 0 l 0 rfl)
  show Ideal.div (powers v (ix2 i l)) (broadcastTo (Rows 16) (shapeCast S1x256 (multiReduction .add [0] S256 (powers v) 0x00000000#32 reduces_S16x256_S256 (.inl rfl) rfl)
    shapeCasts_S256_S1x256) broadcasts_S1x256_S16x256 (ix2 i l)) = _
  rw [spread_at, row_at]
  unfold shareOf
  refine congrArg₂ Ideal.div (p i) ?_
  refine (Ideal.multiReduction_add_single (powers v) _ reduces_S16x256_S256 _ _ _).trans ?_
  exact Finset.sum_congr rfl fun k _ => (congrArg (powers v) (lift_eq (N := 16) reduces_S16x256_S256 l k)).trans (p k)

include hu hv hs in
theorem headGates_at (i : Fin 16) : headGates a b (ix2 i l)
    = shareOf (fun k => pairSum (top (col a l)) (top (col b l)) (chosen (top (col a l)) (top (col b l)) k)) i := by
  unfold headGates
  rw [shares_at]
  exact congrArg (fun w => shareOf w i) (funext fun k => bestVals_at a b l hu hv hs k)

end Cert.Proof.Route

end
-- ==== Proof.RouteBlock.lean ====
/-
  The routing: what a point of the grid leaves in the blocks of expert numbers and gates, as functions of its queries and keys.
-/
module

public import proofs.«01_k».proof.Proof.RouteHead
public import proofs.«01_k».proof.Proof.InProj

@[expose] public section

set_option maxRecDepth 16384

noncomputable section

open Idealize.ShloMosaic Idealize.ShloMosaic.TcCoe
open Cert.Proof.InProj (z2 z3)

namespace Cert.Proof.Route

open Cert.Kernel7Ideal Cert.Kernel7Ideal.Gen

/-! ## The tokens and the queries of a block -/

theorem rows_kept (x0 : Vec Ideal S256x2048 .f32) (x1 x2 : Vec Ideal S1x1x2048 .f32) (r : Fin 256) (n : Fin 2048) :
    (k0_pay2 x0 x1 x2 : Vec Ideal S256x2048 .bf16) (ix2 r n) = (x0 (ix2 r n) : EReal) * x1 (ix3 0 0 n) + x2 (ix3 0 0 n) := by
  pointwise [k0_pay2, k0_pay1]

theorem queries_at (x0 : Vec Ideal S256x2048 .f32) (x1 x2 : Vec Ideal S1x1x2048 .f32) (x3 : Vec Ideal S2048x2048 .bf16) (r : Fin 256) (n : Fin 2048) :
    queries x0 x1 x2 x3 (ix2 r n) = ∑ k : Fin 2048, ((x0 (ix2 r k) : EReal) * x1 (ix3 0 0 k) + x2 (ix3 0 0 k)) * x3 (ix2 k n) := by
  unfold queries
  simp only [View.ld_unit_zero (S := S256x2048) z2, View.ld_unit_zero (S := S1x1x2048) z3, View.ld_unit_zero (S := S2048x2048) z2]
  pointwise [k0_pay3, k0_pay1]

/-! ## The scores of a half -/

/-- The scores of half `n`, from all the queries and keys. -/
def half (q : FVec Ideal S256x2048 .bf16) (s : Vec Ideal S16x128x128 .bf16) (n : Fin 16) : FVec Ideal S128x256 .f32 := fun j =>
  ∑ d : Fin 128, (s (ix3 n (j 0) d) : EReal) * q (ix2 (j 1) (⟨n.val * 128 + d.val, by omega⟩ : Fin 2048))

theorem scores_eq {off : Fin 2 → ℕ} (h : S256x2048.Slices off S256x128) (q : FVec Ideal S256x2048 .bf16) (s : Vec Ideal S16x128x128 .bf16)
    (k : Vec Ideal S1x128x128 .bf16) (n : Fin 16) (h0 : off 0 = 0) (h1 : off 1 = n.val * 128)
    (hk : ∀ a d, k (ix3 0 a d) = s (ix3 n a d)) : scores h q k = half q s n := by
  have e : ∀ (a : Fin 128) (l : Fin 256), scores h q k (ix2 a l)
      = ∑ d : Fin 128, (shapeCast S128x128 k shapeCasts_S1x128x128_S128x128 (ix2 a d) : EReal)
        * (extractStridedSlice S256x128 off q h : FVec Ideal S256x128 .bf16) (ix2 l d) := by
    intro a l
    unfold scores
    generalize (shapeCast S128x128 k shapeCasts_S1x128x128_S128x128 : FVec Ideal S128x128 .bf16) = u
    generalize (extractStridedSlice S256x128 off q h : FVec Ideal S256x128 .bf16) = v
    pointwise
  have key_eq : ∀ a d : Fin 128, shapeCast S128x128 k shapeCasts_S1x128x128_S128x128 (ix2 a d) = s (ix3 n a d) := by
    intro a d
    refine (shapeCast_apply k _ _ (ix3 0 a d) ?_).trans (hk _ _)
    rw [Shape.rowMajor_val_two, Shape.rowMajor_val_three]
    show (0 * 128 + a.val) * 128 + d.val = a.val * 128 + d.val
    omega
  have query_eq : ∀ (l : Fin 256) (d : Fin 128), (extractStridedSlice S256x128 off q h : FVec Ideal S256x128 .bf16) (ix2 l d)
      = q (ix2 l (⟨n.val * 128 + d.val, by omega⟩ : Fin 2048)) := by
    intro l d
    show q _ = q _
    congr 1
    funext b
    apply Fin.ext
    match b with
    | ⟨0, _⟩ => show off 0 + l.val = l.val; rw [h0]; omega
    | ⟨1, _⟩ => show off 1 + d.val = n.val * 128 + d.val; rw [h1]
  have full : ∀ (a : Fin 128) (l : Fin 256), scores h q k (ix2 a l) = half q s n (ix2 a l) := by
    intro a l
    rw [e]
    show _ = ∑ d : Fin 128, (s (ix3 n a d) : EReal) * q (ix2 l (⟨n.val * 128 + d.val, by omega⟩ : Fin 2048))
    refine Finset.sum_congr rfl fun d _ => ?_
    rw [key_eq, query_eq]
  refine funext fun (j : (⟨2, ![128, 256]⟩ : Shape).Idx) => ?_
  rw [eq_ix2 j]
  exact full (j 0) (j 1)

/-! ## The blocks -/

variable {e : EltTy} (f : FVec Ideal S128x256 .f32 → FVec Ideal S128x256 .f32 → Vec Ideal S16x256 e)

/-- A block of sixteen rows for each head. -/
def heads (q : FVec Ideal S256x2048 .bf16) (s : Vec Ideal S16x128x128 .bf16) : Vec Ideal S128x256 e := fun j =>
  f (half q s ⟨(j 0).val / 16 * 2, by have := (j 0).isLt; change (j 0).val < 128 at this; omega⟩)
    (half q s ⟨(j 0).val / 16 * 2 + 1, by have := (j 0).isLt; change (j 0).val < 128 at this; omega⟩)
    (ix2 (⟨(j 0).val % 16, by omega⟩ : Fin 16) (j 1))

theorem piece_at (q : FVec Ideal S256x2048 .bf16) (s : Vec Ideal S16x128x128 .bf16) (g : Fin 8) {a b : FVec Ideal S128x256 .f32}
    (ha : a = half q s ⟨g.val * 2, by omega⟩) (hb : b = half q s ⟨g.val * 2 + 1, by omega⟩) (x : S16x256.Idx) (y : S128x256.Idx)
    (h0 : (y 0).val = g.val * 16 + (x 0).val) (h1 : (y 1).val = (x 1).val) : f a b x = heads f q s y := by
  have lx : (x 0).val < 16 := (x 0).isLt
  unfold heads
  rw [ha, hb]
  have e0 : (y 0).val / 16 = g.val := by omega
  have e1 : (y 0).val % 16 = (x 0).val := by omega
  simp only [e0]
  congr 1
  funext b
  apply Fin.ext
  match b with
  | ⟨0, _⟩ => show (x 0).val = (y 0).val % 16; rw [e1]
  | ⟨1, _⟩ => show (x 1).val = (y 1).val; rw [h1]

/-- The keys of a half, read from the block of all of them. -/
theorem keys_at (s : Vec Ideal S16x128x128 .bf16) (n : Fin 16) (hb) (a d : Fin 128) :
    View.ld s (Rect.unit (s := S16x128x128) ![n.val, 0, 0] S1x128x128.size hb) (ix3 0 a d) = s (ix3 n a d) := by
  show s _ = s _
  congr 1
  funext b
  apply Fin.ext
  match b with
  | ⟨0, _⟩ => show n.val + 1 * 0 = n.val; omega
  | ⟨1, _⟩ => show 0 + 1 * a.val = a.val; omega
  | ⟨2, _⟩ => show 0 + 1 * d.val = d.val; omega

/-- The scores of a half, with its offset and its keys' place. -/
theorem half_eq (q : FVec Ideal S256x2048 .bf16) (s : Vec Ideal S16x128x128 .bf16) (n : Fin 16) {o : ℕ} (ho : o = n.val * 128)
    (h : S256x2048.Slices ![0, o] S256x128) (hb) :
    scores h q (View.ld s (Rect.unit (s := S16x128x128) ![n.val, 0, 0] S1x128x128.size hb)) = half q s n :=
  scores_eq h q s _ n rfl ho (keys_at s n hb)

/-- Each head's block of rows is the heads' function there. -/
theorem rows_of (q : FVec Ideal S256x2048 .bf16) (s : Vec Ideal S16x128x128 .bf16) (g : Fin 8) {o : ℕ} (ho : o = g.val * 16) (hb)
    {a b : FVec Ideal S128x256 .f32} (ha : a = half q s ⟨g.val * 2, by omega⟩) (hb' : b = half q s ⟨g.val * 2 + 1, by omega⟩)
    (x : (Rect.unit (s := S128x256) ![o, 0] S16x256.size hb).shape.Idx) :
    f a b x = heads f q s ((Rect.unit (s := S128x256) ![o, 0] S16x256.size hb).emb x) := by
  refine piece_at f q s g ha hb' x _ ?_ ?_
  · show o + 1 * (x 0).val = g.val * 16 + (x 0).val
    omega
  · show 0 + 1 * (x 1).val = (x 1).val
    omega

theorem pieces_at (q : FVec Ideal S256x2048 .bf16) (s : Vec Ideal S16x128x128 .bf16) : ∀ pc ∈ ([
    ⟨r0_26, f (scores slices_S256x2048_o0_1792_S256x128 q (View.ld s r0_24)) (scores slices_S256x2048_o0_1920_S256x128 q (View.ld s r0_25))⟩,
    ⟨r0_23, f (scores slices_S256x2048_o0_1536_S256x128 q (View.ld s r0_21)) (scores slices_S256x2048_o0_1664_S256x128 q (View.ld s r0_22))⟩,
    ⟨r0_20, f (scores slices_S256x2048_o0_1280_S256x128 q (View.ld s r0_18)) (scores slices_S256x2048_o0_1408_S256x128 q (View.ld s r0_19))⟩,
    ⟨r0_17, f (scores slices_S256x2048_o0_1024_S256x128 q (View.ld s r0_15)) (scores slices_S256x2048_o0_1152_S256x128 q (View.ld s r0_16))⟩,
    ⟨r0_14, f (scores slices_S256x2048_o0_768_S256x128 q (View.ld s r0_12)) (scores slices_S256x2048_o0_896_S256x128 q (View.ld s r0_13))⟩,
    ⟨r0_11, f (scores slices_S256x2048_o0_512_S256x128 q (View.ld s r0_9)) (scores slices_S256x2048_o0_640_S256x128 q (View.ld s r0_10))⟩,
    ⟨r0_8, f (scores slices_S256x2048_o0_256_S256x128 q (View.ld s r0_6)) (scores slices_S256x2048_o0_384_S256x128 q (View.ld s r0_7))⟩,
    ⟨r0_5, f (scores slices_S256x2048_o0_0_S256x128 q (View.ld s r0_3)) (scores slices_S256x2048_o0_128_S256x128 q (View.ld s r0_4))⟩] : List (View.Piece (Elt Ideal) S128x256 e)),
    ∀ x, pc.2 x = heads f q s (pc.1.emb x) := by
  intro pc hpc
  rcases List.mem_cons.mp hpc with rfl | hpc
  · exact rows_of f q s 7 (o := 112) rfl inb_S128x256_S16x256_112_0 (half_eq q s 14 rfl _ _) (half_eq q s 15 rfl _ _)
  rcases List.mem_cons.mp hpc with rfl | hpc
  · exact rows_of f q s 6 (o := 96) rfl inb_S128x256_S16x256_96_0 (half_eq q s 12 rfl _ _) (half_eq q s 13 rfl _ _)
  rcases List.mem_cons.mp hpc with rfl | hpc
  · exact rows_of f q s 5 (o := 80) rfl inb_S128x256_S16x256_80_0 (half_eq q s 10 rfl _ _) (half_eq q s 11 rfl _ _)
  rcases List.mem_cons.mp hpc with rfl | hpc
  · exact rows_of f q s 4 (o := 64) rfl inb_S128x256_S16x256_64_0 (half_eq q s 8 rfl _ _) (half_eq q s 9 rfl _ _)
  rcases List.mem_cons.mp hpc with rfl | hpc
  · exact rows_of f q s 3 (o := 48) rfl inb_S128x256_S16x256_48_0 (half_eq q s 6 rfl _ _) (half_eq q s 7 rfl _ _)
  rcases List.mem_cons.mp hpc with rfl | hpc
  · exact rows_of f q s 2 (o := 32) rfl inb_S128x256_S16x256_32_0 (half_eq q s 4 rfl _ _) (half_eq q s 5 rfl _ _)
  rcases List.mem_cons.mp hpc with rfl | hpc
  · exact rows_of f q s 1 (o := 16) rfl inb_S128x256_S16x256_16_0 (half_eq q s 2 rfl _ _) (half_eq q s 3 rfl _ _)
  rcases List.mem_cons.mp hpc with rfl | hpc
  · exact rows_of f q s 0 (o := 0) rfl inb_S128x256_S16x256_0_0 (half_eq q s 0 rfl _ _) (half_eq q s 1 rfl _ _)
  nomatch hpc

/-- The pieces together are the heads' function. -/
theorem whole_block (q : FVec Ideal S256x2048 .bf16) (s : Vec Ideal S16x128x128 .bf16) (y : S128x256.Idx) : View.canon ([
    ⟨r0_26, f (scores slices_S256x2048_o0_1792_S256x128 q (View.ld s r0_24)) (scores slices_S256x2048_o0_1920_S256x128 q (View.ld s r0_25))⟩,
    ⟨r0_23, f (scores slices_S256x2048_o0_1536_S256x128 q (View.ld s r0_21)) (scores slices_S256x2048_o0_1664_S256x128 q (View.ld s r0_22))⟩,
    ⟨r0_20, f (scores slices_S256x2048_o0_1280_S256x128 q (View.ld s r0_18)) (scores slices_S256x2048_o0_1408_S256x128 q (View.ld s r0_19))⟩,
    ⟨r0_17, f (scores slices_S256x2048_o0_1024_S256x128 q (View.ld s r0_15)) (scores slices_S256x2048_o0_1152_S256x128 q (View.ld s r0_16))⟩,
    ⟨r0_14, f (scores slices_S256x2048_o0_768_S256x128 q (View.ld s r0_12)) (scores slices_S256x2048_o0_896_S256x128 q (View.ld s r0_13))⟩,
    ⟨r0_11, f (scores slices_S256x2048_o0_512_S256x128 q (View.ld s r0_9)) (scores slices_S256x2048_o0_640_S256x128 q (View.ld s r0_10))⟩,
    ⟨r0_8, f (scores slices_S256x2048_o0_256_S256x128 q (View.ld s r0_6)) (scores slices_S256x2048_o0_384_S256x128 q (View.ld s r0_7))⟩,
    ⟨r0_5, f (scores slices_S256x2048_o0_0_S256x128 q (View.ld s r0_3)) (scores slices_S256x2048_o0_128_S256x128 q (View.ld s r0_4))⟩] : List (View.Piece (Elt Ideal) S128x256 e)) y = heads f q s y := by
  refine View.canon_apply_of_pieces (heads f q s) _ (pieces_at f q s) y ?_
  exact View.cover_of_tiled (s := S128x256) _ S16x256.size (by rfl) y

variable (x0 : Vec Ideal S256x2048 .f32) (x1 : Vec Ideal S1x1x2048 .f32) (x2 : Vec Ideal S1x1x2048 .f32)
  (x3 : Vec Ideal S2048x2048 .bf16) (x4 : Vec Ideal S16x128x128 .bf16)

theorem ids_left : out0_6 x0 x1 x2 x3 x4 = heads (e := .i32) headIds (queries x0 x1 x2 x3) x4 :=
  (out_ids x0 x1 x2 x3 x4).trans (funext fun y => whole_block (e := .i32) headIds (queries x0 x1 x2 x3) x4 y)

theorem gates_left : out0_7 x0 x1 x2 x3 x4 = heads (e := .f32) headGates (queries x0 x1 x2 x3) x4 :=
  (out_gates x0 x1 x2 x3 x4).trans (funext fun y => whole_block (e := .f32) headGates (queries x0 x1 x2 x3) x4 y)

end Cert.Proof.Route

end
-- ==== Proof.RouteSort.lean ====
/-
  The greatest entries as a sort leaves them: a stable sort by the values alone, read by the first entries of the order.
-/
module

public import proofs.«01_k».proof.Proof.RouteRounds
public import Idealize.ShloMosaic.Lib.Pointwise

@[expose] public section

set_option maxRecDepth 16384

noncomputable section

open Idealize.ShloMosaic Idealize.ShloMosaic.TcCoe

namespace Cert.Proof.Route

/-- A stable sort of positions in order compares a later position with an earlier one only. -/
theorem stable_of_later {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    obtain ⟨ha, hl⟩ := List.pairwise_cons.1 hl
    unfold stableSort
    rw [ih hl]
    exact insertBefore_congr R R' a _ fun b hb => h a b (ha b ((perm_stableSort R' l).mem_iff.1 hb))

theorem sorted_of_later {n : ℕ} (R R' : Fin n → Fin n → Bool) (h : ∀ a b, a < b → R b a = R' b a) : sortedFrom R = sortedFrom R' := by
  funext k
  have e : sortPositions n R = sortPositions n R' := stable_of_later R R' h _ (List.pairwise_lt_finRange n)
  unfold sortedFrom
  rw [List.get_of_eq e]
  rfl

/-- Sorting by "greater" is sorting by "greater, or equal and earlier". -/
theorem sorted_greater {n : ℕ} (x : Fin n → EReal) :
    sortedFrom (fun k k' => FloatOps.cmpfTotal (F := Ideal) (φ := .f32) .gt (x k) (x k') == 1#1) = sortedFrom (sooner x) := by
  refine sorted_of_later _ _ fun a b hab => ?_
  have e : FloatOps.cmpfTotal (F := Ideal) (φ := .f32) .gt (x b) (x a) = BitVec.ofBool (decide (x a < x b)) := rfl
  show (FloatOps.cmpfTotal (F := Ideal) (φ := .f32) .gt (x b) (x a) == 1#1) = _
  rw [e, Bool.eq_iff_iff, sooner_iff]
  unfold Before
  by_cases q : x a < x b
  · simp [q]
  · have : ¬ b.val < a.val := by omega
    simp [q, this]

variable {s : Shape} (d : ℕ) (hd : d < s.rank) (x : FVec Ideal s .f32) (y : IVec s 32) (J : s.Idx)

/-- Where the sort takes the entry at an index from. -/
theorem sort_at :
    (Host.sort2 s d (fun l r => FloatOps.cmpfTotal (F := Ideal) (φ := .f32) .gt l.1 r.1) x y).1 J
      = x (J.along ⟨d, hd⟩ (sortedFrom (sooner fun k => x (J.along ⟨d, hd⟩ k)) (J ⟨d, hd⟩)))
    ∧ (Host.sort2 s d (fun l r => FloatOps.cmpfTotal (F := Ideal) (φ := .f32) .gt l.1 r.1) x y).2 J
      = y (J.along ⟨d, hd⟩ (sortedFrom (sooner fun k => x (J.along ⟨d, hd⟩ k)) (J ⟨d, hd⟩))) := by
  unfold Host.sort2
  rw [dif_pos hd]
  rw [← sorted_greater]
  exact ⟨rfl, rfl⟩

/-- The greatest entries along the last axis of an array of four axes. -/
theorem greatest_of_four {A B C D k : ℕ} (x : FVec Ideal ⟨4, ![A, B, C, D]⟩ .f32) (hk : k ≤ D)
    (h : (⟨4, ![A, B, C, D]⟩ : Shape).Slices (fun _ => 0) ⟨4, ![A, B, C, k]⟩) (a : Fin A) (b : Fin B) (c : Fin C) (σ : Fin k → Fin D)
    (hσ : Picks (fun e => x (ix4 a b c e)) (fun p => p.val) σ) (i : Fin k) :
    (Host.topK ⟨4, ![A, B, C, k]⟩ 3 (FloatOps.cmpfTotal (F := Ideal) (φ := .f32) .gt) x h).1 (ix4 a b c i) = x (ix4 a b c (σ i))
    ∧ (Host.topK ⟨4, ![A, B, C, k]⟩ 3 (FloatOps.cmpfTotal (F := Ideal) (φ := .f32) .gt) x h).2 (ix4 a b c i) = BitVec.ofNat 32 (σ i).val := by
  have e : ∀ p : Fin D, Shape.Idx.along (s := ⟨4, ![A, B, C, D]⟩) (ix4 a b c (i.castLE hk)) (3 : Fin 4) p = ix4 a b c p := fun p => by
    funext q
    match q with
    | ⟨0, _⟩ => rfl
    | ⟨1, _⟩ => rfl
    | ⟨2, _⟩ => rfl
    | ⟨3, _⟩ => rfl
  have ej : ∀ (γ : Type) (v : (⟨4, ![A, B, C, D]⟩ : Shape).Idx → γ),
      extractStridedSlice ⟨4, ![A, B, C, k]⟩ (fun _ => 0) v h (ix4 a b c i) = v (ix4 a b c (i.castLE hk)) := fun γ v => by
    unfold extractStridedSlice
    refine congrArg v (funext fun q => Fin.ext ?_)
    match q with
    | ⟨0, _⟩ => exact Nat.zero_add _
    | ⟨1, _⟩ => exact Nat.zero_add _
    | ⟨2, _⟩ => exact Nat.zero_add _
    | ⟨3, _⟩ => exact Nat.zero_add _
  have es : sortedFrom (sooner fun p => x (Shape.Idx.along (s := ⟨4, ![A, B, C, D]⟩) (ix4 a b c (i.castLE hk)) (3 : Fin 4) p)) (i.castLE hk) = σ i := by
    rw [show (fun p => x (Shape.Idx.along (s := ⟨4, ![A, B, C, D]⟩) (ix4 a b c (i.castLE hk)) (3 : Fin 4) p)) = fun p => x (ix4 a b c p) from
      funext fun p => congrArg x (e p)]
    exact sorted_of_picks _ σ hσ hk i
  let y : IVec ⟨4, ![A, B, C, D]⟩ 32 := fun j => iotaInDim ⟨4, ![A, B, C, D]⟩ 32 (3 : Fin 4) j
  show (extractStridedSlice ⟨4, ![A, B, C, k]⟩ (fun _ => 0) (Host.sort2 ⟨4, ![A, B, C, D]⟩ 3 (fun l r => FloatOps.cmpfTotal (F := Ideal) (φ := .f32) .gt l.1 r.1) x y).1 h _ = _)
    ∧ (extractStridedSlice ⟨4, ![A, B, C, k]⟩ (fun _ => 0) (Host.sort2 ⟨4, ![A, B, C, D]⟩ 3 (fun l r => FloatOps.cmpfTotal (F := Ideal) (φ := .f32) .gt l.1 r.1) x y).2 h _ = _)
  have hd : 3 < (⟨4, ![A, B, C, D]⟩ : Shape).rank := show 3 < 4 by decide
  refine ⟨(ej _ _).trans ((sort_at 3 hd x y _).1.trans ?_), (ej _ _).trans ((sort_at 3 hd x y _).2.trans ?_)⟩
  · exact (congrArg (fun p => x (Shape.Idx.along (s := ⟨4, ![A, B, C, D]⟩) (ix4 a b c (i.castLE hk)) (3 : Fin 4) p)) es).trans (congrArg x (e _))
  · refine (congrArg (fun p => BitVec.ofNat 32 (Shape.Idx.along (s := ⟨4, ![A, B, C, D]⟩) (ix4 a b c (i.castLE hk)) (3 : Fin 4) p (3 : Fin 4)).val) es).trans ?_
    rw [e]
    rfl

/-- The greatest entries along the last axis of an array of three axes. -/
theorem greatest_of_three {A B D k : ℕ} (x : FVec Ideal ⟨3, ![A, B, D]⟩ .f32) (hk : k ≤ D)
    (h : (⟨3, ![A, B, D]⟩ : Shape).Slices (fun _ => 0) ⟨3, ![A, B, k]⟩) (a : Fin A) (b : Fin B) (σ : Fin k → Fin D)
    (hσ : Picks (fun e => x (ix3 a b e)) (fun p => p.val) σ) (i : Fin k) :
    (Host.topK ⟨3, ![A, B, k]⟩ 2 (FloatOps.cmpfTotal (F := Ideal) (φ := .f32) .gt) x h).1 (ix3 a b i) = x (ix3 a b (σ i))
    ∧ (Host.topK ⟨3, ![A, B, k]⟩ 2 (FloatOps.cmpfTotal (F := Ideal) (φ := .f32) .gt) x h).2 (ix3 a b i) = BitVec.ofNat 32 (σ i).val := by
  have e : ∀ p : Fin D, Shape.Idx.along (s := ⟨3, ![A, B, D]⟩) (ix3 a b (i.castLE hk)) (2 : Fin 3) p = ix3 a b p := fun p => by
    funext q
    match q with
    | ⟨0, _⟩ => rfl
    | ⟨1, _⟩ => rfl
    | ⟨2, _⟩ => rfl
  have ej : ∀ (γ : Type) (v : (⟨3, ![A, B, D]⟩ : Shape).Idx → γ),
      extractStridedSlice ⟨3, ![A, B, k]⟩ (fun _ => 0) v h (ix3 a b i) = v (ix3 a b (i.castLE hk)) := fun γ v => by
    unfold extractStridedSlice
    refine congrArg v (funext fun q => Fin.ext ?_)
    match q with
    | ⟨0, _⟩ => exact Nat.zero_add _
    | ⟨1, _⟩ => exact Nat.zero_add _
    | ⟨2, _⟩ => exact Nat.zero_add _
  have es : sortedFrom (sooner fun p => x (Shape.Idx.along (s := ⟨3, ![A, B, D]⟩) (ix3 a b (i.castLE hk)) (2 : Fin 3) p)) (i.castLE hk) = σ i := by
    rw [show (fun p => x (Shape.Idx.along (s := ⟨3, ![A, B, D]⟩) (ix3 a b (i.castLE hk)) (2 : Fin 3) p)) = fun p => x (ix3 a b p) from
      funext fun p => congrArg x (e p)]
    exact sorted_of_picks _ σ hσ hk i
  let y : IVec ⟨3, ![A, B, D]⟩ 32 := fun j => iotaInDim ⟨3, ![A, B, D]⟩ 32 (2 : Fin 3) j
  show (extractStridedSlice ⟨3, ![A, B, k]⟩ (fun _ => 0) (Host.sort2 ⟨3, ![A, B, D]⟩ 2 (fun l r => FloatOps.cmpfTotal (F := Ideal) (φ := .f32) .gt l.1 r.1) x y).1 h _ = _)
    ∧ (extractStridedSlice ⟨3, ![A, B, k]⟩ (fun _ => 0) (Host.sort2 ⟨3, ![A, B, D]⟩ 2 (fun l r => FloatOps.cmpfTotal (F := Ideal) (φ := .f32) .gt l.1 r.1) x y).2 h _ = _)
  have hd : 2 < (⟨3, ![A, B, D]⟩ : Shape).rank := show 2 < 3 by decide
  refine ⟨(ej _ _).trans ((sort_at 2 hd x y _).1.trans ?_), (ej _ _).trans ((sort_at 2 hd x y _).2.trans ?_)⟩
  · exact (congrArg (fun p => x (Shape.Idx.along (s := ⟨3, ![A, B, D]⟩) (ix3 a b (i.castLE hk)) (2 : Fin 3) p)) es).trans (congrArg x (e _))
  · refine (congrArg (fun p => BitVec.ofNat 32 (Shape.Idx.along (s := ⟨3, ![A, B, D]⟩) (ix3 a b (i.castLE hk)) (2 : Fin 3) p (2 : Fin 3)).val) es).trans ?_
    rw [e]
    rfl

end Cert.Proof.Route

end
-- ==== Proof.RouteRef.lean ====
/-
  The routing: the reference's results, entry by entry.
-/
module

public import proofs.«01_k».proof.Defs
public import proofs.«01_k».proof.Proof.Gen.Reference7Ideal.Run
public import proofs.«01_k».proof.Proof.RouteHead
public import proofs.«01_k».proof.Proof.RouteSort
public import Idealize.ShloMosaic.Lib.ReduceAll

@[expose] public section

set_option maxRecDepth 16384

noncomputable section

open Idealize.ShloMosaic Idealize.ShloMosaic.TcCoe

namespace Cert.Proof.Route.Ref

open Cert.Reference7Ideal Cert.Reference7Ideal.Gen

/-! ## Moving entries about -/

section Layout

variable {α : Type}

def left (v : S16384x8x2x16.Idx → α) : S16384x8x16.Idx → α :=
  shapeCast S16384x8x16 (extractStridedSlice S16384x8x1x16 ![0, 0, 0, 0] v slices_S16384x8x2x16_S16384x8x1x16_0_0_0_0) shapeCasts_S16384x8x1x16_S16384x8x16

def right (v : S16384x8x2x16.Idx → α) : S16384x8x16.Idx → α :=
  shapeCast S16384x8x16 (extractStridedSlice S16384x8x1x16 ![0, 0, 1, 0] v slices_S16384x8x2x16_S16384x8x1x16_0_0_1_0) shapeCasts_S16384x8x1x16_S16384x8x16

def column (v : S16384x8x16.Idx → α) : S16384x8x16x1.Idx → α :=
  broadcastInDim S16384x8x16x1 ![0, 1, 2] bcast_S16384x8x16_S16384x8x16x1_0_1_2 v

def line (v : S16384x8x16.Idx → α) : S16384x8x1x16.Idx → α :=
  broadcastInDim S16384x8x1x16 ![0, 1, 3] bcast_S16384x8x16_S16384x8x1x16_0_1_3 v

def across (v : S16384x8x16x1.Idx → α) : S16384x8x16x16.Idx → α :=
  broadcastInDim S16384x8x16x16 ![0, 1, 2, 3] bcast_S16384x8x16x1_S16384x8x16x16_0_1_2_3 v

def down (v : S16384x8x1x16.Idx → α) : S16384x8x16x16.Idx → α :=
  broadcastInDim S16384x8x16x16 ![0, 1, 2, 3] bcast_S16384x8x1x16_S16384x8x16x16_0_1_2_3 v

def flat (v : S16384x8x16x16.Idx → α) : S16384x8x256.Idx → α := shapeCast S16384x8x256 v shapeCasts_S16384x8x16x16_S16384x8x256

def rows (v : S16384x8x16.Idx → α) : S16384x128.Idx → α := shapeCast S16384x128 v shapeCasts_S16384x8x16_S16384x128

theorem drop_axis (v : S16384x8x1x16.Idx → α) (t : Fin 16384) (h : Fin 8) (i : Fin 16) :
    shapeCast S16384x8x16 v shapeCasts_S16384x8x1x16_S16384x8x16 (ix3 t h i) = v (ix4 t h 0 i) := by
  refine shapeCast_apply v _ _ _ ?_
  rw [Shape.rowMajor_val_four, Shape.rowMajor_val_three]
  show ((t.val * 8 + h.val) * 1 + 0) * 16 + i.val = (t.val * 8 + h.val) * 16 + i.val
  omega

theorem left_at (v : S16384x8x2x16.Idx → α) (t : Fin 16384) (h : Fin 8) (i : Fin 16) : left v (ix3 t h i) = v (ix4 t h 0 i) := by
  refine (drop_axis _ t h i).trans ?_
  unfold extractStridedSlice
  refine congrArg v (funext fun q => Fin.ext ?_)
  match q with
  | ⟨0, _⟩ => exact Nat.zero_add _
  | ⟨1, _⟩ => exact Nat.zero_add _
  | ⟨2, _⟩ => rfl
  | ⟨3, _⟩ => exact Nat.zero_add _

theorem right_at (v : S16384x8x2x16.Idx → α) (t : Fin 16384) (h : Fin 8) (i : Fin 16) : right v (ix3 t h i) = v (ix4 t h 1 i) := by
  refine (drop_axis _ t h i).trans ?_
  unfold extractStridedSlice
  refine congrArg v (funext fun q => Fin.ext ?_)
  match q with
  | ⟨0, _⟩ => exact Nat.zero_add _
  | ⟨1, _⟩ => exact Nat.zero_add _
  | ⟨2, _⟩ => rfl
  | ⟨3, _⟩ => exact Nat.zero_add _

theorem column_at (v : S16384x8x16.Idx → α) (t : Fin 16384) (h : Fin 8) (i : Fin 16) (z : Fin 1) : column v (ix4 t h i z) = v (ix3 t h i) := by
  refine broadcastInDim_apply _ _ v _ _ fun q => ?_
  match q with
  | ⟨0, _⟩ => rfl
  | ⟨1, _⟩ => rfl
  | ⟨2, _⟩ => rfl

theorem line_at (v : S16384x8x16.Idx → α) (t : Fin 16384) (h : Fin 8) (z : Fin 1) (i : Fin 16) : line v (ix4 t h z i) = v (ix3 t h i) := by
  refine broadcastInDim_apply _ _ v _ _ fun q => ?_
  match q with
  | ⟨0, _⟩ => rfl
  | ⟨1, _⟩ => rfl
  | ⟨2, _⟩ => rfl

theorem across_at (v : S16384x8x16x1.Idx → α) (t : Fin 16384) (h : Fin 8) (i j : Fin 16) : across v (ix4 t h i j) = v (ix4 t h i 0) := by
  refine broadcastInDim_apply _ _ v _ _ fun q => ?_
  match q with
  | ⟨0, _⟩ => rfl
  | ⟨1, _⟩ => rfl
  | ⟨2, _⟩ => rfl
  | ⟨3, _⟩ => rfl

theorem down_at (v : S16384x8x1x16.Idx → α) (t : Fin 16384) (h : Fin 8) (i j : Fin 16) : down v (ix4 t h i j) = v (ix4 t h 0 j) := by
  refine broadcastInDim_apply _ _ v _ _ fun q => ?_
  match q with
  | ⟨0, _⟩ => rfl
  | ⟨1, _⟩ => rfl
  | ⟨2, _⟩ => rfl
  | ⟨3, _⟩ => rfl

theorem flat_at (v : S16384x8x16x16.Idx → α) (t : Fin 16384) (h : Fin 8) (p : Fin 256) :
    flat v (ix3 t h p) = v (ix4 t h ⟨p.val / 16, by omega⟩ ⟨p.val % 16, by omega⟩) := by
  refine shapeCast_apply v _ _ _ ?_
  rw [Shape.rowMajor_val_four, Shape.rowMajor_val_three]
  show ((t.val * 8 + h.val) * 16 + p.val / 16) * 16 + p.val % 16 = (t.val * 8 + h.val) * 256 + p.val
  omega

theorem rows_at (v : S16384x8x16.Idx → α) (t : Fin 16384) (q : Fin 128) :
    rows v (ix2 t q) = v (ix3 t ⟨q.val / 16, by omega⟩ ⟨q.val % 16, by omega⟩) := by
  refine shapeCast_apply v _ _ _ ?_
  rw [Shape.rowMajor_val_two, Shape.rowMajor_val_three]
  show (t.val * 8 + q.val / 16) * 16 + q.val % 16 = t.val * 128 + q.val
  omega

end Layout

/-! ## The candidates -/

def sums (w : FVec Ideal S16384x8x2x16 .f32) : FVec Ideal S16384x8x256 .f32 :=
  flat (addf (across (column (left w)) : FVec Ideal S16384x8x16x16 .f32) (down (line (right w))))

def names (w : IVec S16384x8x2x16 32) : IVec S16384x8x256 32 :=
  flat (addi (across (muli (column (left w)) (broadcastInDim S16384x8x16x1 ![] bcast_S_S16384x8x16x1 (constantI S_ 32 128#32)))) (down (line (right w))))

theorem sums_at (w : FVec Ideal S16384x8x2x16 .f32) (t : Fin 16384) (h : Fin 8) (p : Fin 256) :
    sums w (ix3 t h p) = pairSum (fun i => w (ix4 t h 0 i)) (fun i => w (ix4 t h 1 i)) p := by
  unfold sums
  rw [flat_at]
  show (across (column (left w)) (ix4 t h _ _) + down (line (right w)) (ix4 t h _ _) : EReal) = _
  rw [across_at, column_at, left_at, down_at, line_at, right_at]
  rfl

theorem names_at (w : IVec S16384x8x2x16 32) (t : Fin 16384) (h : Fin 8) (p : Fin 256) (f g : Fin 16 → ℕ)
    (hf : ∀ i, w (ix4 t h 0 i) = BitVec.ofNat 32 (f i)) (hg : ∀ i, w (ix4 t h 1 i) = BitVec.ofNat 32 (g i)) :
    names w (ix3 t h p) = BitVec.ofNat 32 (f ⟨p.val / 16, by omega⟩ * 128 + g ⟨p.val % 16, by omega⟩) := by
  unfold names
  rw [flat_at]
  show across (muli (column (left w)) _) (ix4 t h _ _) + down (line (right w)) (ix4 t h _ _) = _
  rw [across_at, down_at, line_at, right_at, hg]
  show column (left w) (ix4 t h _ 0) * 128#32 + _ = _
  rw [column_at, left_at, hf, BitVec.ofNat_add, BitVec.ofNat_mul]

/-! ## Taking the chosen candidates' experts -/

local notation "gd" => gather_S16384x8x256_S16384x8x16x1_S16384x8x16_n_2_01_01_2_3_111

/-- The positions as the reference indexes with them: a negative one counts from the end. -/
def starts (idx : IVec S16384x8x16 32) : IVec S16384x8x16x1 32 :=
  shapeCast S16384x8x16x1
    (select (cmpi .slt idx (broadcastInDim S16384x8x16 ![] bcast_S_S16384x8x16 (constantI S_ 32 0#32)))
      (addi idx (broadcastInDim S16384x8x16 ![] bcast_S_S16384x8x16 (constantI S_ 32 256#32))) idx) shapeCasts_S16384x8x16_S16384x8x16x1

def inside (v : IVec S16384x8x16x1 32) : IVec S16384x8x16x1 1 :=
  andi (cmpi .sge v (broadcastInDim S16384x8x16x1 ![] bcast_S_S16384x8x16x1 (constantI S_ 32 0#32)))
    (cmpi .sle v (broadcastInDim S16384x8x16x1 ![0, 1, 2, 3] bcast_S1x1x1x1_S16384x8x16x1_0_1_2_3
      (broadcastInDim S1x1x1x1 ![3] bcast_S1_S1x1x1x1_3 (constantI S1 32 255#32))))

def taken (v : IVec S16384x8x256 32) (idx : IVec S16384x8x16 32) : IVec S16384x8x16 32 :=
  select (Host.reduce IntOp.andi (inside (starts idx)) (constantI S_ 1 1#1) reducesTo_S16384x8x16x1_S16384x8x16_d3 h_S_)
    (Host.gather gd v (starts idx)) (broadcastInDim S16384x8x16 ![] bcast_S_S16384x8x16 (constantI S_ 32 2147483648#32))

section Taken

variable (v : IVec S16384x8x256 32) (idx : IVec S16384x8x16 32) (σ : Fin 16384 → Fin 8 → Fin 16 → Fin 256)
  (hσ : ∀ t h i, idx (ix3 t h i) = BitVec.ofNat 32 (σ t h i).val)

theorem small_word (p : Fin 256) : Scalar.select (IntOp.cmpi .slt (BitVec.ofNat 32 p.val) 0#32) (IntOp.addi (BitVec.ofNat 32 p.val) 256#32)
      (BitVec.ofNat 32 p.val) = BitVec.ofNat 32 p.val
    ∧ IntOp.andi (IntOp.cmpi .sge (BitVec.ofNat 32 p.val) 0#32) (IntOp.cmpi .sle (BitVec.ofNat 32 p.val) 255#32) = 1#1 := by
  revert p; decide +kernel

include hσ in
theorem starts_at (t : Fin 16384) (h : Fin 8) (i : Fin 16) (z : Fin 1) : starts idx (ix4 t h i z) = BitVec.ofNat 32 (σ t h i).val := by
  unfold starts
  refine (shapeCast_apply _ _ _ (ix3 t h i) ?_).trans ?_
  · rw [Shape.rowMajor_val_four, Shape.rowMajor_val_three]
    show (t.val * 8 + h.val) * 16 + i.val = ((t.val * 8 + h.val) * 16 + i.val) * 1 + z.val
    omega
  · show Scalar.select (IntOp.cmpi .slt (idx (ix3 t h i)) 0#32) (IntOp.addi (idx (ix3 t h i)) 256#32) (idx (ix3 t h i)) = _
    rw [hσ]
    exact (small_word _).1

include hσ in
theorem all_inside (j : S16384x8x16x1.Idx) : inside (starts idx) j = 1#1 := by
  have e : ∀ t h i z, inside (starts idx) (ix4 t h i z) = 1#1 := fun t h i z => by
    show IntOp.andi (IntOp.cmpi .sge (starts idx (ix4 t h i z)) 0#32) (IntOp.cmpi .sle (starts idx (ix4 t h i z)) 255#32) = 1#1
    rw [starts_at idx σ hσ]
    exact (small_word _).2
  rw [eq_ix4 j]
  exact e _ _ _ _

include hσ in
theorem gather_at (t : Fin 16384) (h : Fin 8) (i : Fin 16) : Host.gather gd v (starts idx) (ix3 t h i) = v (ix3 t h (σ t h i)) := by
  unfold Host.gather
  refine congrArg v (funext fun q => Fin.ext ?_)
  match q with
  | ⟨0, _⟩ =>
    show (gd).start (ix3 t h i) (starts idx) 0 + (gd).batchCoord (ix3 t h i) 0 + (gd).offCoord (ix3 t h i) 0 = t.val
    rw [GatherDims.start_batching _ _ _ _ (by decide), GatherDims.offCoord_eq_zero _ _ _ (by decide)]
    unfold GatherDims.batchCoord
    rw [dif_pos (show (0 : Fin 3) ∈ (gd).operandBatchingDims from by decide)]
    show 0 + t.val + 0 = t.val
    omega
  | ⟨1, _⟩ =>
    show (gd).start (ix3 t h i) (starts idx) 1 + (gd).batchCoord (ix3 t h i) 1 + (gd).offCoord (ix3 t h i) 1 = h.val
    rw [GatherDims.start_batching _ _ _ _ (by decide), GatherDims.offCoord_eq_zero _ _ _ (by decide)]
    unfold GatherDims.batchCoord
    rw [dif_pos (show (1 : Fin 3) ∈ (gd).operandBatchingDims from by decide)]
    show 0 + h.val + 0 = h.val
    omega
  | ⟨2, _⟩ =>
    show (gd).start (ix3 t h i) (starts idx) 2 + (gd).batchCoord (ix3 t h i) 2 + (gd).offCoord (ix3 t h i) 2 = (σ t h i).val
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (2 : Fin 3) ∈ (gd).startIndexMap from List.mem_singleton.mpr rfl)]
    have hsi : (gd).siIdx (ix3 t h i) ⟨List.idxOf (2 : Fin 3) (gd).startIndexMap, List.idxOf_lt_length_iff.2 (List.mem_singleton.mpr rfl)⟩ = ix4 t h i 0 := by
      funext b; refine Fin.ext ?_
      match b with
      | ⟨0, _⟩ => rfl
      | ⟨1, _⟩ => rfl
      | ⟨2, _⟩ => rfl
      | ⟨3, _⟩ => rfl
    rw [hsi, starts_at idx σ hσ]
    show min (BitVec.ofNat 32 (σ t h i).val).toInt.toNat 255 + 0 + 0 = (σ t h i).val
    have he := (σ t h i).isLt
    rw [BitVec.toInt_eq_toNat_of_lt (by rw [BitVec.toNat_ofNat]; omega), BitVec.toNat_ofNat]
    omega

include hσ in
theorem taken_at (t : Fin 16384) (h : Fin 8) (i : Fin 16) : taken v idx (ix3 t h i) = v (ix3 t h (σ t h i)) := by
  show Scalar.select (Host.reduce IntOp.andi (inside (starts idx)) (constantI S_ 1 1#1) reducesTo_S16384x8x16x1_S16384x8x16_d3 h_S_ (ix3 t h i))
    (Host.gather gd v (starts idx) (ix3 t h i)) 2147483648#32 = _
  rw [Host.reduce_andi_one _ _ _ _ _ rfl (all_inside idx σ hσ), gather_at v idx σ hσ]
  rfl

end Taken

end Cert.Proof.Route.Ref

end
-- ==== Proof.RouteGates.lean ====
/-
  The routing: the reference's gates, a softmax of the best candidates, entry by entry.
-/
module

public import proofs.«01_k».proof.Defs
public import proofs.«01_k».proof.Proof.Gen.Reference7Ideal.Run
public import proofs.«01_k».proof.Proof.RouteHead

@[expose] public section

set_option maxRecDepth 16384

noncomputable section

open Idealize.ShloMosaic Idealize.ShloMosaic.TcCoe

namespace Cert.Proof.Route.Ref

open Cert.Reference7Ideal Cert.Reference7Ideal.Gen

/-! ## The gates -/

def wide (v : FVec Ideal S16384x8 .f32) : FVec Ideal S16384x8x16 .f32 :=
  broadcastInDim S16384x8x16 ![0, 1, 2] bcast_S16384x8x1_S16384x8x16_0_1_2 (broadcastInDim S16384x8x1 ![0, 1] bcast_S16384x8_S16384x8x1_0_1 v)

def most (w : FVec Ideal S16384x8x16 .f32) : FVec Ideal S16384x8 .f32 :=
  Host.reduce FloatOps.maximumf w (constant S_ .f32 0xFF800000#32) reducesTo_S16384x8x16_S16384x8_d2 h_S_

def greatest (w : FVec Ideal S16384x8x16 .f32) : FVec Ideal S16384x8 .f32 :=
  maximumf (broadcastInDim S16384x8 ![] bcast_S_S16384x8 (constant S_ .f32 0xFF800000#32)) (most w)

def powers (w : FVec Ideal S16384x8x16 .f32) : FVec Ideal S16384x8x16 .f32 := Host.exp (subf w (wide (greatest w)))

def total (w : FVec Ideal S16384x8x16 .f32) : FVec Ideal S16384x8 .f32 :=
  Host.reduceAdd w (constant S_ .f32 0x00000000#32) reducesTo_S16384x8x16_S16384x8_d2 h_S_

def softmax (w : FVec Ideal S16384x8x16 .f32) : FVec Ideal S16384x8x16 .f32 := Host.divf (powers w) (wide (total (powers w)))

theorem wide_at (v : FVec Ideal S16384x8 .f32) (t : Fin 16384) (h : Fin 8) (i : Fin 16) : wide v (ix3 t h i) = v (ix2 t h) := by
  unfold wide
  refine (broadcastInDim_apply _ _ _ _ (ix3 t h 0) fun q => ?_).trans (broadcastInDim_apply _ _ _ _ (ix2 t h) fun q => ?_)
  · match q with
    | ⟨0, _⟩ => rfl
    | ⟨1, _⟩ => rfl
    | ⟨2, _⟩ => rfl
  · match q with
    | ⟨0, _⟩ => rfl
    | ⟨1, _⟩ => rfl

theorem last_reduces : S16384x8x16.Reduces [2] S16384x8 := by
  refine ⟨rfl, Nat.two_pos, ?_⟩
  exact reducesTo_S16384x8x16_S16384x8_d2.2

theorem last_lift (t : Fin 16384) (h : Fin 8) (k : Fin 16) : last_reduces.lift (ix2 t h) k = (ix3 t h k : S16384x8x16.Idx) := by
  funext c
  match c with
  | ⟨0, _⟩ => rfl
  | ⟨1, _⟩ => rfl
  | ⟨2, _⟩ => rfl

theorem greatest_at (w : FVec Ideal S16384x8x16 .f32) (t : Fin 16384) (h : Fin 8) (hw : ∀ k, (w (ix3 t h k) : EReal) ≤ w (ix3 t h 0)) :
    greatest w (ix2 t h) = w (ix3 t h 0) := by
  have e : most w (ix2 t h) = Finset.univ.fold max (⊥ : EReal) fun k : Fin 16 => (w (ix3 t h k) : EReal) := by
    refine (Host.reduce_eq_fold_single (a := 2) FloatOps.maximumf w _ _ last_reduces _ _).trans ?_
    exact congrArg₂ (fun b f => Finset.fold max b f Finset.univ) bot_eq (funext fun k => congrArg w (last_lift t h k))
  show max (Ideal.ofBits .f32 0xFF800000#32) (most w (ix2 t h)) = _
  rw [e, bot_eq, max_eq_right bot_le]
  refine le_antisymm ((Finset.fold_max_le _).2 ⟨bot_le, fun k _ => hw k⟩) ?_
  exact (Finset.le_fold_max _).2 (.inr ⟨0, Finset.mem_univ _, le_rfl⟩)

theorem powers_at (w : FVec Ideal S16384x8x16 .f32) (t : Fin 16384) (h : Fin 8) (hw : ∀ k, (w (ix3 t h k) : EReal) ≤ w (ix3 t h 0)) (i : Fin 16) :
    powers w (ix3 t h i) = Ideal.exp ((w (ix3 t h i) : EReal) - w (ix3 t h 0)) := by
  show Ideal.exp ((w (ix3 t h i) : EReal) - wide (greatest w) (ix3 t h i)) = _
  rw [wide_at, greatest_at w t h hw]

theorem quotient_at {s : Shape} (x y : FVec Ideal s .f32) (j : s.Idx) : Host.divf x y j = Ideal.div (x j) (y j) := rfl

theorem total_at (w : FVec Ideal S16384x8x16 .f32) (t : Fin 16384) (h : Fin 8) : total w (ix2 t h) = ∑ k : Fin 16, (w (ix3 t h k) : EReal) := by
  unfold total
  pointwise

theorem softmax_at (w : FVec Ideal S16384x8x16 .f32) (t : Fin 16384) (h : Fin 8) (hw : ∀ k, (w (ix3 t h k) : EReal) ≤ w (ix3 t h 0)) (i : Fin 16) :
    softmax w (ix3 t h i) = shareOf (fun k => w (ix3 t h k)) i := by
  unfold softmax shareOf
  rw [quotient_at, wide_at, total_at, powers_at w t h hw]
  exact congrArg (fun v : EReal => Ideal.div _ v) (Finset.sum_congr rfl fun k _ => powers_at w t h hw k)

end Cert.Proof.Route.Ref

end
-- ==== Proof.RouteScores.lean ====
/-
  The routing: the reference's scores, and its results as functions of them.
-/
module

public import proofs.«01_k».proof.Proof.RouteRef
public import proofs.«01_k».proof.Proof.RouteGates

@[expose] public section

set_option maxRecDepth 16384

noncomputable section

open Idealize.ShloMosaic Idealize.ShloMosaic.TcCoe

namespace Cert.Proof.Route.Ref

open Cert.Reference7Ideal Cert.Reference7Ideal.Gen

/-! ## The scores -/

def tokens (x : FVec Ideal S16384x2048 .f32) (sc sh : FVec Ideal S4x1x2048 .f32) : FVec Ideal S16384x2048 .f32 :=
  shapeCast S16384x2048
    (addf (mulf (shapeCast S4x4096x2048 x shapeCasts_S16384x2048_S4x4096x2048)
        (broadcastInDim S4x4096x2048 ![0, 1, 2] bcast_S4x1x2048_S4x4096x2048_0_1_2 sc))
      (broadcastInDim S4x4096x2048 ![0, 1, 2] bcast_S4x1x2048_S4x4096x2048_0_1_2 sh)) shapeCasts_S4x4096x2048_S16384x2048

def questions (k : FVec Ideal S16384x2048 .f32) (w : FVec Ideal S2048x2048 .f32) : FVec Ideal S16384x8x2x128 .f32 :=
  shapeCast S16384x8x2x128 (Host.dotGeneral dot_S16384x2048_S2048x2048_S16384x2048_1_0_0_1_n_n none k w) shapeCasts_S16384x2048_S16384x8x2x128

def scores (s : FVec Ideal S8x2x128x128 .f32) (q : FVec Ideal S16384x8x2x128 .f32) : FVec Ideal S16384x8x2x128 .f32 :=
  transpose S16384x8x2x128 [3, 0, 1, 2] (Host.dotGeneral dot_S8x2x128x128_S16384x8x2x128_S8x2x128x16384_3_3_2_0_01_12 none s q)
    transposes_S8x2x128x16384_S16384x8x2x128_3_0_1_2

theorem tokens_at (x : FVec Ideal S16384x2048 .f32) (sc sh : FVec Ideal S4x1x2048 .f32) (t : Fin 16384) (d : Fin 2048) :
    tokens x sc sh (ix2 t d)
      = (x (ix2 t d) : EReal) * sc (ix3 (⟨t.val / 4096, by omega⟩ : Fin 4) 0 d) + sh (ix3 (⟨t.val / 4096, by omega⟩ : Fin 4) 0 d) := by
  unfold tokens
  refine (shapeCast_apply _ _ _ (ix3 (⟨t.val / 4096, by omega⟩ : Fin 4) (⟨t.val % 4096, by omega⟩ : Fin 4096) d) ?_).trans ?_
  · rw [Shape.rowMajor_val_two, Shape.rowMajor_val_three]
    show (t.val / 4096 * 4096 + t.val % 4096) * 2048 + d.val = t.val * 2048 + d.val
    omega
  have e : shapeCast S4x4096x2048 x shapeCasts_S16384x2048_S4x4096x2048 (ix3 (⟨t.val / 4096, by omega⟩ : Fin 4) (⟨t.val % 4096, by omega⟩ : Fin 4096) d)
      = x (ix2 t d) := by
    refine shapeCast_apply _ _ _ _ ?_
    rw [Shape.rowMajor_val_two, Shape.rowMajor_val_three]
    show t.val * 2048 + d.val = (t.val / 4096 * 4096 + t.val % 4096) * 2048 + d.val
    omega
  have b : ∀ v : FVec Ideal S4x1x2048 .f32, broadcastInDim S4x4096x2048 ![0, 1, 2] bcast_S4x1x2048_S4x4096x2048_0_1_2 v
      (ix3 (⟨t.val / 4096, by omega⟩ : Fin 4) (⟨t.val % 4096, by omega⟩ : Fin 4096) d) = v (ix3 (⟨t.val / 4096, by omega⟩ : Fin 4) 0 d) := fun v => by
    refine broadcastInDim_apply _ _ v _ _ fun q => ?_
    match q with
    | ⟨0, _⟩ => rfl
    | ⟨1, _⟩ => rfl
    | ⟨2, _⟩ => rfl
  show (shapeCast S4x4096x2048 x _ _ : EReal) * broadcastInDim S4x4096x2048 _ _ sc _ + broadcastInDim S4x4096x2048 _ _ sh _ = _
  rw [e, b, b]

theorem questions_at (k : FVec Ideal S16384x2048 .f32) (w : FVec Ideal S2048x2048 .f32) (t : Fin 16384) (h : Fin 8) (p : Fin 2) (d : Fin 128) :
    questions k w (ix4 t h p d) = ∑ n : Fin 2048, (k (ix2 t n) : EReal) * w (ix2 n (⟨(h.val * 2 + p.val) * 128 + d.val, by omega⟩ : Fin 2048)) := by
  unfold questions
  refine (shapeCast_apply _ _ _ (ix2 t (⟨(h.val * 2 + p.val) * 128 + d.val, by omega⟩ : Fin 2048)) ?_).trans ?_
  · rw [Shape.rowMajor_val_two, Shape.rowMajor_val_four]
    show t.val * 2048 + ((h.val * 2 + p.val) * 128 + d.val) = ((t.val * 8 + h.val) * 2 + p.val) * 128 + d.val
    omega
  · pointwise

theorem scores_at (s : FVec Ideal S8x2x128x128 .f32) (q : FVec Ideal S16384x8x2x128 .f32) (t : Fin 16384) (h : Fin 8) (p : Fin 2) (k : Fin 128) :
    scores s q (ix4 t h p k) = ∑ d : Fin 128, (s (ix4 h p k d) : EReal) * q (ix4 t h p d) := by
  unfold scores
  refine (transpose_apply _ _ _ _ (ix4 h p k t) fun b => ?_).trans ?_
  · match b with
    | ⟨0, _⟩ => rfl
    | ⟨1, _⟩ => rfl
    | ⟨2, _⟩ => rfl
    | ⟨3, _⟩ => rfl
  · pointwise

/-! ## The results, from the scores -/

/-- The greatest scores, and their keys. -/
def near (S : FVec Ideal S16384x8x2x128 .f32) : FVec Ideal S16384x8x2x16 .f32 × IVec S16384x8x2x16 32 :=
  Host.topK S16384x8x2x16 3 (FloatOps.cmpfTotal .gt) S sliceFits_S16384x8x2x128_S16384x8x2x16

/-- The greatest candidates, and their positions. -/
def best (c : FVec Ideal S16384x8x256 .f32) : FVec Ideal S16384x8x16 .f32 × IVec S16384x8x16 32 :=
  Host.topK S16384x8x16 2 (FloatOps.cmpfTotal .gt) c sliceFits_S16384x8x256_S16384x8x16

def experts (S : FVec Ideal S16384x8x2x128 .f32) : IVec S16384x128 32 := rows (taken (names (near S).2) (best (sums (near S).1)).2)

def gates (S : FVec Ideal S16384x8x2x128 .f32) : FVec Ideal S16384x128 .f32 := rows (softmax (best (sums (near S).1)).1)

section Results

variable (S : FVec Ideal S16384x8x2x128 .f32)

/-- The scores of a token against the keys of one half of one head. -/
def fibre (t : Fin 16384) (h : Fin 8) (p : Fin 2) (k : Fin 128) : EReal := S (ix4 t h p k)

variable (hS : ∀ t h p k, fibre S t h p k ≠ ⊥) (hp : ∀ t h p, pairSum (top (fibre S t h 0)) (top (fibre S t h 1)) p ≠ ⊥)

include hS in
theorem near_at (t : Fin 16384) (h : Fin 8) (p : Fin 2) (i : Fin 16) :
    (near S).1 (ix4 t h p i) = top (fibre S t h p) i ∧ (near S).2 (ix4 t h p i) = BitVec.ofNat 32 (keyAt (fibre S t h p) i).val :=
  greatest_of_four (k := 16) S (by decide) _ t h p (fun i : Fin 16 => keyAt (fibre S t h p) i) (top_picks (hS t h p)) i

include hS in
theorem near_sums (t : Fin 16384) (h : Fin 8) :
    (fun p => sums (near S).1 (ix3 t h p)) = pairSum (top (fibre S t h 0)) (top (fibre S t h 1)) := by
  funext p
  rw [sums_at]
  exact congrArg₂ (fun f g => pairSum f g p) (funext fun i => (near_at S hS t h 0 i).1) (funext fun i => (near_at S hS t h 1 i).1)

/-- The candidates that the reference chooses. -/
def picked (t : Fin 16384) (h : Fin 8) (i : Fin 16) : Fin 256 := chosen (top (fibre S t h 0)) (top (fibre S t h 1)) i

include hS hp in
theorem picked_picks (t : Fin 16384) (h : Fin 8) : Picks (pairSum (top (fibre S t h 0)) (top (fibre S t h 1))) (fun p => p.val) (picked S t h) :=
  chosen_picks (top_le (hS t h 0)) (top_le (hS t h 1)) (hp t h)

include hS hp in
theorem best_at (t : Fin 16384) (h : Fin 8) (i : Fin 16) :
    (best (sums (near S).1)).1 (ix3 t h i) = pairSum (top (fibre S t h 0)) (top (fibre S t h 1)) (picked S t h i)
    ∧ (best (sums (near S).1)).2 (ix3 t h i) = BitVec.ofNat 32 (picked S t h i).val := by
  have q := picked_picks S hS hp t h
  rw [← near_sums S hS t h] at q
  have r := greatest_of_three (k := 16) (sums (near S).1) (by decide) sliceFits_S16384x8x256_S16384x8x16 t h (picked S t h) q i
  exact ⟨r.1.trans (congrFun (near_sums S hS t h) _), r.2⟩

include hS hp in
theorem experts_at (t : Fin 16384) (q : Fin 128) (h : Fin 8) (i : Fin 16) (e : q.val = h.val * 16 + i.val) :
    experts S (ix2 t q) = BitVec.ofNat 32 (expertOf (fibre S t h 0) (fibre S t h 1) (picked S t h i)) := by
  have eh : (⟨q.val / 16, by omega⟩ : Fin 8) = h := Fin.ext (by show q.val / 16 = h.val; omega)
  have ei : (⟨q.val % 16, by omega⟩ : Fin 16) = i := Fin.ext (by show q.val % 16 = i.val; omega)
  unfold experts
  rw [rows_at, eh, ei, taken_at _ _ (picked S) fun t h i => (best_at S hS hp t h i).2]
  exact names_at (near S).2 t h (picked S t h i) (fun i => (keyAt (fibre S t h 0) i).val) (fun i => (keyAt (fibre S t h 1) i).val)
    (fun i => (near_at S hS t h 0 i).2) (fun i => (near_at S hS t h 1 i).2)

include hS hp in
theorem gates_at (t : Fin 16384) (q : Fin 128) (h : Fin 8) (i : Fin 16) (e : q.val = h.val * 16 + i.val) :
    gates S (ix2 t q) = shareOf (fun k => pairSum (top (fibre S t h 0)) (top (fibre S t h 1)) (picked S t h k)) i := by
  have eh : (⟨q.val / 16, by omega⟩ : Fin 8) = h := Fin.ext (by show q.val / 16 = h.val; omega)
  have ei : (⟨q.val % 16, by omega⟩ : Fin 16) = i := Fin.ext (by show q.val % 16 = i.val; omega)
  have hb : ∀ k, (best (sums (near S).1)).1 (ix3 t h k) = pairSum (top (fibre S t h 0)) (top (fibre S t h 1)) (picked S t h k) :=
    fun k => (best_at S hS hp t h k).1
  have hw : ∀ k, ((best (sums (near S).1)).1 (ix3 t h k) : EReal) ≤ (best (sums (near S).1)).1 (ix3 t h 0) := fun k => by
    rw [hb, hb]
    rcases (Fin.zero_le k).lt_or_eq with w | w
    · rcases (picked_picks S hS hp t h).ordered 0 k w with z | ⟨z, -⟩
      · exact z.le
      · exact z.ge
    · rw [w]
  unfold gates
  rw [rows_at, eh, ei, softmax_at _ t h hw]
  exact congrArg (fun f => shareOf f i) (funext hb)

end Results

/-! ## The reference's results -/

section Results

variable (m : (ℓ : Loc nD τ sig) → Buf (Elt Ideal) ℓ) (c : Dev nD)

/-- The scores of the reference's arguments. -/
def argScores : FVec Ideal S16384x8x2x128 .f32 :=
  scores (m ((c.tc : Thread nD τ).loc main_arg4))
    (questions (tokens (m ((c.tc : Thread nD τ).loc main_arg0)) (m ((c.tc : Thread nD τ).loc main_arg1)) (m ((c.tc : Thread nD τ).loc main_arg2)))
      (m ((c.tc : Thread nD τ).loc main_arg3)))

theorem experts_eq : Value.res_main_v45 m c = experts (argScores m c) := rfl

theorem gates_eq : Value.res_main_v46 m c = gates (argScores m c) := rfl

end Results

end Cert.Proof.Route.Ref

end
-- ==== Proof.RouteFinite.lean ====
/-
  The routing: under the precondition every argument's entry is a real number, and so is every score.
-/
module

public import proofs.«01_k».proof.Defs
public import proofs.«01_k».proof.Proof.RouteScores
public import proofs.«01_k».proof.Proof.Gen.Kernel7Ideal.Frame
public import proofs.«01_k».proof.Proof.Gen.Pre_finite
public import Idealize.ShloMosaic.Lib.ReduceAll

@[expose] public section

set_option maxRecDepth 16384

noncomputable section

open Idealize.ShloMosaic Idealize.ShloMosaic.TcCoe

namespace Cert.Proof.Route

/-- An extended real that is a real number. -/
def IsReal (v : EReal) : Prop := ∃ r : ℝ, v = r

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {n : ℕ} {f : Fin n → EReal} (h : ∀ k, IsReal (f k)) : IsReal (∑ k, f k) :=
  Finset.sum_induction _ IsReal (fun _ _ => IsReal.add) ⟨0, EReal.coe_zero.symm⟩ fun k _ => h k

theorem IsReal.ne_bot {a : EReal} (h : IsReal a) : a ≠ ⊥ := by
  obtain ⟨x, rfl⟩ := h
  exact EReal.coe_ne_bot x

theorem isReal_of_lt {v : EReal} (h : max v (-v) < ⊤) : IsReal v := by
  induction v with
  | bot => simp at h
  | coe r => exact ⟨r, rfl⟩
  | top => simp at h

section Entries

open Cert.Pre_finite

/-- What the precondition says of one argument. -/
theorem real_entry {s : Shape} {axes : List (Fin s.rank)} (v : FVec Ideal s .f32) (hb : S_.BroadcastsInDim s (![] : Fin 0 → Fin s.rank))
    (hr : s.ReducesTo axes S_) (hu : 0 < S_.numel) (j : S_.Idx)
    (e : Host.reduce IntOp.andi (cmpf .olt (Host.absf v) (broadcastInDim s ![] hb (constant S_ .f32 0x7F800000#32 : FVec Ideal S_ .f32)))
      (constantI S_ 1 1#1) hr hu j = 1#1) (i : s.Idx) : IsReal (v i) := by
  haveI : Subsingleton S_.Idx := ⟨fun a b => funext fun q => nomatch q⟩
  have h : Ideal.cmp .olt (max (v i : EReal) (-(v i : EReal))) (Ideal.ofBits .f32 0x7F800000#32) = 1#1 :=
    Host.reduce_andi_all _ _ hr hu j e i
  rw [show Ideal.ofBits .f32 0x7F800000#32 = ⊤ by simp [Ideal.ofBits, Ideal.ieee]] at h
  refine isReal_of_lt ?_
  by_contra hn
  simp [Ideal.cmp, hn] at h

end Entries

theorem both_one (a b : BitVec 1) (h : a &&& b = 1#1) : a = 1#1 ∧ b = 1#1 := by
  revert a b; decide

section Arguments

open Cert.Kernel7Ideal

variable (m : (ℓ : Loc nD τ sig) → Buf (Elt Ideal) ℓ)

theorem finite_args (c : Dev nD) (h : Cert.Pre_Kernel7Ideal_finite m) :
    (∀ i, IsReal ((m ((c.tc : Thread nD τ).loc main_arg0) : Vec Ideal S16384x2048 .f32) i))
      ∧ (∀ i, IsReal ((m ((c.tc : Thread nD τ).loc main_arg1) : Vec Ideal S4x1x2048 .f32) i))
      ∧ (∀ i, IsReal ((m ((c.tc : Thread nD τ).loc main_arg2) : Vec Ideal S4x1x2048 .f32) i))
      ∧ (∀ i, IsReal ((m ((c.tc : Thread nD τ).loc main_arg3) : Vec Ideal S2048x2048 .f32) i))
      ∧ (∀ i, IsReal ((m ((c.tc : Thread nD τ).loc main_arg4) : Vec Ideal S8x2x128x128 .f32) i)) := by
  have h0 := congrFun (h c) (fun q => nomatch q)
  unfold Cert.Pre_finite.fn Cert.Pre_finite.fn_part1 at h0
  obtain ⟨h1, e4⟩ := both_one _ _ h0
  obtain ⟨h2, e3⟩ := both_one _ _ h1
  obtain ⟨h3, e2⟩ := both_one _ _ h2
  obtain ⟨e0, e1⟩ := both_one _ _ h3
  exact ⟨real_entry _ _ _ _ _ e0, real_entry _ _ _ _ _ e1, real_entry _ _ _ _ _ e2, real_entry _ _ _ _ _ e3, real_entry _ _ _ _ _ e4⟩

end Arguments

section Scores

open Cert.Reference7Ideal Cert.Reference7Ideal.Gen

variable {x : FVec Ideal S16384x2048 .f32} {sc sh : FVec Ideal S4x1x2048 .f32} {w : FVec Ideal S2048x2048 .f32} {s : FVec Ideal S8x2x128x128 .f32}
  (hx : ∀ i, IsReal (x i)) (hc : ∀ i, IsReal (sc i)) (hh : ∀ i, IsReal (sh i)) (hw : ∀ i, IsReal (w i)) (hs : ∀ i, IsReal (s i))

include hx hc hh hw hs in
theorem real_scores (t : Fin 16384) (h : Fin 8) (p : Fin 2) (k : Fin 128) :
    IsReal (Ref.fibre (Ref.scores s (Ref.questions (Ref.tokens x sc sh) w)) t h p k) := by
  unfold Ref.fibre
  rw [Ref.scores_at]
  refine IsReal.sum fun d => (hs _).mul ?_
  rw [Ref.questions_at]
  refine IsReal.sum fun n => IsReal.mul ?_ (hw _)
  rw [Ref.tokens_at]
  exact ((hx _).mul (hc _)).add (hh _)

end Scores

theorem sum_ne_bot {u v : Fin 128 → EReal} (hu : ∀ k, IsReal (u k)) (hv : ∀ k, IsReal (v k)) (p : Fin 256) :
    pairSum (top u) (top v) p ≠ ⊥ := by
  refine IsReal.ne_bot ?_
  unfold pairSum top
  exact (hu _).add (hv _)

end Cert.Proof.Route

end
-- ==== Proof.RouteLaunch.lean ====
/-
  The routing: the arrays the launch leaves, from the blocks of its points.
-/
module

public import proofs.«01_k».proof.Proof.RouteBlock
public import proofs.«01_k».proof.Proof.RouteFinite
public import Idealize.ShloMosaic.Lib.Pipeline.Value
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Proof.InProj (z2 z3)

namespace Cert.Proof.Route

open Cert.Kernel7Ideal Cert.Kernel7Ideal.Gen

variable (m : (ℓ : Loc nD τ sig) → Buf (Elt Ideal) ℓ)

/-! ## The arguments -/

abbrev argX (c : Dev nD) : FVec Ideal S16384x2048 .f32 := m ((c.tc : Thread nD τ).loc main_arg0)
abbrev argScale (c : Dev nD) : FVec Ideal S4x1x2048 .f32 := m ((c.tc : Thread nD τ).loc main_arg1)
abbrev argShift (c : Dev nD) : FVec Ideal S4x1x2048 .f32 := m ((c.tc : Thread nD τ).loc main_arg2)
abbrev argWeight (c : Dev nD) : FVec Ideal S2048x2048 .f32 := m ((c.tc : Thread nD τ).loc main_arg3)
abbrev argKeys (c : Dev nD) : FVec Ideal S8x2x128x128 .f32 := m ((c.tc : Thread nD τ).loc main_arg4)

/-! ## The blocks the windows read -/

/-- The block indices of the windows, as numbers of the point. -/
theorem idx_all : ∀ t : Fin grid0.N, win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 := by decide +kernel

theorem idx_fixed : ∀ t : Fin grid0.N, win0_3.index t (0 : Fin 2) = 0 ∧ win0_3.index t (1 : Fin 2) = 0
    ∧ win0_4.index t (0 : Fin 3) = 0 ∧ win0_4.index t (1 : Fin 3) = 0 ∧ win0_4.index t (2 : Fin 3) = 0 := by decide +kernel

theorem idx_out : ∀ t : Fin grid0.N, win0_5.index t (0 : Fin 2) = t.val ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val := by decide +kernel

theorem t_lt (t : Fin cfg0.N) : t.val < 64 := lt_of_lt_of_eq t.isLt (show cfg0.N = 64 from N_0)

theorem rows_at (c : Dev nD) (t : Fin cfg0.N) (r : Fin 256) (k : Fin 2048) :
    (iblk m c 0 t : Vec Ideal S256x2048 .f32) (ix2 r k) = argX m c (ix2 ⟨t.val * 256 + r.val, by have := t_lt t; omega⟩ k) := by
  have hi := idx_all t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [hi.1]; omega
  | ⟨1, _⟩ => show win0_0.index t 1 * 2048 + 1 * k.val = k.val; rw [hi.2.1]; omega

theorem scale_at (c : Dev nD) (t : Fin cfg0.N) (k : Fin 2048) :
    (iblk m c 1 t : Vec Ideal S1x1x2048 .f32) (ix3 0 0 k) = argScale m c (ix3 ⟨t.val / 16, by have := t_lt t; omega⟩ 0 k) := by
  have hi := idx_all t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 16; rw [hi.2.2.1]; omega
  | ⟨1, _⟩ => show win0_1.index t 1 * 1 + 1 * 0 = 0; rw [hi.2.2.2.1]
  | ⟨2, _⟩ => show win0_1.index t 2 * 2048 + 1 * k.val = k.val; rw [hi.2.2.2.2.1]; omega

theorem shift_at (c : Dev nD) (t : Fin cfg0.N) (k : Fin 2048) :
    (iblk m c 2 t : Vec Ideal S1x1x2048 .f32) (ix3 0 0 k) = argShift m c (ix3 ⟨t.val / 16, by have := t_lt t; omega⟩ 0 k) := by
  have hi := idx_all t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 16; rw [hi.2.2.2.2.2.1]; omega
  | ⟨1, _⟩ => show win0_2.index t 1 * 1 + 1 * 0 = 0; rw [hi.2.2.2.2.2.2.1]
  | ⟨2, _⟩ => show win0_2.index t 2 * 2048 + 1 * k.val = k.val; rw [hi.2.2.2.2.2.2.2]; omega

/-- The query weights as the launch is given them. -/
theorem V_main_v2 (c : Dev nD) : V m c main_v2 = (truncf .bf16 (argWeight m c) bitsLt_bf16_f32 : Vec Ideal S2048x2048 .bf16) := by
  show StableHlo.after hostOps0 _ (Proc.devRef .tc main_v2) = _
  after_results

/-- The keys as the launch is given them: the two halves of the heads in one axis. -/
theorem V_main_v1 (c : Dev nD) : V m c main_v1
    = (truncf .bf16 (shapeCast S16x128x128 (argKeys m c) shapeCasts_S8x2x128x128_S16x128x128 : FVec Ideal S16x128x128 .f32) bitsLt_bf16_f32
      : Vec Ideal S16x128x128 .bf16) := by
  show StableHlo.after hostOps0 _ (Proc.devRef .tc main_v1) = _
  after_results
  rfl

theorem weight_at (c : Dev nD) (t : Fin cfg0.N) (k n : Fin 2048) :
    (iblk m c 3 t : Vec Ideal S2048x2048 .bf16) (ix2 k n) = argWeight m c (ix2 k n) := by
  have hi := idx_fixed t
  unfold iblk
  rw [View.read_apply]
  show V m c main_v2 _ = _
  rw [V_main_v2]
  show argWeight m c _ = argWeight m c _
  congr 1
  funext a
  apply Fin.ext
  match a with
  | ⟨0, _⟩ => show win0_3.index t 0 * 2048 + 1 * k.val = k.val; rw [hi.1]; omega
  | ⟨1, _⟩ => show win0_3.index t 1 * 2048 + 1 * n.val = n.val; rw [hi.2.1]; omega

theorem folded_at (s : FVec Ideal S8x2x128x128 .f32) (h : Fin 8) (p : Fin 2) (a d : Fin 128) :
    (shapeCast S16x128x128 s shapeCasts_S8x2x128x128_S16x128x128 : FVec Ideal S16x128x128 .f32)
      (ix3 (⟨h.val * 2 + p.val, by omega⟩ : Fin 16) a d) = s (ix4 h p a d) := by
  refine shapeCast_apply s _ _ _ ?_
  rw [Shape.rowMajor_val_three, Shape.rowMajor_val_four]
  show ((h.val * 2 + p.val) * 128 + a.val) * 128 + d.val = ((h.val * 2 + p.val) * 128 + a.val) * 128 + d.val
  rfl

theorem keysBlock_at (c : Dev nD) (t : Fin cfg0.N) (h : Fin 8) (p : Fin 2) (a d : Fin 128) :
    (iblk m c 4 t : Vec Ideal S16x128x128 .bf16) (ix3 (⟨h.val * 2 + p.val, by omega⟩ : Fin 16) a d) = argKeys m c (ix4 h p a d) := by
  have hi := idx_fixed t
  refine Eq.trans ?_ (folded_at _ h p a d)
  unfold iblk
  rw [View.read_apply]
  show V m c main_v1 _ = _
  rw [V_main_v1]
  show shapeCast S16x128x128 (argKeys m c) shapeCasts_S8x2x128x128_S16x128x128 _ = shapeCast S16x128x128 (argKeys m c) shapeCasts_S8x2x128x128_S16x128x128 _
  congr 1
  funext b
  apply Fin.ext
  match b with
  | ⟨0, _⟩ => show win0_4.index t 0 * 16 + 1 * (h.val * 2 + p.val) = h.val * 2 + p.val; rw [hi.2.2.1]; omega
  | ⟨1, _⟩ => show win0_4.index t 1 * 128 + 1 * a.val = a.val; rw [hi.2.2.2.1]; omega
  | ⟨2, _⟩ => show win0_4.index t 2 * 128 + 1 * d.val = d.val; rw [hi.2.2.2.2]; omega

/-! ## The scores -/

/-- The tokens, scaled and shifted. -/
def moved (c : Dev nD) : FVec Ideal S16384x2048 .f32 := Ref.tokens (argX m c) (argScale m c) (argShift m c)

/-- All the scores. -/
def allScores (c : Dev nD) : FVec Ideal Cert.Reference7Ideal.S16384x8x2x128 .f32 :=
  Ref.scores (argKeys m c) (Ref.questions (moved m c) (argWeight m c))

abbrev blockX (c : Dev nD) (t : Fin cfg0.N) : FVec Ideal S256x2048 .f32 := iblk m c 0 t
abbrev blockScale (c : Dev nD) (t : Fin cfg0.N) : FVec Ideal S1x1x2048 .f32 := iblk m c 1 t
abbrev blockShift (c : Dev nD) (t : Fin cfg0.N) : FVec Ideal S1x1x2048 .f32 := iblk m c 2 t

abbrev blockKeys (c : Dev nD) (t : Fin cfg0.N) : FVec Ideal S16x128x128 .bf16 := iblk m c 4 t

theorem moved_at (c : Dev nD) (t : Fin cfg0.N) (r : Fin 256) (k : Fin 2048) :
    (blockX m c t (ix2 r k) : EReal) * blockScale m c t (ix3 0 0 k) + blockShift m c t (ix3 0 0 k)
      = moved m c (ix2 ⟨t.val * 256 + r.val, by have := t_lt t; omega⟩ k) := by
  have e : (t.val * 256 + r.val) / 4096 = t.val / 16 := by omega
  unfold moved
  unfold blockX blockScale blockShift
  rw [rows_at, scale_at, shift_at, Ref.tokens_at]
  simp only [e]

/-- The scores of a half, read along a token, are the reference's. -/
theorem col_half (c : Dev nD) (t : Fin cfg0.N) (l : Fin 256) (h : Fin 8) (p : Fin 2) :
    col (half (queries (iblk m c 0 t) (iblk m c 1 t) (iblk m c 2 t) (iblk m c 3 t)) (iblk m c 4 t) (⟨h.val * 2 + p.val, by omega⟩ : Fin 16)) l
      = Ref.fibre (allScores m c) ⟨t.val * 256 + l.val, by have := t_lt t; omega⟩ h p := by
  funext a
  unfold Ref.fibre allScores
  rw [Ref.scores_at]
  show (∑ d : Fin 128, (blockKeys m c t (ix3 (⟨h.val * 2 + p.val, by omega⟩ : Fin 16) a d) : EReal)
    * queries (iblk m c 0 t) (iblk m c 1 t) (iblk m c 2 t) (iblk m c 3 t) (ix2 l (⟨(h.val * 2 + p.val) * 128 + d.val, by omega⟩ : Fin 2048))) = _
  refine Finset.sum_congr rfl fun d _ => ?_
  rw [show blockKeys m c t (ix3 (⟨h.val * 2 + p.val, by omega⟩ : Fin 16) a d) = argKeys m c (ix4 h p a d) from keysBlock_at m c t h p a d,
    queries_at, Ref.questions_at]
  refine congrArg (fun v : EReal => (argKeys m c (ix4 h p a d) : EReal) * v) (Finset.sum_congr rfl fun k _ => ?_)
  rw [weight_at]
  exact congrArg (fun v : EReal => v * argWeight m c (ix2 k (⟨(h.val * 2 + p.val) * 128 + d.val, by omega⟩ : Fin 2048))) (moved_at m c t l k)

/-! ## What the points leave -/

section Columns

variable {a b : FVec Ideal S128x256 .f32} {l : Fin 256} {u v : Fin 128 → EReal} (ea : col a l = u) (eb : col b l = v)
  (hu : ∀ k, IsReal (u k)) (hv : ∀ k, IsReal (v k))

include ea eb hu hv in
theorem ids_of (i : Fin 16) : headIds a b (ix2 i l) = BitVec.ofNat 32 (expertOf u v (chosen (top u) (top v) i)) := by
  subst ea eb
  exact headIds_at a b l (fun k => (hu k).ne_bot) (fun k => (hv k).ne_bot) (sum_ne_bot hu hv) i

include ea eb hu hv in
theorem gates_of (i : Fin 16) : headGates a b (ix2 i l) = shareOf (fun k => pairSum (top u) (top v) (chosen (top u) (top v) k)) i := by
  subst ea eb
  exact headGates_at a b l (fun k => (hu k).ne_bot) (fun k => (hv k).ne_bot) (sum_ne_bot hu hv) i

end Columns

theorem moved_left (c : Dev nD) (t : Fin cfg0.N) (r : Fin 256) (n : Fin 2048) :
    ((dats m 0 c).after 5 t : Vec Ideal S256x2048 .bf16) (ix2 r n) = moved m c (ix2 ⟨t.val * 256 + r.val, by have := t_lt t; omega⟩ n) := by
  rw [after0_5]
  unfold out0_5
  rw [View.canon_unit_zero z2]
  simp only [View.ld_unit_zero (S := S256x2048) z2, View.ld_unit_zero (S := S1x1x2048) z3]
  exact (rows_kept _ _ _ r n).trans (moved_at m c t r n)

section Heads

variable (c : Dev nD) (hf : ∀ t h p k, IsReal (Ref.fibre (allScores m c) t h p k))

include hf in
theorem experts_left (t : Fin cfg0.N) (q : Fin 128) (l : Fin 256) :
    ((dats m 0 c).after 6 t : Vec Ideal S128x256 .i32) (ix2 q l)
      = Ref.experts (allScores m c) (ix2 ⟨t.val * 256 + l.val, by have := t_lt t; omega⟩ q) := by
  rw [after0_6, ids_left,
    Ref.experts_at (allScores m c) (fun t h p k => (hf t h p k).ne_bot) (fun t h p => sum_ne_bot (hf t h 0) (hf t h 1) p) _ q
      (⟨q.val / 16, by omega⟩ : Fin 8) (⟨q.val % 16, by omega⟩ : Fin 16) (by show q.val = q.val / 16 * 16 + q.val % 16; omega)]
  have e0 := col_half m c t l (⟨q.val / 16, by omega⟩ : Fin 8) 0
  have e1 := col_half m c t l (⟨q.val / 16, by omega⟩ : Fin 8) 1
  exact ids_of e0 e1 (hf _ _ _) (hf _ _ _) (⟨q.val % 16, by omega⟩ : Fin 16)

include hf in
theorem gates_kept (t : Fin cfg0.N) (q : Fin 128) (l : Fin 256) :
    ((dats m 0 c).after 7 t : Vec Ideal S128x256 .f32) (ix2 q l)
      = Ref.gates (allScores m c) (ix2 ⟨t.val * 256 + l.val, by have := t_lt t; omega⟩ q) := by
  rw [after0_7, gates_left,
    Ref.gates_at (allScores m c) (fun t h p k => (hf t h p k).ne_bot) (fun t h p => sum_ne_bot (hf t h 0) (hf t h 1) p) _ q
      (⟨q.val / 16, by omega⟩ : Fin 8) (⟨q.val % 16, by omega⟩ : Fin 16) (by show q.val = q.val / 16 * 16 + q.val % 16; omega)]
  have e0 := col_half m c t l (⟨q.val / 16, by omega⟩ : Fin 8) 0
  have e1 := col_half m c t l (⟨q.val / 16, by omega⟩ : Fin 8) 1
  exact gates_of e0 e1 (hf _ _ _) (hf _ _ _) (⟨q.val % 16, by omega⟩ : Fin 16)

/-! ## The arrays after the last point -/

/-- The expert numbers, a column for each token. -/
def expertColumns : IVec S128x16384 32 := fun j => Ref.experts (allScores m c) (ix2 (j 1) (j 0))

/-- The gates, a column for each token. -/
def gateColumns : FVec Ideal S128x16384 .f32 := fun j => Ref.gates (allScores m c) (ix2 (j 1) (j 0))

theorem final_tokens : (dats m 0 c).arrAt 5 cfg0.N = (moved m c : Vec Ideal S16384x2048 .bf16) := by
  refine (dats m 0 c).arrAt_eq_of_covers 5 _ (by decide +kernel) fun t _ (y : (⟨2, ![256, 2048]⟩ : Shape).Idx) => ?_
  have hi := idx_out t
  show (dats m 0 c).after 5 t y = moved m c ((win0_5.blk t).view.emb y)
  rw [eq_ix2 y]
  refine (moved_left m c t (y 0) (y 1)).trans (congrArg (moved m c) ?_)
  funext a
  apply Fin.ext
  match a with
  | ⟨0, _⟩ => show t.val * 256 + (y 0).val = win0_5.index t 0 * 256 + 1 * (y 0).val; rw [hi.1]; omega
  | ⟨1, _⟩ => show (y 1).val = win0_5.index t 1 * 2048 + 1 * (y 1).val; rw [hi.2.1]; omega

include hf in
theorem final_experts : (dats m 0 c).arrAt 6 cfg0.N = (expertColumns m c : Vec Ideal S128x16384 .i32) := by
  refine (dats m 0 c).arrAt_eq_of_covers 6 _ (by decide +kernel) fun t _ (y : (⟨2, ![128, 256]⟩ : Shape).Idx) => ?_
  have hi := idx_out t
  show (dats m 0 c).after 6 t y = expertColumns m c ((win0_6.blk t).view.emb y)
  rw [eq_ix2 y]
  refine (experts_left m c hf t (y 0) (y 1)).trans (congrArg (Ref.experts (allScores m c)) ?_)
  funext a
  apply Fin.ext
  match a with
  | ⟨0, _⟩ => show t.val * 256 + (y 1).val = win0_6.index t 1 * 256 + 1 * (y 1).val; rw [hi.2.2.2.1]; omega
  | ⟨1, _⟩ => show (y 0).val = win0_6.index t 0 * 128 + 1 * (y 0).val; rw [hi.2.2.1]; omega

include hf in
theorem final_gates : (dats m 0 c).arrAt 7 cfg0.N = (gateColumns m c : Vec Ideal S128x16384 .f32) := by
  refine (dats m 0 c).arrAt_eq_of_covers 7 _ (by decide +kernel) fun t _ (y : (⟨2, ![128, 256]⟩ : Shape).Idx) => ?_
  have hi := idx_out t
  show (dats m 0 c).after 7 t y = gateColumns m c ((win0_7.blk t).view.emb y)
  rw [eq_ix2 y]
  refine (gates_kept m c hf t (y 0) (y 1)).trans (congrArg (Ref.gates (allScores m c)) ?_)
  funext a
  apply Fin.ext
  match a with
  | ⟨0, _⟩ => show t.val * 256 + (y 1).val = win0_7.index t 1 * 256 + 1 * (y 1).val; rw [hi.2.2.2.2.2]; omega
  | ⟨1, _⟩ => show (y 0).val = win0_7.index t 0 * 128 + 1 * (y 0).val; rw [hi.2.2.2.2.1]; omega

end Heads

end Cert.Proof.Route

end
-- ==== Proof.Route.lean ====
/-
  The routing: each token, scaled and shifted, its experts in order of their scores, and the experts' gates.
-/
module

public import proofs.«01_k».proof.Proof.RouteLaunch
public import proofs.«01_k».proof.Proof.Gen.Kernel7.Frame

@[expose] public section

set_option maxRecDepth 16384

noncomputable section

open Idealize.ShloMosaic Idealize.ShloMosaic.TcCoe Idealize.SL.Sem

namespace Cert.Proof.Route

section Kernel

open Cert.Kernel7Ideal Cert.Kernel7Ideal.Gen

variable (m : (ℓ : Loc nD τ sig) → Buf (Elt Ideal) ℓ) (ρ : Dev nD → PrngReg)

theorem windows_apart : Function.Injective (Pipeline.arrRef spec0) := by decide

theorem turned_at {e : EltTy} (v : Vec Ideal S128x16384 e) (t : Fin 16384) (q : Fin 128) :
    transpose S16384x128 [1, 0] v transposes_S128x16384_S16384x128_1_0 (ix2 t q) = v (ix2 q t) := by
  refine transpose_apply _ _ _ _ (ix2 q t) fun b => ?_
  match b with
  | ⟨0, _⟩ => rfl
  | ⟨1, _⟩ => rfl

section Tail

variable (c : Dev nD) (hf : ∀ t h p k, IsReal (Ref.fibre (allScores m c) t h p k))

include hf in
/-- The expert numbers as the program returns them. -/
theorem tail_experts : Pipeline.afterTail₀ cfgs (dats m) 0 (V0 m) [hostOps1] c main_v4 = Ref.experts (allScores m c) := by
  have e : Pipeline.afterTail₀ cfgs (dats m) 0 (V0 m) [hostOps1] c main_v4
      = transpose S16384x128 [1, 0] (Pipeline.withArrays spec0 c (V0 m c) (fun w => (dats m 0 c).arrAt w cfg0.N) (Proc.devRef .tc main_v3_1) : Vec Ideal S128x16384 .i32)
        transposes_S128x16384_S16384x128_1_0 := by
    unfold Pipeline.afterTail₀
    show StableHlo.after hostOps1 _ (Proc.devRef .tc main_v4) = _
    after_results
  have w : (Pipeline.withArrays spec0 c (V0 m c) (fun w => (dats m 0 c).arrAt w cfg0.N) (Proc.devRef .tc main_v3_1) : Vec Ideal S128x16384 .i32)
      = expertColumns m c := (Pipeline.withArrays_arr spec0 windows_apart c (V0 m c) _ 6).trans (final_experts m c hf)
  rw [e, w]
  refine funext fun (i : (⟨2, ![16384, 128]⟩ : Shape).Idx) => ?_
  rw [eq_ix2 i]
  exact turned_at (e := .i32) (expertColumns m c) (i 0) (i 1)

include hf in
/-- The gates as the program returns them. -/
theorem tail_gates : Pipeline.afterTail₀ cfgs (dats m) 0 (V0 m) [hostOps1] c main_v5 = Ref.gates (allScores m c) := by
  have e : Pipeline.afterTail₀ cfgs (dats m) 0 (V0 m) [hostOps1] c main_v5
      = transpose S16384x128 [1, 0] (Pipeline.withArrays spec0 c (V0 m c) (fun w => (dats m 0 c).arrAt w cfg0.N) (Proc.devRef .tc main_v3_2) : Vec Ideal S128x16384 .f32)
        transposes_S128x16384_S16384x128_1_0 := by
    unfold Pipeline.afterTail₀
    show StableHlo.after hostOps1 _ (Proc.devRef .tc main_v5) = _
    after_results
  have w : (Pipeline.withArrays spec0 c (V0 m c) (fun w => (dats m 0 c).arrAt w cfg0.N) (Proc.devRef .tc main_v3_2) : Vec Ideal S128x16384 .f32)
      = gateColumns m c := (Pipeline.withArrays_arr spec0 windows_apart c (V0 m c) _ 7).trans (final_gates m c hf)
  rw [e, w]
  refine funext fun (i : (⟨2, ![16384, 128]⟩ : Shape).Idx) => ?_
  rw [eq_ix2 i]
  exact turned_at (e := .f32) (gateColumns m c) (i 0) (i 1)

end Tail

/-- Under the precondition every score is a real number. -/
theorem scores_finite (c : Dev nD) (h : Cert.Pre_Kernel7Ideal_finite m) : ∀ t h p k, IsReal (Ref.fibre (allScores m c) t h p k) := by
  obtain ⟨hx, hc, hh, hw, hs⟩ := finite_args m c h
  exact real_scores hx hc hh hw hs

end Kernel

/-! ## The claims -/

theorem frame_p : Cert.quiescent_Kernel7 := fun m ρ _ => Cert.Kernel7.Gen.frame m ρ

theorem frame_pi : Cert.quiescent_Kernel7Ideal := fun m ρ _ => Cert.Kernel7Ideal.Gen.frame m ρ

theorem frame_pi_finite : Cert.quiescent_Kernel7Ideal_pre_finite := fun m ρ _ => frame_pi m ρ trivial

theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_ri_finite : Cert.quiescent_Reference7Ideal_pre_finite := fun m ρ _ => frame_ri m ρ trivial

/-- Under the precondition both programs leave the moved tokens, and for each token the experts and their gates. -/
theorem algebraic : Cert.algebraic_Kernel7Ideal_Reference7Ideal_pre_finite := fun m ρ m' ρ' hpre hag =>
  ⟨fun c => moved m c, fun c => Ref.experts (allScores m c), fun c => Ref.gates (allScores m c),
    (θ_run Cert.Kernel7Ideal.defs _ _).mono (fun r h c =>
        ⟨((h.1 c).1 5).trans (final_tokens m c),
          ((h.1 c).2 Cert.Kernel7Ideal.main_v4 (Pipeline.mem_restRefs_of Cert.Kernel7Ideal.main_v4 (by decide) (by decide))).trans
            (tail_experts m c (scores_finite m c hpre)),
          ((h.1 c).2 Cert.Kernel7Ideal.main_v5 (Pipeline.mem_restRefs_of Cert.Kernel7Ideal.main_v5 (by decide) (by decide))).trans
            (tail_gates m c (scores_finite m c hpre)), h.2 c⟩)
      (θ_run_and (Cert.Kernel7Ideal.Gen.run_main m ρ) (Cert.Kernel7Ideal.Gen.unchanged m ρ)),
    (θ_run Cert.Reference7Ideal.defs _ _).mono (fun r h c => by
        have hs : Ref.argScores m' c = allScores m c := by
          unfold Ref.argScores allScores moved argX argScale argShift argWeight argKeys
          rw [(hag c).1, (hag c).2.1, (hag c).2.2.1, (hag c).2.2.2.1, (hag c).2.2.2.2]
        refine ⟨(h c).1.trans ?_, ((h c).2.1.trans (Ref.experts_eq m' c)).trans (congrArg Ref.experts hs),
          ((h c).2.2.1.trans (Ref.gates_eq m' c)).trans (congrArg Ref.gates hs), (h c).2.2.2⟩
        rw [(hag c).1, (hag c).2.1, (hag c).2.2.1]
        rfl)
      (Cert.Reference7Ideal.Value.run (F := Ideal) m' ρ')⟩

end Cert.Proof.Route

end
-- ==== Proof.lean ====
module

public import proofs.«01_k».proof.Defs
public import proofs.«01_k».proof.Proof.Expert
public import proofs.«01_k».proof.Proof.InProjA
public import proofs.«01_k».proof.Proof.InProjB
public import proofs.«01_k».proof.Proof.InProjC
public import proofs.«01_k».proof.Proof.InProjCBits
public import proofs.«01_k».proof.Proof.OutProj
public import proofs.«01_k».proof.Proof.Residual
public import proofs.«01_k».proof.Proof.Route
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_routed.Gen.facts, Cert.Pre_finite.Gen.facts,
    Expert.frame_p, Expert.frame_pi, Expert.frame_pi_routed, Expert.frame_ri, Expert.frame_ri_routed,
    InA.frame_p, InA.frame_pi, InA.frame_ri,
    InB.frame_p, InB.frame_pi, InB.frame_ri,
    InC.frame_p, InC.frame_pi, InC.frame_ri,
    Out.frame_p, Out.frame_pi, Out.frame_ri,
    Res.frame_p, Res.frame_pi, Res.frame_ri,
    Route.frame_p, Route.frame_pi, Route.frame_pi_finite, Route.frame_ri, Route.frame_ri_finite,
    Expert.preserves, Expert.algebraic,
    trivial, InA.algebraic, trivial, InB.algebraic, trivial, InC.algebraic, trivial, Out.algebraic, trivial, Res.algebraic,
    trivial, Route.algebraic⟩

end Cert.Proof

end
